-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .f32) (main_arg1 : FVec F S1024x1024 .f32) (main_arg2 : FVec F S1x1024x128x128 .f32) (main_arg3 : FVec F S1x1024x128x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x128x128 .f32 := Host.absf main_arg2
  let main_cst_2 : FVec F S_ .f32 := constant S_ .f32 0x7F800000#32
  let main_v10 : FVec F S1x1024x128x128 .f32 := broadcastInDim S1x1024x128x128 ![] bcast_S_S1x1024x128x128 main_cst_2
  let main_v11 : IVec S1x1024x128x128 1 := cmpf .olt main_v9 main_v10
  let main_c_3 : IVec S_ 1 := constantI S_ 1 1#1
  let main_v12 : IVec S_ 1 := (fun x v => Host.reduce IntOp.andi x v reducesTo_S1x1024x128x128_S_d0_1_2_3 h_S_) main_v11 main_c_3
  let main_v13 : IVec S_ 1 := andi main_v8 main_v12
  main_v13
-- ==== Pre_scores_finite_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x1024x128x128 .f32 := Host.absf main_arg2
  let main_cst_2 : FVec F S_ .f32 := constant S_ .f32 0x7F800000#32
  let main_v10 : FVec F S1x1024x128x128 .f32 := broadcastInDim S1x1024x128x128 ![] bcast_S_S1x1024x128x128 main_cst_2
  let main_v11 : IVec S1x1024x128x128 1 := cmpf .olt main_v9 main_v10
  let main_c_3 : IVec S_ 1 := constantI S_ 1 1#1
  let main_v12 : IVec S_ 1 := (fun x v => Host.reduce IntOp.andi x v reducesTo_S1x1024x128x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S256x1024 : Shape := ⟨2, ![256, 1024]⟩
abbrev S8x1024x128 : Shape := ⟨3, ![8, 1024, 128]⟩
abbrev S32x1024 : Shape := ⟨2, ![32, 1024]⟩
abbrev S3x256x512 : Shape := ⟨3, ![3, 256, 512]⟩
abbrev S256x512 : Shape := ⟨2, ![256, 512]⟩
abbrev S3x64x512 : Shape := ⟨3, ![3, 64, 512]⟩
abbrev S16 : Shape := ⟨1, ![16]⟩
abbrev S2x3 : Shape := ⟨2, ![2, 3]⟩
abbrev S4x3 : Shape := ⟨2, ![4, 3]⟩
abbrev S4x3x4 : Shape := ⟨3, ![4, 3, 4]⟩
abbrev S_ : Shape := ⟨0, ![]⟩
abbrev S1 : Shape := ⟨1, ![1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x32x1024 : Shape := ⟨3, ![1, 32, 1024]⟩
abbrev S32x128 : Shape := ⟨2, ![32, 128]⟩
abbrev S32 : Shape := ⟨1, ![32]⟩
abbrev S32x1 : Shape := ⟨2, ![32, 1]⟩
abbrev S1x256x1024 : Shape := ⟨3, ![1, 256, 1024]⟩
abbrev S256x128 : Shape := ⟨2, ![256, 128]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S1x1 : Shape := ⟨2, ![1, 1]⟩
abbrev S1x256x512 : Shape := ⟨3, ![1, 256, 512]⟩
abbrev S1x64x512 : Shape := ⟨3, ![1, 64, 512]⟩
abbrev S64x512 : Shape := ⟨2, ![64, 512]⟩
abbrev S1x32x512 : Shape := ⟨3, ![1, 32, 512]⟩
abbrev S32x512 : Shape := ⟨2, ![32, 512]⟩
abbrev S1x1x1 : Shape := ⟨3, ![1, 1, 1]⟩

abbrev nBuf : Space → Nat
  | .hbm => 6
  | .vmem => 20
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x128x128, .f32⟩
  | .hbm, ⟨3, _⟩ => ⟨S1x1024x128x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S256x1024, .f32⟩
  | .local _ .vmem, ⟨5, _⟩ => ⟨S256x1024, .f32⟩
  | .local _ .vmem, ⟨6, _⟩ => ⟨S8x1024x128, .f32⟩
  | .local _ .vmem, ⟨7, _⟩ => ⟨S8x1024x128, .f32⟩
  | .local _ .vmem, ⟨8, _⟩ => ⟨S1024x1024, .f32⟩
  | .local _ .vmem, ⟨9, _⟩ => ⟨S32x1024, .f32⟩
  | .local _ .vmem, ⟨10, _⟩ => ⟨S3x256x512, .f32⟩
  | .local _ .vmem, ⟨11, _⟩ => ⟨S3x256x512, .f32⟩
  | .local _ .vmem, ⟨12, _⟩ => ⟨S3x256x512, .f32⟩
  | .local _ .vmem, ⟨13, _⟩ => ⟨S3x256x512, .f32⟩
  | .local _ .vmem, ⟨14, _⟩ => ⟨S256x512, .f32⟩
  | .local _ .vmem, ⟨15, _⟩ => ⟨S256x512, .f32⟩
  | .local _ .vmem, ⟨16, _⟩ => ⟨S3x64x512, .f32⟩
  | .local _ .vmem, ⟨17, _⟩ => ⟨S3x64x512, .f32⟩
  | .local _ .vmem, ⟨18, _⟩ => ⟨S3x64x512, .f32⟩
  | .local _ .vmem, ⟨19, _⟩ => ⟨S3x64x512, .f32⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 164 → Bool
  | ⟨i, _⟩ => dmaSemScopedAt i

abbrev sig : RefSig :=
  (ofTc nBuf bufTy 1 164 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_scratch15 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_18 : BitVec 32 := 1#32
  let v38 : BitVec 32 := Scalar.muli v24 c1_i32_18
  let v39 : BitVec 32 := Scalar.addi c0_i32_19 v38
  v39.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_21 : BitVec 32 := 1#32
  let v40 : BitVec 32 := Scalar.muli v28 c1_i32_21
  let v41 : BitVec 32 := Scalar.addi c0_i32_22 v40
  v41.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_24 : BitVec 32 := 1#32
  let v42 : BitVec 32 := Scalar.muli v32 c1_i32_24
  let v43 : BitVec 32 := Scalar.addi c0_i32_25 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_27 : BitVec 32 := 1#32
  let v44 : BitVec 32 := Scalar.muli v36 c1_i32_27
  let v45 : BitVec 32 := Scalar.addi c0_i32_28 v44
  v45.toNat
def k0_off1 (d0 : Dev nD) (c0_i32_30 : BitVec 32) : Fin 4 → Nat :=
  let c0_i32_32 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v46 : BitVec 32 := Scalar.muli v2 c8_i32
  let v47 : BitVec 32 := Scalar.addi v46 c0_i32_30
  let c0_i32_38 : BitVec 32 := 0#32
  ![0, 0, v47.toNat, 0]
def k0_off2 (d0 : Dev nD) : Fin 3 → Nat :=
  let c0_349 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32 : BitVec 32 := 256#32
  let v411 : BitVec 32 := Scalar.muli v3 c256_i32
  let v412 : Index := Scalar.indexCast v411
  let c0_350 : Index := 0#32
  ![0, v412.toNat, 0]
def k0_off3 (d0 : Dev nD) : Fin 3 → Nat :=
  let c0_364 : Index := 0#32
  let c512_i32 : BitVec 32 := 512#32
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_356 : BitVec 32 := 256#32
  let v421 : BitVec 32 := Scalar.muli v3 c256_i32_356
  let c128_i32 : BitVec 32 := 128#32
  let v422 : BitVec 32 := Scalar.subi v421 c128_i32
  let v423 : BitVec 32 := Scalar.maxsi c0_i32_357 v422
  let v424 : BitVec 32 := Scalar.minsi c512_i32 v423
  let v446 : Index := Scalar.indexCast v424
  let c0_365 : Index := 0#32
  ![0, v446.toNat, 0]
def k0_off4 (d0 : Dev nD) : Fin 3 → Nat :=
  let c1_389 : Index := 1#32
  let c512_i32 : BitVec 32 := 512#32
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_356 : BitVec 32 := 256#32
  let v421 : BitVec 32 := Scalar.muli v3 c256_i32_356
  let c128_i32 : BitVec 32 := 128#32
  let v422 : BitVec 32 := Scalar.subi v421 c128_i32
  let v423 : BitVec 32 := Scalar.maxsi c0_i32_357 v422
  let v424 : BitVec 32 := Scalar.minsi c512_i32 v423
  let v491 : Index := Scalar.indexCast v424
  let c0_390 : Index := 0#32
  ![1, v491.toNat, 0]
def k0_off5 (d0 : Dev nD) : Fin 3 → Nat :=
  let c2_414 : Index := 2#32
  let c512_i32 : BitVec 32 := 512#32
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_356 : BitVec 32 := 256#32
  let v421 : BitVec 32 := Scalar.muli v3 c256_i32_356
  let c128_i32 : BitVec 32 := 128#32
  let v422 : BitVec 32 := Scalar.subi v421 c128_i32
  let v423 : BitVec 32 := Scalar.maxsi c0_i32_357 v422
  let v424 : BitVec 32 := Scalar.minsi c512_i32 v423
  let v536 : Index := Scalar.indexCast v424
  let c0_415 : Index := 0#32
  ![2, v536.toNat, 0]
def k0_off6 (d0 : Dev nD) : Fin 3 → Nat :=
  let c3_439 : Index := 3#32
  let c512_i32 : BitVec 32 := 512#32
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_356 : BitVec 32 := 256#32
  let v421 : BitVec 32 := Scalar.muli v3 c256_i32_356
  let c128_i32 : BitVec 32 := 128#32
  let v422 : BitVec 32 := Scalar.subi v421 c128_i32
  let v423 : BitVec 32 := Scalar.maxsi c0_i32_357 v422
  let v424 : BitVec 32 := Scalar.minsi c512_i32 v423
  let v581 : Index := Scalar.indexCast v424
  let c0_440 : Index := 0#32
  ![3, v581.toNat, 0]
def k0_off7 (d0 : Dev nD) : Fin 3 → Nat :=
  let c4_464 : Index := 4#32
  let c512_i32 : BitVec 32 := 512#32
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_356 : BitVec 32 := 256#32
  let v421 : BitVec 32 := Scalar.muli v3 c256_i32_356
  let c128_i32 : BitVec 32 := 128#32
  let v422 : BitVec 32 := Scalar.subi v421 c128_i32
  let v423 : BitVec 32 := Scalar.maxsi c0_i32_357 v422
  let v424 : BitVec 32 := Scalar.minsi c512_i32 v423
  let v626 : Index := Scalar.indexCast v424
  let c0_465 : Index := 0#32
  ![4, v626.toNat, 0]
def k0_off8 (d0 : Dev nD) : Fin 3 → Nat :=
  let c5_489 : Index := 5#32
  let c512_i32 : BitVec 32 := 512#32
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_356 : BitVec 32 := 256#32
  let v421 : BitVec 32 := Scalar.muli v3 c256_i32_356
  let c128_i32 : BitVec 32 := 128#32
  let v422 : BitVec 32 := Scalar.subi v421 c128_i32
  let v423 : BitVec 32 := Scalar.maxsi c0_i32_357 v422
  let v424 : BitVec 32 := Scalar.minsi c512_i32 v423
  let v671 : Index := Scalar.indexCast v424
  let c0_490 : Index := 0#32
  ![5, v671.toNat, 0]
def k0_off9 (d0 : Dev nD) : Fin 3 → Nat :=
  let c6_514 : Index := 6#32
  let c512_i32 : BitVec 32 := 512#32
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_356 : BitVec 32 := 256#32
  let v421 : BitVec 32 := Scalar.muli v3 c256_i32_356
  let c128_i32 : BitVec 32 := 128#32
  let v422 : BitVec 32 := Scalar.subi v421 c128_i32
  let v423 : BitVec 32 := Scalar.maxsi c0_i32_357 v422
  let v424 : BitVec 32 := Scalar.minsi c512_i32 v423
  let v716 : Index := Scalar.indexCast v424
  let c0_515 : Index := 0#32
  ![6, v716.toNat, 0]
def k0_off10 (d0 : Dev nD) : Fin 3 → Nat :=
  let c7_539 : Index := 7#32
  let c512_i32 : BitVec 32 := 512#32
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_356 : BitVec 32 := 256#32
  let v421 : BitVec 32 := Scalar.muli v3 c256_i32_356
  let c128_i32 : BitVec 32 := 128#32
  let v422 : BitVec 32 := Scalar.subi v421 c128_i32
  let v423 : BitVec 32 := Scalar.maxsi c0_i32_357 v422
  let v424 : BitVec 32 := Scalar.minsi c512_i32 v423
  let v761 : Index := Scalar.indexCast v424
  let c0_540 : Index := 0#32
  ![7, v761.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32 : BitVec 32 := 256#32
  let v411 : BitVec 32 := Scalar.muli v3 c256_i32
  let v809 : Index := Scalar.indexCast v411
  let c0_568 : Index := 0#32
  ![v809.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_571 : BitVec 32 := 4#32
  let v816 : BitVec 32 := Scalar.remsi v3 c4_i32_571
  let c256_i32_572 : BitVec 32 := 256#32
  let v817 : BitVec 32 := Scalar.muli v816 c256_i32_572
  let c0_i32_582 : BitVec 32 := 0#32
  ![v817.toNat, 0]
def k0_dev5 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_578 : BitVec 32 := 1#32
  let v818 : BitVec 32 := Scalar.muli v24 c1_i32_578
  let v819 : BitVec 32 := Scalar.addi c0_i32_579 v818
  v819.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_583 : BitVec 32 := 4#32
  let v827 : BitVec 32 := Scalar.remsi v3 c4_i32_583
  let c256_i32_584 : BitVec 32 := 256#32
  let v828 : BitVec 32 := Scalar.muli v827 c256_i32_584
  let c512_i32_594 : BitVec 32 := 512#32
  ![v828.toNat, 512]
def k0_dev6 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_590 : BitVec 32 := 1#32
  let v829 : BitVec 32 := Scalar.muli v28 c1_i32_590
  let v830 : BitVec 32 := Scalar.addi c0_i32_591 v829
  v830.toNat
def k0_off14 (d0 : Dev nD) (c3_i32_595 : BitVec 32) : Fin 3 → Nat :=
  let c0_598 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_597 : BitVec 32 := 256#32
  let v840 : BitVec 32 := Scalar.muli v839 c256_i32_597
  let v841 : Index := Scalar.indexCast v840
  let c0_599 : Index := 0#32
  ![0, v841.toNat, 0]
def k0_off15 (d0 : Dev nD) (c3_i32_595 : BitVec 32) : Fin 3 → Nat :=
  let c0_616 : Index := 0#32
  let c512_i32_608 : BitVec 32 := 512#32
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_605 : BitVec 32 := 256#32
  let v850 : BitVec 32 := Scalar.muli v839 c256_i32_605
  let c128_i32_606 : BitVec 32 := 128#32
  let v851 : BitVec 32 := Scalar.subi v850 c128_i32_606
  let v852 : BitVec 32 := Scalar.maxsi c0_i32_607 v851
  let v853 : BitVec 32 := Scalar.minsi c512_i32_608 v852
  let v875 : Index := Scalar.indexCast v853
  let c0_617 : Index := 0#32
  ![0, v875.toNat, 0]
def k0_off16 (d0 : Dev nD) (c3_i32_595 : BitVec 32) : Fin 3 → Nat :=
  let c1_642 : Index := 1#32
  let c512_i32_608 : BitVec 32 := 512#32
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_605 : BitVec 32 := 256#32
  let v850 : BitVec 32 := Scalar.muli v839 c256_i32_605
  let c128_i32_606 : BitVec 32 := 128#32
  let v851 : BitVec 32 := Scalar.subi v850 c128_i32_606
  let v852 : BitVec 32 := Scalar.maxsi c0_i32_607 v851
  let v853 : BitVec 32 := Scalar.minsi c512_i32_608 v852
  let v920 : Index := Scalar.indexCast v853
  let c0_643 : Index := 0#32
  ![1, v920.toNat, 0]
def k0_off17 (d0 : Dev nD) (c3_i32_595 : BitVec 32) : Fin 3 → Nat :=
  let c2_668 : Index := 2#32
  let c512_i32_608 : BitVec 32 := 512#32
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_605 : BitVec 32 := 256#32
  let v850 : BitVec 32 := Scalar.muli v839 c256_i32_605
  let c128_i32_606 : BitVec 32 := 128#32
  let v851 : BitVec 32 := Scalar.subi v850 c128_i32_606
  let v852 : BitVec 32 := Scalar.maxsi c0_i32_607 v851
  let v853 : BitVec 32 := Scalar.minsi c512_i32_608 v852
  let v965 : Index := Scalar.indexCast v853
  let c0_669 : Index := 0#32
  ![2, v965.toNat, 0]
def k0_off18 (d0 : Dev nD) (c3_i32_595 : BitVec 32) : Fin 3 → Nat :=
  let c3_694 : Index := 3#32
  let c512_i32_608 : BitVec 32 := 512#32
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_605 : BitVec 32 := 256#32
  let v850 : BitVec 32 := Scalar.muli v839 c256_i32_605
  let c128_i32_606 : BitVec 32 := 128#32
  let v851 : BitVec 32 := Scalar.subi v850 c128_i32_606
  let v852 : BitVec 32 := Scalar.maxsi c0_i32_607 v851
  let v853 : BitVec 32 := Scalar.minsi c512_i32_608 v852
  let v1010 : Index := Scalar.indexCast v853
  let c0_695 : Index := 0#32
  ![3, v1010.toNat, 0]
def k0_off19 (d0 : Dev nD) (c3_i32_595 : BitVec 32) : Fin 3 → Nat :=
  let c4_720 : Index := 4#32
  let c512_i32_608 : BitVec 32 := 512#32
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_605 : BitVec 32 := 256#32
  let v850 : BitVec 32 := Scalar.muli v839 c256_i32_605
  let c128_i32_606 : BitVec 32 := 128#32
  let v851 : BitVec 32 := Scalar.subi v850 c128_i32_606
  let v852 : BitVec 32 := Scalar.maxsi c0_i32_607 v851
  let v853 : BitVec 32 := Scalar.minsi c512_i32_608 v852
  let v1055 : Index := Scalar.indexCast v853
  let c0_721 : Index := 0#32
  ![4, v1055.toNat, 0]
def k0_off20 (d0 : Dev nD) (c3_i32_595 : BitVec 32) : Fin 3 → Nat :=
  let c5_746 : Index := 5#32
  let c512_i32_608 : BitVec 32 := 512#32
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_605 : BitVec 32 := 256#32
  let v850 : BitVec 32 := Scalar.muli v839 c256_i32_605
  let c128_i32_606 : BitVec 32 := 128#32
  let v851 : BitVec 32 := Scalar.subi v850 c128_i32_606
  let v852 : BitVec 32 := Scalar.maxsi c0_i32_607 v851
  let v853 : BitVec 32 := Scalar.minsi c512_i32_608 v852
  let v1100 : Index := Scalar.indexCast v853
  let c0_747 : Index := 0#32
  ![5, v1100.toNat, 0]
def k0_off21 (d0 : Dev nD) (c3_i32_595 : BitVec 32) : Fin 3 → Nat :=
  let c6_772 : Index := 6#32
  let c512_i32_608 : BitVec 32 := 512#32
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_605 : BitVec 32 := 256#32
  let v850 : BitVec 32 := Scalar.muli v839 c256_i32_605
  let c128_i32_606 : BitVec 32 := 128#32
  let v851 : BitVec 32 := Scalar.subi v850 c128_i32_606
  let v852 : BitVec 32 := Scalar.maxsi c0_i32_607 v851
  let v853 : BitVec 32 := Scalar.minsi c512_i32_608 v852
  let v1145 : Index := Scalar.indexCast v853
  let c0_773 : Index := 0#32
  ![6, v1145.toNat, 0]
def k0_off22 (d0 : Dev nD) (c3_i32_595 : BitVec 32) : Fin 3 → Nat :=
  let c7_798 : Index := 7#32
  let c512_i32_608 : BitVec 32 := 512#32
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_605 : BitVec 32 := 256#32
  let v850 : BitVec 32 := Scalar.muli v839 c256_i32_605
  let c128_i32_606 : BitVec 32 := 128#32
  let v851 : BitVec 32 := Scalar.subi v850 c128_i32_606
  let v852 : BitVec 32 := Scalar.maxsi c0_i32_607 v851
  let v853 : BitVec 32 := Scalar.minsi c512_i32_608 v852
  let v1190 : Index := Scalar.indexCast v853
  let c0_799 : Index := 0#32
  ![7, v1190.toNat, 0]
def k0_off23 (d0 : Dev nD) (c3_i32_595 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v838 : BitVec 32 := Scalar.addi v3 c3_i32_595
  let c4_i32_596 : BitVec 32 := 4#32
  let v839 : BitVec 32 := Scalar.remsi v838 c4_i32_596
  let c256_i32_597 : BitVec 32 := 256#32
  let v840 : BitVec 32 := Scalar.muli v839 c256_i32_597
  let v1238 : Index := Scalar.indexCast v840
  let c0_827 : Index := 0#32
  ![v1238.toNat, 0]
def k0_off24 (d0 : Dev nD) (c3_i32_852 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1259 : BitVec 32 := Scalar.addi v3 c3_i32_852
  let c4_i32_853 : BitVec 32 := 4#32
  let v1260 : BitVec 32 := Scalar.remsi v1259 c4_i32_853
  let c256_i32_854 : BitVec 32 := 256#32
  let v1261 : BitVec 32 := Scalar.muli v1260 c256_i32_854
  let v1262 : Index := Scalar.indexCast v1261
  let c0_855 : Index := 0#32
  ![v1262.toNat, 0]
def k0_dev7 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_865 : BitVec 32 := 1#32
  let v1268 : BitVec 32 := Scalar.muli v24 c1_i32_865
  let v1269 : BitVec 32 := Scalar.addi c0_i32_866 v1268
  v1269.toNat
def k0_off25 (d0 : Dev nD) (c1_i32_1128 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1699 : BitVec 32 := Scalar.addi v3 c1_i32_1128
  let c4_i32_1129 : BitVec 32 := 4#32
  let v1700 : BitVec 32 := Scalar.remsi v1699 c4_i32_1129
  let c256_i32_1130 : BitVec 32 := 256#32
  let v1701 : BitVec 32 := Scalar.muli v1700 c256_i32_1130
  let v1702 : Index := Scalar.indexCast v1701
  let c512_1131 : Index := 512#32
  ![v1702.toNat, 512]
def k0_dev8 (d0 : Dev nD) : Nat :=
  let c0_i32_1142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_1141 : BitVec 32 := 1#32
  let v1708 : BitVec 32 := Scalar.muli v28 c1_i32_1141
  let v1709 : BitVec 32 := Scalar.addi c0_i32_1142 v1708
  v1709.toNat
def k0_dev9 (d0 : Dev nD) : Nat :=
  let c0_i32_1422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_1421 : BitVec 32 := 1#32
  let v2150 : BitVec 32 := Scalar.muli v24 c1_i32_1421
  let v2151 : BitVec 32 := Scalar.addi c0_i32_1422 v2150
  v2151.toNat
def k0_dev10 (d0 : Dev nD) : Nat :=
  let c0_i32_1467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_1466 : BitVec 32 := 1#32
  let v2185 : BitVec 32 := Scalar.muli v28 c1_i32_1466
  let v2186 : BitVec 32 := Scalar.addi c0_i32_1467 v2185
  v2186.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_1536 : BitVec 32 := 4#32
  let v2245 : BitVec 32 := Scalar.remsi v20 c4_i32_1536
  let c64_i32 : BitVec 32 := 64#32
  let v2246 : BitVec 32 := Scalar.muli v2245 c64_i32
  let c0_i32_1548 : BitVec 32 := 0#32
  ![v2246.toNat, 0]
def k0_dev11 (d0 : Dev nD) : Nat :=
  let c0_i32_1545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_1544 : BitVec 32 := 1#32
  let v2249 : BitVec 32 := Scalar.muli v32 c1_i32_1544
  let v2250 : BitVec 32 := Scalar.addi c0_i32_1545 v2249
  v2250.toNat
def k0_dev12 (d0 : Dev nD) : Nat :=
  let c0_i32_1555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_1554 : BitVec 32 := 1#32
  let v2258 : BitVec 32 := Scalar.muli v36 c1_i32_1554
  let v2259 : BitVec 32 := Scalar.addi c0_i32_1555 v2258
  v2259.toNat
def k0_off27 (d0 : Dev nD) (c1_i32_1582 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_1581 : BitVec 32 := 4#32
  let v2281 : BitVec 32 := Scalar.addi v20 c4_i32_1581
  let v2282 : BitVec 32 := Scalar.subi v2281 c1_i32_1582
  let c4_i32_1583 : BitVec 32 := 4#32
  let v2283 : BitVec 32 := Scalar.remsi v2282 c4_i32_1583
  let c64_i32_1584 : BitVec 32 := 64#32
  let v2284 : BitVec 32 := Scalar.muli v2283 c64_i32_1584
  let v2285 : Index := Scalar.indexCast v2284
  let c0_1585 : Index := 0#32
  ![v2285.toNat, 0]
def k0_off28 (d0 : Dev nD) (c1_i32_1611 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v2305 : BitVec 32 := Scalar.addi v20 c1_i32_1611
  let c4_i32_1612 : BitVec 32 := 4#32
  let v2306 : BitVec 32 := Scalar.remsi v2305 c4_i32_1612
  let c64_i32_1613 : BitVec 32 := 64#32
  let v2307 : BitVec 32 := Scalar.muli v2306 c64_i32_1613
  let v2308 : Index := Scalar.indexCast v2307
  let c0_1614 : Index := 0#32
  ![v2308.toNat, 0]
def k0_dev13 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_1624 : BitVec 32 := 1#32
  let v2314 : BitVec 32 := Scalar.muli v32 c1_i32_1624
  let v2315 : BitVec 32 := Scalar.addi c0_i32_1625 v2314
  v2315.toNat
def k0_dev14 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_1636 : BitVec 32 := 1#32
  let v2324 : BitVec 32 := Scalar.muli v36 c1_i32_1636
  let v2325 : BitVec 32 := Scalar.addi c0_i32_1637 v2324
  v2325.toNat
def k0_dev15 (d0 : Dev nD) : Nat :=
  let c0_i32_1716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_1715 : BitVec 32 := 1#32
  let v2385 : BitVec 32 := Scalar.muli v32 c1_i32_1715
  let v2386 : BitVec 32 := Scalar.addi c0_i32_1716 v2385
  v2386.toNat
def k0_dev16 (d0 : Dev nD) : Nat :=
  let c0_i32_1728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_1727 : BitVec 32 := 1#32
  let v2395 : BitVec 32 := Scalar.muli v36 c1_i32_1727
  let v2396 : BitVec 32 := Scalar.addi c0_i32_1728 v2395
  v2396.toNat
def k0_off29 (d0 : Dev nD) : Fin 3 → Nat :=
  let c0_1811 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1805 : BitVec 32 := 1#32
  let v2468 : BitVec 32 := Scalar.addi v3 c1_i32_1805
  let c4_i32_1806 : BitVec 32 := 4#32
  let v2469 : BitVec 32 := Scalar.remsi v2468 c4_i32_1806
  let c256_i32_1807 : BitVec 32 := 256#32
  let v2470 : BitVec 32 := Scalar.muli v2469 c256_i32_1807
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_1808 : BitVec 32 := 1#32
  let v2471 : BitVec 32 := Scalar.addi v20 c1_i32_1808
  let c4_i32_1809 : BitVec 32 := 4#32
  let v2472 : BitVec 32 := Scalar.remsi v2471 c4_i32_1809
  let c64_i32_1810 : BitVec 32 := 64#32
  let v2473 : BitVec 32 := Scalar.muli v2472 c64_i32_1810
  let v2474 : BitVec 32 := Scalar.addi v2470 v2473
  let v2475 : Index := Scalar.indexCast v2474
  let c0_1812 : Index := 0#32
  ![0, v2475.toNat, 0]
def k0_off30 (d0 : Dev nD) : Fin 3 → Nat :=
  let c0_1823 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_1817 : BitVec 32 := 3#32
  let v2484 : BitVec 32 := Scalar.addi v3 c3_i32_1817
  let c4_i32_1818 : BitVec 32 := 4#32
  let v2485 : BitVec 32 := Scalar.remsi v2484 c4_i32_1818
  let c256_i32_1819 : BitVec 32 := 256#32
  let v2486 : BitVec 32 := Scalar.muli v2485 c256_i32_1819
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_1820 : BitVec 32 := 3#32
  let v2487 : BitVec 32 := Scalar.addi v20 c3_i32_1820
  let c4_i32_1821 : BitVec 32 := 4#32
  let v2488 : BitVec 32 := Scalar.remsi v2487 c4_i32_1821
  let c64_i32_1822 : BitVec 32 := 64#32
  let v2489 : BitVec 32 := Scalar.muli v2488 c64_i32_1822
  let v2490 : BitVec 32 := Scalar.addi v2486 v2489
  let v2491 : Index := Scalar.indexCast v2490
  let c512_1824 : Index := 512#32
  ![0, v2491.toNat, 512]
def k0_off31 (d0 : Dev nD) (c0_i32_1827 : BitVec 32) : Fin 3 → Nat :=
  let c0_i32_1858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1825 : BitVec 32 := 1#32
  let v2495 : BitVec 32 := Scalar.addi v3 c1_i32_1825
  let c4_i32_1828 : BitVec 32 := 4#32
  let v2498 : BitVec 32 := Scalar.remsi v2495 c4_i32_1828
  let c256_i32_1829 : BitVec 32 := 256#32
  let v2499 : BitVec 32 := Scalar.muli v2498 c256_i32_1829
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c5_i32_1826 : BitVec 32 := 5#32
  let v2496 : BitVec 32 := Scalar.addi v20 c5_i32_1826
  let v2497 : BitVec 32 := Scalar.subi v2496 c0_i32_1827
  let c4_i32_1830 : BitVec 32 := 4#32
  let v2500 : BitVec 32 := Scalar.remsi v2497 c4_i32_1830
  let c64_i32_1831 : BitVec 32 := 64#32
  let v2501 : BitVec 32 := Scalar.muli v2500 c64_i32_1831
  let v2502 : BitVec 32 := Scalar.addi v2499 v2501
  let c0_i32_1832 : BitVec 32 := 0#32
  let v2503 : BitVec 32 := Scalar.addi v2502 c0_i32_1832
  let c0_i32_1865 : BitVec 32 := 0#32
  ![0, v2503.toNat, 0]
def k0_dev17 (d0 : Dev nD) : Nat :=
  let c0_i32_1864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_1863 : BitVec 32 := 1#32
  let v2531 : BitVec 32 := Scalar.muli v32 c1_i32_1863
  let v2532 : BitVec 32 := Scalar.addi c0_i32_1864 v2531
  v2532.toNat
def k0_off32 (d0 : Dev nD) (c0_i32_1835 : BitVec 32) : Fin 3 → Nat :=
  let c0_i32_1868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_1833 : BitVec 32 := 3#32
  let v2504 : BitVec 32 := Scalar.addi v3 c3_i32_1833
  let c4_i32_1836 : BitVec 32 := 4#32
  let v2507 : BitVec 32 := Scalar.remsi v2504 c4_i32_1836
  let c256_i32_1837 : BitVec 32 := 256#32
  let v2508 : BitVec 32 := Scalar.muli v2507 c256_i32_1837
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_1834 : BitVec 32 := 3#32
  let v2505 : BitVec 32 := Scalar.addi v20 c3_i32_1834
  let v2506 : BitVec 32 := Scalar.addi v2505 c0_i32_1835
  let c4_i32_1838 : BitVec 32 := 4#32
  let v2509 : BitVec 32 := Scalar.remsi v2506 c4_i32_1838
  let c64_i32_1839 : BitVec 32 := 64#32
  let v2510 : BitVec 32 := Scalar.muli v2509 c64_i32_1839
  let v2511 : BitVec 32 := Scalar.addi v2508 v2510
  let c0_i32_1840 : BitVec 32 := 0#32
  let v2512 : BitVec 32 := Scalar.addi v2511 c0_i32_1840
  let c512_i32_1875 : BitVec 32 := 512#32
  ![0, v2512.toNat, 512]
def k0_dev18 (d0 : Dev nD) : Nat :=
  let c0_i32_1874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_1873 : BitVec 32 := 1#32
  let v2541 : BitVec 32 := Scalar.muli v36 c1_i32_1873
  let v2542 : BitVec 32 := Scalar.addi c0_i32_1874 v2541
  v2542.toNat
def k0_off33 (d0 : Dev nD) (c0_i32_1842 : BitVec 32) : Fin 3 → Nat :=
  let c0_i32_1878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c5_i32_1841 : BitVec 32 := 5#32
  let v2513 : BitVec 32 := Scalar.addi v3 c5_i32_1841
  let v2514 : BitVec 32 := Scalar.subi v2513 c0_i32_1842
  let c4_i32_1844 : BitVec 32 := 4#32
  let v2516 : BitVec 32 := Scalar.remsi v2514 c4_i32_1844
  let c256_i32_1845 : BitVec 32 := 256#32
  let v2517 : BitVec 32 := Scalar.muli v2516 c256_i32_1845
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_1843 : BitVec 32 := 1#32
  let v2515 : BitVec 32 := Scalar.addi v20 c1_i32_1843
  let c4_i32_1846 : BitVec 32 := 4#32
  let v2518 : BitVec 32 := Scalar.remsi v2515 c4_i32_1846
  let c64_i32_1847 : BitVec 32 := 64#32
  let v2519 : BitVec 32 := Scalar.muli v2518 c64_i32_1847
  let v2520 : BitVec 32 := Scalar.addi v2517 v2519
  let c32_i32_1848 : BitVec 32 := 32#32
  let v2521 : BitVec 32 := Scalar.addi v2520 c32_i32_1848
  let c0_i32_1885 : BitVec 32 := 0#32
  ![0, v2521.toNat, 0]
def k0_dev19 (d0 : Dev nD) : Nat :=
  let c0_i32_1884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_1883 : BitVec 32 := 1#32
  let v2551 : BitVec 32 := Scalar.muli v24 c1_i32_1883
  let v2552 : BitVec 32 := Scalar.addi c0_i32_1884 v2551
  v2552.toNat
def k0_off34 (d0 : Dev nD) (c0_i32_1850 : BitVec 32) : Fin 3 → Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_1849 : BitVec 32 := 3#32
  let v2522 : BitVec 32 := Scalar.addi v3 c3_i32_1849
  let v2523 : BitVec 32 := Scalar.addi v2522 c0_i32_1850
  let c4_i32_1852 : BitVec 32 := 4#32
  let v2525 : BitVec 32 := Scalar.remsi v2523 c4_i32_1852
  let c256_i32_1853 : BitVec 32 := 256#32
  let v2526 : BitVec 32 := Scalar.muli v2525 c256_i32_1853
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_1851 : BitVec 32 := 3#32
  let v2524 : BitVec 32 := Scalar.addi v20 c3_i32_1851
  let c4_i32_1854 : BitVec 32 := 4#32
  let v2527 : BitVec 32 := Scalar.remsi v2524 c4_i32_1854
  let c64_i32_1855 : BitVec 32 := 64#32
  let v2528 : BitVec 32 := Scalar.muli v2527 c64_i32_1855
  let v2529 : BitVec 32 := Scalar.addi v2526 v2528
  let c32_i32_1856 : BitVec 32 := 32#32
  let v2530 : BitVec 32 := Scalar.addi v2529 c32_i32_1856
  let c512_i32_1895 : BitVec 32 := 512#32
  ![0, v2530.toNat, 512]
def k0_dev20 (d0 : Dev nD) : Nat :=
  let c0_i32_1894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_1893 : BitVec 32 := 1#32
  let v2561 : BitVec 32 := Scalar.muli v28 c1_i32_1893
  let v2562 : BitVec 32 := Scalar.addi c0_i32_1894 v2561
  v2562.toNat
def k0_dev21 (d0 : Dev nD) : Nat :=
  let c0_i32_2012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_2011 : BitVec 32 := 1#32
  let v2663 : BitVec 32 := Scalar.muli v32 c1_i32_2011
  let v2664 : BitVec 32 := Scalar.addi c0_i32_2012 v2663
  v2664.toNat
def k0_dev22 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_2021 : BitVec 32 := 1#32
  let v2673 : BitVec 32 := Scalar.muli v36 c1_i32_2021
  let v2674 : BitVec 32 := Scalar.addi c0_i32_2022 v2673
  v2674.toNat
def k0_dev23 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_2031 : BitVec 32 := 1#32
  let v2683 : BitVec 32 := Scalar.muli v24 c1_i32_2031
  let v2684 : BitVec 32 := Scalar.addi c0_i32_2032 v2683
  v2684.toNat
def k0_dev24 (d0 : Dev nD) : Nat :=
  let c0_i32_2042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_2041 : BitVec 32 := 1#32
  let v2693 : BitVec 32 := Scalar.muli v28 c1_i32_2041
  let v2694 : BitVec 32 := Scalar.addi c0_i32_2042 v2693
  v2694.toNat
def k0_dev25 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_2159 : BitVec 32 := 1#32
  let v2795 : BitVec 32 := Scalar.muli v32 c1_i32_2159
  let v2796 : BitVec 32 := Scalar.addi c0_i32_2160 v2795
  v2796.toNat
def k0_dev26 (d0 : Dev nD) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_2169 : BitVec 32 := 1#32
  let v2805 : BitVec 32 := Scalar.muli v36 c1_i32_2169
  let v2806 : BitVec 32 := Scalar.addi c0_i32_2170 v2805
  v2806.toNat
def k0_dev27 (d0 : Dev nD) : Nat :=
  let c0_i32_2180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_2179 : BitVec 32 := 1#32
  let v2815 : BitVec 32 := Scalar.muli v24 c1_i32_2179
  let v2816 : BitVec 32 := Scalar.addi c0_i32_2180 v2815
  v2816.toNat
def k0_dev28 (d0 : Dev nD) : Nat :=
  let c0_i32_2190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_2189 : BitVec 32 := 1#32
  let v2825 : BitVec 32 := Scalar.muli v28 c1_i32_2189
  let v2826 : BitVec 32 := Scalar.addi c0_i32_2190 v2825
  v2826.toNat
def k0_off35 (d0 : Dev nD) (c0_i32_2270 : BitVec 32) (c0_i32_2273 : BitVec 32) : Fin 3 → Nat :=
  let c0_i32_2302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c5_i32_2269 : BitVec 32 := 5#32
  let v2891 : BitVec 32 := Scalar.addi v3 c5_i32_2269
  let v2892 : BitVec 32 := Scalar.subi v2891 c0_i32_2270
  let c4_i32_2271 : BitVec 32 := 4#32
  let v2893 : BitVec 32 := Scalar.remsi v2892 c4_i32_2271
  let c256_i32_2272 : BitVec 32 := 256#32
  let v2894 : BitVec 32 := Scalar.muli v2893 c256_i32_2272
  let c4_i32_2274 : BitVec 32 := 4#32
  let v2895 : BitVec 32 := Scalar.remsi c0_i32_2273 c4_i32_2274
  let c64_i32_2275 : BitVec 32 := 64#32
  let v2896 : BitVec 32 := Scalar.muli v2895 c64_i32_2275
  let v2897 : BitVec 32 := Scalar.addi v2894 v2896
  let c0_i32_2276 : BitVec 32 := 0#32
  let v2898 : BitVec 32 := Scalar.addi v2897 c0_i32_2276
  let c0_i32_2311 : BitVec 32 := 0#32
  ![0, v2898.toNat, 0]
def k0_dev29 (d0 : Dev nD) : Nat :=
  let c0_i32_2310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_2309 : BitVec 32 := 1#32
  let v2923 : BitVec 32 := Scalar.muli v24 c1_i32_2309
  let v2924 : BitVec 32 := Scalar.addi c0_i32_2310 v2923
  v2924.toNat
def k0_off36 (d0 : Dev nD) (c0_i32_2278 : BitVec 32) (c0_i32_2281 : BitVec 32) : Fin 3 → Nat :=
  let c0_i32_2314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_2277 : BitVec 32 := 3#32
  let v2899 : BitVec 32 := Scalar.addi v3 c3_i32_2277
  let v2900 : BitVec 32 := Scalar.addi v2899 c0_i32_2278
  let c4_i32_2279 : BitVec 32 := 4#32
  let v2901 : BitVec 32 := Scalar.remsi v2900 c4_i32_2279
  let c256_i32_2280 : BitVec 32 := 256#32
  let v2902 : BitVec 32 := Scalar.muli v2901 c256_i32_2280
  let c4_i32_2282 : BitVec 32 := 4#32
  let v2903 : BitVec 32 := Scalar.remsi c0_i32_2281 c4_i32_2282
  let c64_i32_2283 : BitVec 32 := 64#32
  let v2904 : BitVec 32 := Scalar.muli v2903 c64_i32_2283
  let v2905 : BitVec 32 := Scalar.addi v2902 v2904
  let c0_i32_2284 : BitVec 32 := 0#32
  let v2906 : BitVec 32 := Scalar.addi v2905 c0_i32_2284
  let c512_i32_2323 : BitVec 32 := 512#32
  ![0, v2906.toNat, 512]
def k0_dev30 (d0 : Dev nD) : Nat :=
  let c0_i32_2322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_2321 : BitVec 32 := 1#32
  let v2933 : BitVec 32 := Scalar.muli v28 c1_i32_2321
  let v2934 : BitVec 32 := Scalar.addi c0_i32_2322 v2933
  v2934.toNat
def k0_off37 (d0 : Dev nD) (c0_i32_2287 : BitVec 32) (c0_i32_2286 : BitVec 32) : Fin 3 → Nat :=
  let c0_i32_2326 : BitVec 32 := 0#32
  let c4_i32_2288 : BitVec 32 := 4#32
  let v2909 : BitVec 32 := Scalar.remsi c0_i32_2287 c4_i32_2288
  let c256_i32_2289 : BitVec 32 := 256#32
  let v2910 : BitVec 32 := Scalar.muli v2909 c256_i32_2289
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c5_i32_2285 : BitVec 32 := 5#32
  let v2907 : BitVec 32 := Scalar.addi v20 c5_i32_2285
  let v2908 : BitVec 32 := Scalar.subi v2907 c0_i32_2286
  let c4_i32_2290 : BitVec 32 := 4#32
  let v2911 : BitVec 32 := Scalar.remsi v2908 c4_i32_2290
  let c64_i32_2291 : BitVec 32 := 64#32
  let v2912 : BitVec 32 := Scalar.muli v2911 c64_i32_2291
  let v2913 : BitVec 32 := Scalar.addi v2910 v2912
  let c32_i32_2292 : BitVec 32 := 32#32
  let v2914 : BitVec 32 := Scalar.addi v2913 c32_i32_2292
  let c0_i32_2335 : BitVec 32 := 0#32
  ![0, v2914.toNat, 0]
def k0_dev31 (d0 : Dev nD) : Nat :=
  let c0_i32_2334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_2333 : BitVec 32 := 1#32
  let v2943 : BitVec 32 := Scalar.muli v32 c1_i32_2333
  let v2944 : BitVec 32 := Scalar.addi c0_i32_2334 v2943
  v2944.toNat
def k0_off38 (d0 : Dev nD) (c0_i32_2295 : BitVec 32) (c0_i32_2294 : BitVec 32) : Fin 3 → Nat :=
  let c0_i32_2338 : BitVec 32 := 0#32
  let c4_i32_2296 : BitVec 32 := 4#32
  let v2917 : BitVec 32 := Scalar.remsi c0_i32_2295 c4_i32_2296
  let c256_i32_2297 : BitVec 32 := 256#32
  let v2918 : BitVec 32 := Scalar.muli v2917 c256_i32_2297
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_2293 : BitVec 32 := 3#32
  let v2915 : BitVec 32 := Scalar.addi v20 c3_i32_2293
  let v2916 : BitVec 32 := Scalar.addi v2915 c0_i32_2294
  let c4_i32_2298 : BitVec 32 := 4#32
  let v2919 : BitVec 32 := Scalar.remsi v2916 c4_i32_2298
  let c64_i32_2299 : BitVec 32 := 64#32
  let v2920 : BitVec 32 := Scalar.muli v2919 c64_i32_2299
  let v2921 : BitVec 32 := Scalar.addi v2918 v2920
  let c32_i32_2300 : BitVec 32 := 32#32
  let v2922 : BitVec 32 := Scalar.addi v2921 c32_i32_2300
  let c512_i32_2347 : BitVec 32 := 512#32
  ![0, v2922.toNat, 512]
def k0_dev32 (d0 : Dev nD) : Nat :=
  let c0_i32_2346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_2345 : BitVec 32 := 1#32
  let v2953 : BitVec 32 := Scalar.muli v36 c1_i32_2345
  let v2954 : BitVec 32 := Scalar.addi c0_i32_2346 v2953
  v2954.toNat
def k0_dev33 (d0 : Dev nD) : Nat :=
  let c0_i32_2390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_2389 : BitVec 32 := 1#32
  let v2995 : BitVec 32 := Scalar.muli v24 c1_i32_2389
  let v2996 : BitVec 32 := Scalar.addi c0_i32_2390 v2995
  v2996.toNat
def k0_dev34 (d0 : Dev nD) : Nat :=
  let c0_i32_2402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_2401 : BitVec 32 := 1#32
  let v3005 : BitVec 32 := Scalar.muli v28 c1_i32_2401
  let v3006 : BitVec 32 := Scalar.addi c0_i32_2402 v3005
  v3006.toNat
def k0_dev35 (d0 : Dev nD) : Nat :=
  let c0_i32_2414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_2413 : BitVec 32 := 1#32
  let v3015 : BitVec 32 := Scalar.muli v32 c1_i32_2413
  let v3016 : BitVec 32 := Scalar.addi c0_i32_2414 v3015
  v3016.toNat
def k0_dev36 (d0 : Dev nD) : Nat :=
  let c0_i32_2426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_2425 : BitVec 32 := 1#32
  let v3025 : BitVec 32 := Scalar.muli v36 c1_i32_2425
  let v3026 : BitVec 32 := Scalar.addi c0_i32_2426 v3025
  v3026.toNat
def k0_dev37 (d0 : Dev nD) : Nat :=
  let c0_i32_2470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_2469 : BitVec 32 := 1#32
  let v3067 : BitVec 32 := Scalar.muli v24 c1_i32_2469
  let v3068 : BitVec 32 := Scalar.addi c0_i32_2470 v3067
  v3068.toNat
def k0_dev38 (d0 : Dev nD) : Nat :=
  let c0_i32_2482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_2481 : BitVec 32 := 1#32
  let v3077 : BitVec 32 := Scalar.muli v28 c1_i32_2481
  let v3078 : BitVec 32 := Scalar.addi c0_i32_2482 v3077
  v3078.toNat
def k0_dev39 (d0 : Dev nD) : Nat :=
  let c0_i32_2494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_2493 : BitVec 32 := 1#32
  let v3087 : BitVec 32 := Scalar.muli v32 c1_i32_2493
  let v3088 : BitVec 32 := Scalar.addi c0_i32_2494 v3087
  v3088.toNat
def k0_dev40 (d0 : Dev nD) : Nat :=
  let c0_i32_2506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_2505 : BitVec 32 := 1#32
  let v3097 : BitVec 32 := Scalar.muli v36 c1_i32_2505
  let v3098 : BitVec 32 := Scalar.addi c0_i32_2506 v3097
  v3098.toNat
def k0_dev41 (d0 : Dev nD) : Nat :=
  let c0_i32_2550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_2549 : BitVec 32 := 1#32
  let v3139 : BitVec 32 := Scalar.muli v24 c1_i32_2549
  let v3140 : BitVec 32 := Scalar.addi c0_i32_2550 v3139
  v3140.toNat
def k0_dev42 (d0 : Dev nD) : Nat :=
  let c0_i32_2562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_2561 : BitVec 32 := 1#32
  let v3149 : BitVec 32 := Scalar.muli v28 c1_i32_2561
  let v3150 : BitVec 32 := Scalar.addi c0_i32_2562 v3149
  v3150.toNat
def k0_dev43 (d0 : Dev nD) : Nat :=
  let c0_i32_2574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_2573 : BitVec 32 := 1#32
  let v3159 : BitVec 32 := Scalar.muli v32 c1_i32_2573
  let v3160 : BitVec 32 := Scalar.addi c0_i32_2574 v3159
  v3160.toNat
def k0_dev44 (d0 : Dev nD) : Nat :=
  let c0_i32_2586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_2585 : BitVec 32 := 1#32
  let v3169 : BitVec 32 := Scalar.muli v36 c1_i32_2585
  let v3170 : BitVec 32 := Scalar.addi c0_i32_2586 v3169
  v3170.toNat
def k0_dev45 (d0 : Dev nD) : Nat :=
  let c0_i32_2998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_2997 : BitVec 32 := 1#32
  let v3435 : BitVec 32 := Scalar.muli v24 c1_i32_2997
  let v3436 : BitVec 32 := Scalar.addi c0_i32_2998 v3435
  v3436.toNat
def k0_dev46 (d0 : Dev nD) : Nat :=
  let c0_i32_3010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_3009 : BitVec 32 := 1#32
  let v3445 : BitVec 32 := Scalar.muli v28 c1_i32_3009
  let v3446 : BitVec 32 := Scalar.addi c0_i32_3010 v3445
  v3446.toNat
def k0_dev47 (d0 : Dev nD) : Nat :=
  let c0_i32_3022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_3021 : BitVec 32 := 1#32
  let v3455 : BitVec 32 := Scalar.muli v32 c1_i32_3021
  let v3456 : BitVec 32 := Scalar.addi c0_i32_3022 v3455
  v3456.toNat
def k0_dev48 (d0 : Dev nD) : Nat :=
  let c0_i32_3034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_3033 : BitVec 32 := 1#32
  let v3465 : BitVec 32 := Scalar.muli v36 c1_i32_3033
  let v3466 : BitVec 32 := Scalar.addi c0_i32_3034 v3465
  v3466.toNat
def k0_dev49 (d0 : Dev nD) : Nat :=
  let c0_i32_3078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_3077 : BitVec 32 := 1#32
  let v3507 : BitVec 32 := Scalar.muli v24 c1_i32_3077
  let v3508 : BitVec 32 := Scalar.addi c0_i32_3078 v3507
  v3508.toNat
def k0_dev50 (d0 : Dev nD) : Nat :=
  let c0_i32_3090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_3089 : BitVec 32 := 1#32
  let v3517 : BitVec 32 := Scalar.muli v28 c1_i32_3089
  let v3518 : BitVec 32 := Scalar.addi c0_i32_3090 v3517
  v3518.toNat
def k0_dev51 (d0 : Dev nD) : Nat :=
  let c0_i32_3102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_3101 : BitVec 32 := 1#32
  let v3527 : BitVec 32 := Scalar.muli v32 c1_i32_3101
  let v3528 : BitVec 32 := Scalar.addi c0_i32_3102 v3527
  v3528.toNat
def k0_dev52 (d0 : Dev nD) : Nat :=
  let c0_i32_3114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_3113 : BitVec 32 := 1#32
  let v3537 : BitVec 32 := Scalar.muli v36 c1_i32_3113
  let v3538 : BitVec 32 := Scalar.addi c0_i32_3114 v3537
  v3538.toNat
def k0_dev53 (d0 : Dev nD) : Nat :=
  let c0_i32_3158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_3157 : BitVec 32 := 1#32
  let v3579 : BitVec 32 := Scalar.muli v24 c1_i32_3157
  let v3580 : BitVec 32 := Scalar.addi c0_i32_3158 v3579
  v3580.toNat
def k0_dev54 (d0 : Dev nD) : Nat :=
  let c0_i32_3170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_3169 : BitVec 32 := 1#32
  let v3589 : BitVec 32 := Scalar.muli v28 c1_i32_3169
  let v3590 : BitVec 32 := Scalar.addi c0_i32_3170 v3589
  v3590.toNat
def k0_dev55 (d0 : Dev nD) : Nat :=
  let c0_i32_3182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_3181 : BitVec 32 := 1#32
  let v3599 : BitVec 32 := Scalar.muli v32 c1_i32_3181
  let v3600 : BitVec 32 := Scalar.addi c0_i32_3182 v3599
  v3600.toNat
def k0_dev56 (d0 : Dev nD) : Nat :=
  let c0_i32_3194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_3193 : BitVec 32 := 1#32
  let v3609 : BitVec 32 := Scalar.muli v36 c1_i32_3193
  let v3610 : BitVec 32 := Scalar.addi c0_i32_3194 v3609
  v3610.toNat
def k0_dev57 (d0 : Dev nD) : Nat :=
  let c0_i32_3238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_3237 : BitVec 32 := 1#32
  let v3651 : BitVec 32 := Scalar.muli v24 c1_i32_3237
  let v3652 : BitVec 32 := Scalar.addi c0_i32_3238 v3651
  v3652.toNat
def k0_dev58 (d0 : Dev nD) : Nat :=
  let c0_i32_3250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_3249 : BitVec 32 := 1#32
  let v3661 : BitVec 32 := Scalar.muli v28 c1_i32_3249
  let v3662 : BitVec 32 := Scalar.addi c0_i32_3250 v3661
  v3662.toNat
def k0_dev59 (d0 : Dev nD) : Nat :=
  let c0_i32_3262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_3261 : BitVec 32 := 1#32
  let v3671 : BitVec 32 := Scalar.muli v32 c1_i32_3261
  let v3672 : BitVec 32 := Scalar.addi c0_i32_3262 v3671
  v3672.toNat
def k0_dev60 (d0 : Dev nD) : Nat :=
  let c0_i32_3274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_3273 : BitVec 32 := 1#32
  let v3681 : BitVec 32 := Scalar.muli v36 c1_i32_3273
  let v3682 : BitVec 32 := Scalar.addi c0_i32_3274 v3681
  v3682.toNat
def k0_dev61 (d0 : Dev nD) : Nat :=
  let c0_i32_3686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_3685 : BitVec 32 := 1#32
  let v3947 : BitVec 32 := Scalar.muli v24 c1_i32_3685
  let v3948 : BitVec 32 := Scalar.addi c0_i32_3686 v3947
  v3948.toNat
def k0_dev62 (d0 : Dev nD) : Nat :=
  let c0_i32_3698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_3697 : BitVec 32 := 1#32
  let v3957 : BitVec 32 := Scalar.muli v28 c1_i32_3697
  let v3958 : BitVec 32 := Scalar.addi c0_i32_3698 v3957
  v3958.toNat
def k0_dev63 (d0 : Dev nD) : Nat :=
  let c0_i32_3710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_3709 : BitVec 32 := 1#32
  let v3967 : BitVec 32 := Scalar.muli v32 c1_i32_3709
  let v3968 : BitVec 32 := Scalar.addi c0_i32_3710 v3967
  v3968.toNat
def k0_dev64 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_3721 : BitVec 32 := 1#32
  let v3977 : BitVec 32 := Scalar.muli v36 c1_i32_3721
  let v3978 : BitVec 32 := Scalar.addi c0_i32_3722 v3977
  v3978.toNat
def k0_dev65 (d0 : Dev nD) : Nat :=
  let c0_i32_3766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_3765 : BitVec 32 := 1#32
  let v4019 : BitVec 32 := Scalar.muli v24 c1_i32_3765
  let v4020 : BitVec 32 := Scalar.addi c0_i32_3766 v4019
  v4020.toNat
def k0_dev66 (d0 : Dev nD) : Nat :=
  let c0_i32_3778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_3777 : BitVec 32 := 1#32
  let v4029 : BitVec 32 := Scalar.muli v28 c1_i32_3777
  let v4030 : BitVec 32 := Scalar.addi c0_i32_3778 v4029
  v4030.toNat
def k0_dev67 (d0 : Dev nD) : Nat :=
  let c0_i32_3790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_3789 : BitVec 32 := 1#32
  let v4039 : BitVec 32 := Scalar.muli v32 c1_i32_3789
  let v4040 : BitVec 32 := Scalar.addi c0_i32_3790 v4039
  v4040.toNat
def k0_dev68 (d0 : Dev nD) : Nat :=
  let c0_i32_3802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_3801 : BitVec 32 := 1#32
  let v4049 : BitVec 32 := Scalar.muli v36 c1_i32_3801
  let v4050 : BitVec 32 := Scalar.addi c0_i32_3802 v4049
  v4050.toNat
def k0_dev69 (d0 : Dev nD) : Nat :=
  let c0_i32_3846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_3845 : BitVec 32 := 1#32
  let v4091 : BitVec 32 := Scalar.muli v24 c1_i32_3845
  let v4092 : BitVec 32 := Scalar.addi c0_i32_3846 v4091
  v4092.toNat
def k0_dev70 (d0 : Dev nD) : Nat :=
  let c0_i32_3858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_3857 : BitVec 32 := 1#32
  let v4101 : BitVec 32 := Scalar.muli v28 c1_i32_3857
  let v4102 : BitVec 32 := Scalar.addi c0_i32_3858 v4101
  v4102.toNat
def k0_dev71 (d0 : Dev nD) : Nat :=
  let c0_i32_3870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_3869 : BitVec 32 := 1#32
  let v4111 : BitVec 32 := Scalar.muli v32 c1_i32_3869
  let v4112 : BitVec 32 := Scalar.addi c0_i32_3870 v4111
  v4112.toNat
def k0_dev72 (d0 : Dev nD) : Nat :=
  let c0_i32_3882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_3881 : BitVec 32 := 1#32
  let v4121 : BitVec 32 := Scalar.muli v36 c1_i32_3881
  let v4122 : BitVec 32 := Scalar.addi c0_i32_3882 v4121
  v4122.toNat
def k0_dev73 (d0 : Dev nD) : Nat :=
  let c0_i32_3926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_3925 : BitVec 32 := 1#32
  let v4163 : BitVec 32 := Scalar.muli v24 c1_i32_3925
  let v4164 : BitVec 32 := Scalar.addi c0_i32_3926 v4163
  v4164.toNat
def k0_dev74 (d0 : Dev nD) : Nat :=
  let c0_i32_3938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_3937 : BitVec 32 := 1#32
  let v4173 : BitVec 32 := Scalar.muli v28 c1_i32_3937
  let v4174 : BitVec 32 := Scalar.addi c0_i32_3938 v4173
  v4174.toNat
def k0_dev75 (d0 : Dev nD) : Nat :=
  let c0_i32_3950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v29 : BitVec 32 := Scalar.addi v20 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32 : BitVec 32 := 4#32
  let v3 : BitVec 32 := Scalar.remsi v2 c4_i32
  let v32 : BitVec 32 := Scalar.addi v31 v3
  let c1_i32_3949 : BitVec 32 := 1#32
  let v4183 : BitVec 32 := Scalar.muli v32 c1_i32_3949
  let v4184 : BitVec 32 := Scalar.addi c0_i32_3950 v4183
  v4184.toNat
def k0_dev76 (d0 : Dev nD) : Nat :=
  let c0_i32_3962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_14 : BitVec 32 := 3#32
  let v33 : BitVec 32 := Scalar.addi v20 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32 : BitVec 32 := 4#32
  let v3 : BitVec 32 := Scalar.remsi v2 c4_i32
  let v36 : BitVec 32 := Scalar.addi v35 v3
  let c1_i32_3961 : BitVec 32 := 1#32
  let v4193 : BitVec 32 := Scalar.muli v36 c1_i32_3961
  let v4194 : BitVec 32 := Scalar.addi c0_i32_3962 v4193
  v4194.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x128x128, .f32⟩
  | .hbm, ⟨3, _⟩ => ⟨S1x1024x128x128, .f32⟩
  | .hbm, ⟨4, _⟩ => ⟨S16384x1024, .f32⟩
  | .hbm, ⟨5, _⟩ => ⟨S1x1024x16384, .f32⟩
  | .hbm, ⟨6, _⟩ => ⟨S1x1024x128x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1x128x1024x1024, .f32⟩
  | .hbm, ⟨29, _⟩ => ⟨S_, .f32⟩
  | .hbm, ⟨30, _⟩ => ⟨S_, .f32⟩
  | .hbm, ⟨31, _⟩ => ⟨S1x128x1024x1024, .f32⟩
  | .hbm, ⟨32, _⟩ => ⟨S1x128x1024x1024, .f32⟩
  | .hbm, ⟨33, _⟩ => ⟨S1x1x1024x1024, .i1⟩
  | .hbm, ⟨34, _⟩ => ⟨S_, .f32⟩
  | .hbm, ⟨35, _⟩ => ⟨S_, .f32⟩
  | .hbm, ⟨36, _⟩ => ⟨S1x128x1024x1024, .i1⟩
  | .hbm, ⟨37, _⟩ => ⟨S1x128x1024x1024, .f32⟩
  | .hbm, ⟨38, _⟩ => ⟨S1x128x1024x1024, .f32⟩
  | .hbm, ⟨39, _⟩ => ⟨S_, .f32⟩
  | .hbm, ⟨40, _⟩ => ⟨S1x128x1024, .f32⟩
  | .hbm, ⟨41, _⟩ => ⟨S1x128x1024x1, .f32⟩
  | .hbm, ⟨42, _⟩ => ⟨S1x128x1024x1024, .f32⟩
  | .hbm, ⟨43, _⟩ => ⟨S1x128x1024x1024, .f32⟩
  | .hbm, ⟨44, _⟩ => ⟨S1x128x1024x1024, .f32⟩
  | .hbm, ⟨45, _⟩ => ⟨S_, .i1⟩
  | .hbm, ⟨46, _⟩ => ⟨S1024, .i1⟩
  | .hbm, ⟨47, _⟩ => ⟨S1x1x1024x1, .i1⟩
  | .hbm, ⟨48, _⟩ => ⟨S_, .f32⟩
  | .hbm, ⟨49, _⟩ => ⟨S1x128x1024, .f32⟩
  | .hbm, ⟨50, _⟩ => ⟨S1x128x1024x1, .f32⟩
  | .hbm, ⟨51, _⟩ => ⟨S_, .f32⟩
  | .hbm, ⟨52, _⟩ => ⟨S_, .f32⟩
  | .hbm, ⟨53, _⟩ => ⟨S1x128x1024x1, .i1⟩
  | .hbm, ⟨54, _⟩ => ⟨S1x128x1024x1, .f32⟩
  | .hbm, ⟨55, _⟩ => ⟨S1x128x1024x1, .f32⟩
  | .hbm, ⟨56, _⟩ => ⟨S1x128x1024x1024, .f32⟩
  | .hbm, ⟨57, _⟩ => ⟨S1x128x1024x1024, .f32⟩
  | .hbm, ⟨58, _⟩ => ⟨S1x1x1024x1, .i1⟩
  | .hbm, ⟨59, _⟩ => ⟨S_, .f32⟩
  | .hbm, ⟨60, _⟩ => ⟨S_, .f32⟩
  | .hbm, ⟨61, _⟩ => ⟨S1x128x1024x1024, .i1⟩
  | .hbm, ⟨62, _⟩ => ⟨S1x128x1024x1024, .f32⟩
  | .hbm, ⟨63, _⟩ => ⟨S1x128x1024x1024, .f32⟩
  | .hbm, ⟨64, _⟩ => ⟨S1x128x128x1024, .f32⟩
  | .hbm, ⟨65, _⟩ => ⟨S1x1024x128x128, .f32⟩
  | .hbm, ⟨66, _⟩ => ⟨S1x1024x16384, .f32⟩
  | .hbm, ⟨67, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Proof.Val.lean ====
module

public import proofs.«01_k».proof.Proof.Gen.KernelIdeal
public import proofs.«01_k».proof.Proof.Gen.KernelIdeal.Skeleton
public import proofs.«01_k».proof.Proof.Gen.KernelIdeal.Points

/-! The arithmetic of the kernel, one definition for each piece of work: the query projection of a chunk,
    the masked scores and the softmax of one head, the output projection, the first 32 rows. -/

@[expose] public section

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F] [Named F]

/-- A program of one device's core. -/
abbrev Kp (F : FTy → Type) [FloatOps F] [Named F] (α : Type) := Prog (TpuEff nD τ sig (Elt F) Λ₀ .tc) α

/-! ## The buffers -/

/-- The window of `x`. -/
abbrev xM : Memref sig .tc .vmem S1x1024x1024 .f32 := Memref.whole cc0_stg0_0
/-- The window of `Wq`. -/
abbrev wqM : Memref sig .tc .vmem S1024x1024 .f32 := Memref.whole cc0_stg1_0
/-- The window of `Wo`. -/
abbrev woM : Memref sig .tc .vmem S1024x1024 .f32 := Memref.whole cc0_stg2_0
/-- The window of the result. -/
abbrev outM : Memref sig .tc .vmem S1x1024x1024 .f32 := Memref.whole cc0_stg3_0
/-- A chunk's queries. -/
abbrev qM : Memref sig .tc .vmem S256x1024 .f32 := Memref.whole cc0_scratch0
/-- A chunk's heads, joined. -/
abbrev ctxM : Memref sig .tc .vmem S256x1024 .f32 := Memref.whole cc0_scratch1
/-- The device's keys. -/
abbrev kM : Memref sig .tc .vmem S8x1024x128 .f32 := Memref.whole cc0_scratch2
/-- The device's values. -/
abbrev vM : Memref sig .tc .vmem S8x1024x128 .f32 := Memref.whole cc0_scratch3
/-- The product with the output matrix. -/
abbrev partM : Memref sig .tc .vmem S1024x1024 .f32 := Memref.whole cc0_scratch4
/-- The first 32 rows' product with the output matrix. -/
abbrev pfixM : Memref sig .tc .vmem S32x1024 .f32 := Memref.whole cc0_scratch5
/-- What the first ring's direction `w` sends from (`w = 0` clockwise). -/
abbrev sendA : Fin 2 → Memref sig .tc .vmem S3x256x512 .f32 := fun | 0 => Memref.whole cc0_scratch6 | 1 => Memref.whole cc0_scratch8
/-- Where the first ring's copies land, by direction. -/
abbrev recvA : Fin 2 → Memref sig .tc .vmem S3x256x512 .f32 := fun | 0 => Memref.whole cc0_scratch7 | 1 => Memref.whole cc0_scratch9
/-- The first ring's sums, by direction. -/
abbrev stripM : Fin 2 → Memref sig .tc .vmem S256x512 .f32 := fun | 0 => Memref.whole cc0_scratch10 | 1 => Memref.whole cc0_scratch11
/-- What the second ring sends, by direction. -/
abbrev sendB : Fin 2 → Memref sig .tc .vmem S3x64x512 .f32 := fun | 0 => Memref.whole cc0_scratch12 | 1 => Memref.whole cc0_scratch14
/-- Where the second ring's copies land, by direction. -/
abbrev recvB : Fin 2 → Memref sig .tc .vmem S3x64x512 .f32 := fun | 0 => Memref.whole cc0_scratch13 | 1 => Memref.whole cc0_scratch15

/-! ## The arithmetic -/

/-- The query projection of a chunk. -/
def qOf (x : Vec F S1x256x1024 .f32) (wq : Vec F S1024x1024 .f32) : FVec F S256x1024 .f32 :=
  shapeCast S256x1024 (matmul dot_S256x1024_S1024x1024_S256x1024_1_0_0_1_n_n none
    (shapeCast S256x1024 x shapeCasts_S1x256x1024_S256x1024 : FVec F S256x1024 .f32)
    (shapeCast S1024x1024 wq shapeCasts_S1024x1024_S1024x1024 : FVec F S1024x1024 .f32)
    (constant S256x1024 .f32 0x00000000#32)) shapeCasts_S256x1024_S256x1024

/-- Where chunk word `cw`'s window of keys starts. -/
def winWord (cw : BitVec 32) : BitVec 32 :=
  Scalar.minsi 512#32 (Scalar.maxsi 0#32 (Scalar.subi (Scalar.muli cw 256#32) 128#32))

/-- Which of the window's keys a query row of the chunk attends to. -/
def maskW (cw : BitVec 32) : IVec S256x512 1 :=
  let kw : IVec S256x512 32 := addi (iota .tc S256x512 32 [1] iota_S256x512_d1_w32) (broadcast S256x512 (winWord cw))
  let qi : IVec S256x512 32 := addi (iota .tc S256x512 32 [0] iota_S256x512_d0_w32) (broadcast S256x512 (Scalar.muli cw 256#32))
  ori (cmpi .sle (absi (subi qi kw)) (broadcast S256x512 128#32)) (cmpi .slt kw (broadcast S256x512 32#32))

/-- Which of the first 128 keys it attends to besides. -/
def maskG (cw : BitVec 32) : IVec S256x128 1 :=
  andi (cmpi .slt (iota .tc S256x128 32 [1] iota_S256x128_d1_w32) (broadcast S256x128 32#32))
    (broadcast S256x128 (Scalar.cmpi .sgt (winWord cw) 0#32))

/-- The masked scores against the window. -/
def scoresW (mw : IVec S256x512 1) (q : Vec F S256x128 .f32) (kw : Vec F S1x512x128 .f32) : FVec F S256x512 .f32 :=
  select mw (mulf (matmul dot_S256x128_S512x128_S256x512_1_1_0_0_n_n none q
      (shapeCast S512x128 kw shapeCasts_S1x512x128_S512x128 : FVec F S512x128 .f32) (constant S256x512 .f32 0x00000000#32))
    (broadcast S256x512 (Named.named κ "scale" 0x3DB504F3#32 : F .f32)))
    (broadcast S256x512 (Named.named κ "mask" 0xCE6E6B28#32 : F .f32))

/-- The masked scores against the first keys. -/
def scoresG (mg : IVec S256x128 1) (q : Vec F S256x128 .f32) (kg : Vec F S1x128x128 .f32) : FVec F S256x128 .f32 :=
  select mg (mulf (matmul dot_S256x128_S128x128_S256x128_1_1_0_0_n_n none q
      (shapeCast S128x128 kg shapeCasts_S1x128x128_S128x128 : FVec F S128x128 .f32) (constant S256x128 .f32 0x00000000#32))
    (broadcast S256x128 (Named.named κ "scale" 0x3DB504F3#32 : F .f32)))
    (broadcast S256x128 (Named.named κ "mask" 0xCE6E6B28#32 : F .f32))

/-- The softmax over both sets of scores, applied to the values. -/
def attend (sw : FVec F S256x512 .f32) (sg : FVec F S256x128 .f32) (vw : Vec F S1x512x128 .f32) (vg : Vec F S1x128x128 .f32) :
    FVec F S256x128 .f32 :=
  let m : FVec F S256x1 .f32 := maximumf
    (shapeCast S256x1 (multiReduction .maximumf [1] S256 sw 0xFF800000#32 reduces_S256x512_S256 (.inl rfl) rfl : FVec F S256 .f32) shapeCasts_S256_S256x1)
    (shapeCast S256x1 (multiReduction .maximumf [1] S256 sg 0xFF800000#32 reduces_S256x128_S256 (.inl rfl) rfl : FVec F S256 .f32) shapeCasts_S256_S256x1)
  let ew : FVec F S256x512 .f32 := exp (subf sw (broadcastTo S256x512 m broadcasts_S256x1_S256x512))
  let eg : FVec F S256x128 .f32 := exp (subf sg (broadcastTo S256x128 m broadcasts_S256x1_S256x128))
  let den : FVec F S256x1 .f32 := addf
    (shapeCast S256x1 (multiReduction .add [1] S256 ew 0x00000000#32 reduces_S256x512_S256 (.inl rfl) rfl : FVec F S256 .f32) shapeCasts_S256_S256x1)
    (shapeCast S256x1 (multiReduction .add [1] S256 eg 0x00000000#32 reduces_S256x128_S256 (.inl rfl) rfl : FVec F S256 .f32) shapeCasts_S256_S256x1)
  let ctx : FVec F S256x128 .f32 := addf
    (matmul dot_S256x512_S512x128_S256x128_1_0_0_1_n_n none ew (shapeCast S512x128 vw shapeCasts_S1x512x128_S512x128 : FVec F S512x128 .f32) (constant S256x128 .f32 0x00000000#32))
    (matmul dot_S256x128_S128x128_S256x128_1_0_0_1_n_n none eg (shapeCast S128x128 vg shapeCasts_S1x128x128_S128x128 : FVec F S128x128 .f32) (constant S256x128 .f32 0x00000000#32))
  divf ctx (broadcastTo S256x128 den broadcasts_S256x1_S256x128)

/-- One head of a chunk. -/
def headOut (cw : BitVec 32) (q : Vec F S256x128 .f32) (kw : Vec F S1x512x128 .f32) (kg : Vec F S1x128x128 .f32)
    (vw : Vec F S1x512x128 .f32) (vg : Vec F S1x128x128 .f32) : FVec F S256x128 .f32 :=
  shapeCast S256x128 (attend (scoresW (maskW cw) q kw) (scoresG (maskG cw) q kg) vw vg) shapeCasts_S256x128_S256x128

/-- A chunk's rows of the device's partial result. -/
def partOf (ctx : Vec F S256x1024 .f32) (wo : Vec F S1024x1024 .f32) : FVec F S256x1024 .f32 :=
  shapeCast S256x1024 (matmul dot_S256x1024_S1024x1024_S256x1024_1_0_0_1_n_n none ctx
    (shapeCast S1024x1024 wo shapeCasts_S1024x1024_S1024x1024 : FVec F S1024x1024 .f32)
    (constant S256x1024 .f32 0x00000000#32)) shapeCasts_S256x1024_S256x1024

/-- The query projection of the first 32 rows. -/
def q32Of (x : Vec F S1x32x1024 .f32) (wq : Vec F S1024x1024 .f32) : FVec F S32x1024 .f32 :=
  matmul dot_S32x1024_S1024x1024_S32x1024_1_0_0_1_n_n none
    (shapeCast S32x1024 x shapeCasts_S1x32x1024_S32x1024 : FVec F S32x1024 .f32)
    (shapeCast S1024x1024 wq shapeCasts_S1024x1024_S1024x1024 : FVec F S1024x1024 .f32)
    (constant S32x1024 .f32 0x00000000#32)

/-- One head of the first 32 rows, which attend to every key. -/
def head32 (q : FVec F S32x128 .f32) (kf vf : Vec F S1x1024x128 .f32) : FVec F S32x128 .f32 :=
  let s : FVec F S32x1024 .f32 := mulf (matmul dot_S32x128_S1024x128_S32x1024_1_1_0_0_n_n none q
      (shapeCast S1024x128 kf shapeCasts_S1x1024x128_S1024x128 : FVec F S1024x128 .f32) (constant S32x1024 .f32 0x00000000#32))
    (broadcast S32x1024 (Named.named κ "scale" 0x3DB504F3#32 : F .f32))
  let e : FVec F S32x1024 .f32 := exp (subf s (broadcastTo S32x1024
    (shapeCast S32x1 (multiReduction .maximumf [1] S32 s 0xFF800000#32 reduces_S32x1024_S32 (.inl rfl) rfl : FVec F S32 .f32) shapeCasts_S32_S32x1 : FVec F S32x1 .f32)
    broadcasts_S32x1_S32x1024))
  let p : FVec F S32x1024 .f32 := divf e (broadcastTo S32x1024
    (shapeCast S32x1 (multiReduction .add [1] S32 e 0x00000000#32 reduces_S32x1024_S32 (.inl rfl) rfl : FVec F S32 .f32) shapeCasts_S32_S32x1 : FVec F S32x1 .f32)
    broadcasts_S32x1_S32x1024)
  matmul dot_S32x1024_S1024x128_S32x128_1_0_0_1_n_n none p
    (shapeCast S1024x128 vf shapeCasts_S1x1024x128_S1024x128 : FVec F S1024x128 .f32) (constant S32x128 .f32 0x00000000#32)

/-- The first 32 rows of the partial result. -/
def pfixOf (q : FVec F S32x1024 .f32) (k v : Fin 8 → Vec F S1x1024x128 .f32) (wo : Vec F S1024x1024 .f32) : FVec F S32x1024 .f32 :=
  let hd (h : Fin 8) (o : Fin 2 → Nat) (ho : S32x1024.Slices o S32x128) : FVec F S32x128 .f32 := head32 (extractStridedSlice S32x128 o q ho) (k h) (v h)
  shapeCast S32x1024 (matmul dot_S32x1024_S1024x1024_S32x1024_1_0_0_1_n_n none
    (concatenate S32x1024 1 [⟨S32x128, hd 0 ![0, 0] slices_S32x1024_o0_0_S32x128⟩, ⟨S32x128, hd 1 ![0, 128] slices_S32x1024_o0_128_S32x128⟩,
      ⟨S32x128, hd 2 ![0, 256] slices_S32x1024_o0_256_S32x128⟩, ⟨S32x128, hd 3 ![0, 384] slices_S32x1024_o0_384_S32x128⟩,
      ⟨S32x128, hd 4 ![0, 512] slices_S32x1024_o0_512_S32x128⟩, ⟨S32x128, hd 5 ![0, 640] slices_S32x1024_o0_640_S32x128⟩,
      ⟨S32x128, hd 6 ![0, 768] slices_S32x1024_o0_768_S32x128⟩, ⟨S32x128, hd 7 ![0, 896] slices_S32x1024_o0_896_S32x128⟩]
      concatenates_S32x128_S32x128_S32x128_S32x128_S32x128_S32x128_S32x128_S32x128_S32x1024_d1 : FVec F S32x1024 .f32)
    (shapeCast S1024x1024 wo shapeCasts_S1024x1024_S1024x1024 : FVec F S1024x1024 .f32)
    (constant S32x1024 .f32 0x00000000#32)) shapeCasts_S32x1024_S32x1024

end Cert.KernelIdeal.Body
end
-- ==== Proof.Prog.lean ====
module

public import proofs.«01_k».proof.Proof.Val

/-! The kernel's body as a short structured program: one chunk of query rows, one remote transfer and one
    accumulation step each stand once, at offsets collected in `Offs`, and the body is put together
    from them. `Proof/BodyEq.lean` proves the printed body equal to it. -/

@[expose] public section

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F] [Named F]

/-- The offsets, the chunk words and the neighbours the body works with on one device. Index `i` of a
    field over `Fin 4` stands for the chunk (or strip row) `i` places after the device's own. -/
structure Offs where
  /-- The chunk's number, as a word. -/
  word : Fin 4 → BitVec 32
  /-- Head `h` of the keys and values. -/
  kv : Fin 8 → {o : Fin 4 → Nat // ∀ a, o a + S1x1024x1x128.size a ≤ S1x1024x128x128.size a}
  /-- The chunk's rows of `x`. -/
  x : Fin 4 → {o : Fin 3 → Nat // ∀ a, o a + S1x256x1024.size a ≤ S1x1024x1024.size a}
  /-- Head `h`'s window of keys for the chunk. -/
  win : Fin 4 → Fin 8 → {o : Fin 3 → Nat // ∀ a, o a + S1x512x128.size a ≤ S8x1024x128.size a}
  /-- The chunk's rows of the partial result. -/
  part : Fin 4 → {o : Fin 2 → Nat // ∀ a, o a + S256x1024.size a ≤ S1024x1024.size a}
  /-- Those rows in the left (`0`) or right (`1`) half of the columns. -/
  half : Fin 2 → Fin 4 → {o : Fin 2 → Nat // ∀ a, o a + S256x512.size a ≤ S1024x1024.size a}
  /-- A strip's rows. -/
  strip : Fin 2 → Fin 4 → {o : Fin 2 → Nat // ∀ a, o a + S64x512.size a ≤ S256x512.size a}
  /-- Where the device's finished rows go in the result. -/
  own : Fin 2 → {o : Fin 3 → Nat // ∀ a, o a + S1x64x512.size a ≤ S1x1024x1024.size a}
  /-- The pieces gathered in the first stage. -/
  s1 : Fin 4 → Fin 3 → {o : Fin 3 → Nat // ∀ a, o a + S1x32x512.size a ≤ S1x1024x1024.size a}
  /-- The pieces gathered in the second stage. -/
  s2 : Fin 4 → Fin 3 → Fin 4 → {o : Fin 3 → Nat // ∀ a, o a + S1x32x512.size a ≤ S1x1024x1024.size a}
  /-- The neighbours: next and previous in the row, next and previous in the column. -/
  nbr : Fin 4 → Dev nD

/-- The remote transfers: the two rings of the reduction (`a` along rows, `b` along columns, each in the
    direction `w`, step `t`), and the two stages of the gathering. -/
inductive Tx
  | a (w : Fin 2) (t : Fin 3)
  | b (w : Fin 2) (t : Fin 3)
  | s1 (f : Fin 4) (k : Fin 3)
  | s2 (f : Fin 4) (u : Fin 3) (j : Fin 4)
  deriving DecidableEq, Fintype

namespace Tx

/-- The shape of what is sent. -/
abbrev shp : Tx → Shape
  | a _ _ => S256x512
  | b _ _ => S64x512
  | s1 _ _ => S32x512
  | s2 _ _ _ => S32x512

/-- Which neighbour it is sent to. -/
def dir : Tx → Fin 4
  | a 0 _ => 0 | a 1 _ => 1
  | b 0 _ => 2 | b 1 _ => 3
  | s1 0 _ => 2 | s1 1 _ => 3 | s1 2 _ => 0 | s1 3 _ => 1
  | s2 f _ _ => f

/-- Its place in the order of the sends. -/
def ord : Tx → Nat
  | a w t => 2 * t.val + w.val
  | b w t => 6 + 2 * t.val + w.val
  | s1 f k => 12 + 4 * k.val + f.val
  | s2 f u j => 24 + 16 * u.val + 4 * j.val + f.val

end Tx

/-! ## Views -/

/-- A slot of the first ring lies in its buffer. -/
theorem inb3a (t : Fin 3) : ∀ a, (![t.val, 0, 0] : Fin 3 → Nat) a + S1x256x512.size a ≤ S3x256x512.size a := by
  revert t; decide
/-- A slot of the second ring lies in its buffer. -/
theorem inb3b (t : Fin 3) : ∀ a, (![t.val, 0, 0] : Fin 3 → Nat) a + S1x64x512.size a ≤ S3x64x512.size a := by
  revert t; decide
/-- A ring's semaphore lies in its array. -/
theorem inb2x3 (w : Fin 2) (t : Fin 3) : ∀ a, (![w.val, t.val] : Fin 2 → Nat) a + S1x1.size a ≤ S2x3.size a := by
  revert w t; decide
/-- A semaphore of the first gather lies in its array. -/
theorem inb4x3 (w : Fin 4) (t : Fin 3) : ∀ a, (![w.val, t.val] : Fin 2 → Nat) a + S1x1.size a ≤ S4x3.size a := by
  revert w t; decide
/-- A semaphore of the second gather lies in its array. -/
theorem inb4x3x4 (w : Fin 4) (t : Fin 3) (j : Fin 4) :
    ∀ a, (![w.val, t.val, j.val] : Fin 3 → Nat) a + S1x1x1.size a ≤ S4x3x4.size a := by
  revert w t j; decide
/-- A local copy's semaphore lies in its array. -/
theorem inb16 (i : Fin 16) : ∀ a, (![i.val] : Fin 1 → Nat) a + S1.size a ≤ S16.size a := by revert i; decide
/-- A head lies in the device's buffer of keys or values. -/
theorem inbHd (h : Fin 8) : ∀ a, (![h.val, 0, 0] : Fin 3 → Nat) a + S1x1024x128.size a ≤ S8x1024x128.size a := by
  revert h; decide
/-- A head's leading keys or values lie in the buffer. -/
theorem inbHg (h : Fin 8) : ∀ a, (![h.val, 0, 0] : Fin 3 → Nat) a + S1x128x128.size a ≤ S8x1024x128.size a := by
  revert h; decide
/-- A head's columns lie in a chunk's queries. -/
theorem inbQ (h : Fin 8) : ∀ a, (![0, 128 * h.val] : Fin 2 → Nat) a + S256x128.size a ≤ S256x1024.size a := by
  revert h; decide

/-- Slot `t` of a three-slot buffer of the first rings. -/
abbrev slotA (M : Memref sig .tc .vmem S3x256x512 .f32) (t : Fin 3) : Memref sig .tc .vmem S256x512 .f32 :=
  (M.slice (Rect.unit (s := S3x256x512) ![t.val, 0, 0] S1x256x512.size (inb3a t)) (fun _ => rfl)).squeeze S256x512 squeezes_S1x256x512_S256x512

/-- Slot `t` of a three-slot buffer of the second rings. -/
abbrev slotB (M : Memref sig .tc .vmem S3x64x512 .f32) (t : Fin 3) : Memref sig .tc .vmem S64x512 .f32 :=
  (M.slice (Rect.unit (s := S3x64x512) ![t.val, 0, 0] S1x64x512.size (inb3b t)) (fun _ => rfl)).squeeze S64x512 squeezes_S1x64x512_S64x512

/-- A piece of the result. -/
abbrev pieceM (o : {o : Fin 3 → Nat // ∀ a, o a + S1x32x512.size a ≤ S1x1024x1024.size a}) : Memref sig .tc .vmem S32x512 .f32 :=
  (outM.slice (Rect.unit (s := S1x1024x1024) o.1 S1x32x512.size o.2) (fun _ => rfl)).squeeze S32x512 squeezes_S1x32x512_S32x512

/-- A half chunk of the products. -/
abbrev halfM (o : {o : Fin 2 → Nat // ∀ a, o a + S256x512.size a ≤ S1024x1024.size a}) : Memref sig .tc .vmem S256x512 .f32 :=
  partM.slice (Rect.unit (s := S1024x1024) o.1 S256x512.size o.2) (fun _ => rfl)

/-- A part of a strip. -/
abbrev stripAt (w : Fin 2) (o : {o : Fin 2 → Nat // ∀ a, o a + S64x512.size a ≤ S256x512.size a}) : Memref sig .tc .vmem S64x512 .f32 :=
  (stripM w).slice (Rect.unit (s := S256x512) o.1 S64x512.size o.2) (fun _ => rfl)

/-- What a transfer reads, on the sender. -/
def srcM (O : Offs) : (x : Tx) → Memref sig .tc .vmem x.shp .f32
  | .a w 0 => halfM (O.half w 0)
  | .a w 1 => slotA (sendA w) 1
  | .a w 2 => slotA (sendA w) 2
  | .b w 0 => stripAt w (O.strip w 0)
  | .b w 1 => slotB (sendB w) 1
  | .b w 2 => slotB (sendB w) 2
  | .s1 f k => pieceM (O.s1 f k)
  | .s2 f u j => pieceM (O.s2 f u j)

/-- Where it lands, on the receiver. -/
def dstM (O : Offs) : (x : Tx) → Memref sig .tc .vmem x.shp .f32
  | .a w t => slotA (recvA w) t
  | .b w t => slotB (recvB w) t
  | .s1 f k => pieceM (O.s1 f k)
  | .s2 f u j => pieceM (O.s2 f u j)

/-- A ring's semaphore. -/
abbrev sem2x3 (A : DmaSems sig S2x3) (w : Fin 2) (t : Fin 3) : DmaSem sig :=
  ((A.slice (Rect.unit (s := S2x3) ![w.val, t.val] S1x1.size (inb2x3 w t))).squeeze S_ squeezes_S1x1_S_).sem
/-- A semaphore of the first gather. -/
abbrev sem4x3 (A : DmaSems sig S4x3) (w : Fin 4) (t : Fin 3) : DmaSem sig :=
  ((A.slice (Rect.unit (s := S4x3) ![w.val, t.val] S1x1.size (inb4x3 w t))).squeeze S_ squeezes_S1x1_S_).sem
/-- A semaphore of the second gather. -/
abbrev sem4x3x4 (A : DmaSems sig S4x3x4) (w : Fin 4) (t : Fin 3) (j : Fin 4) : DmaSem sig :=
  ((A.slice (Rect.unit (s := S4x3x4) ![w.val, t.val, j.val] S1x1x1.size (inb4x3x4 w t j))).squeeze S_ squeezes_S1x1x1_S_).sem

/-- The semaphore a transfer counts on at the sender. -/
def sS : Tx → DmaSem sig
  | .a w t => sem2x3 cc0_scratch17 w t
  | .b w t => sem2x3 cc0_scratch19 w t
  | .s1 f k => sem4x3 cc0_scratch21 f k
  | .s2 f u j => sem4x3x4 cc0_scratch23 f u j

/-- The semaphore it counts on at the receiver. -/
def sR : Tx → DmaSem sig
  | .a w t => sem2x3 cc0_scratch18 w t
  | .b w t => sem2x3 cc0_scratch20 w t
  | .s1 f k => sem4x3 cc0_scratch22 f k
  | .s2 f u j => sem4x3x4 cc0_scratch24 f u j

/-- Each copy's source is of whole words. -/
theorem srcW (O : Offs) : (x : Tx) → (srcM O x).view.WordExact
  | .a 0 0 => View.wordExact_bits rfl
  | .a 0 1 => (View.wordExact_bits rfl).reshape _ _
  | .a 0 2 => (View.wordExact_bits rfl).reshape _ _
  | .a 1 0 => View.wordExact_bits rfl
  | .a 1 1 => (View.wordExact_bits rfl).reshape _ _
  | .a 1 2 => (View.wordExact_bits rfl).reshape _ _
  | .b 0 0 => View.wordExact_bits rfl
  | .b 0 1 => (View.wordExact_bits rfl).reshape _ _
  | .b 0 2 => (View.wordExact_bits rfl).reshape _ _
  | .b 1 0 => View.wordExact_bits rfl
  | .b 1 1 => (View.wordExact_bits rfl).reshape _ _
  | .b 1 2 => (View.wordExact_bits rfl).reshape _ _
  | .s1 _ _ => (View.wordExact_bits rfl).reshape _ _
  | .s2 _ _ _ => (View.wordExact_bits rfl).reshape _ _

/-- Each copy's destination is of whole words. -/
theorem dstW (O : Offs) : (x : Tx) → (dstM O x).view.WordExact
  | .a 0 _ => (View.wordExact_bits rfl).reshape _ _
  | .a 1 _ => (View.wordExact_bits rfl).reshape _ _
  | .b 0 _ => (View.wordExact_bits rfl).reshape _ _
  | .b 1 _ => (View.wordExact_bits rfl).reshape _ _
  | .s1 _ _ => (View.wordExact_bits rfl).reshape _ _
  | .s2 _ _ _ => (View.wordExact_bits rfl).reshape _ _

/-- No copy's destination is a buffer of the other kind of core. -/
theorem dstSc (O : Offs) : (x : Tx) → (dstM O x).view.ref.isScScratch = false
  | .a 0 _ => rfl
  | .a 1 _ => rfl
  | .b 0 _ => rfl
  | .b 1 _ => rfl
  | .s1 _ _ => rfl
  | .s2 _ _ _ => rfl

/-! ## The program -/

/-- Run the programs of a list one after the other. -/
def seqs : List (Kp F PUnit) → Kp F PUnit
  | [] => .ret ⟨⟩
  | p :: ps => p.bind fun _ => seqs ps

/-- Start transfer `x`. -/
def sendP (O : Offs) (x : Tx) : Kp F PUnit :=
  Prog.lift (.enqueueDma (srcM O x) (.remote (Dev.tc (O.nbr x.dir)) (dstM O x) (.dma (sS x)) (dstSc O x)) (.dma (sR x))
    (srcW O x) (dstW O x) ⟨⟨rfl, Or.inl rfl⟩, trivial⟩)

/-- Wait for transfer `x` to have left, and for the one arriving on the same cells to have landed. -/
def waitP (O : Offs) (x : Tx) : Kp F PUnit :=
  (Prog.lift (.waitDma2 (sS x) (dstM O x) (srcM O x) (dstW O x) (srcW O x))).bind fun _ =>
  Prog.lift (.waitDma2 (sR x) (srcM O x) (dstM O x) (srcW O x) (dstW O x))

/-- Head `h`'s slot of the buffer of keys (or of values). -/
abbrev slotH (M : Memref sig .tc .vmem S8x1024x128 .f32) (h : Fin 8) : Memref sig .tc .vmem S1024x128 .f32 :=
  (M.slice (Rect.unit (s := S8x1024x128) ![h.val, 0, 0] S1x1024x128.size (inbHd h)) (fun _ => rfl)).squeeze S1024x128 squeezes_S1x1024x128_S1024x128

/-- A head's keys (or values) in the device's memory. -/
abbrev headM (M : Memref sig .tc .hbm S1x1024x128x128 .f32) (o : {o : Fin 4 → Nat // ∀ a, o a + S1x1024x1x128.size a ≤ S1x1024x128x128.size a}) :
    Memref sig .tc .hbm S1024x128 .f32 :=
  (M.slice (Rect.unit (s := S1x1024x128x128) o.1 S1x1024x1x128.size o.2) (fun _ => rfl)).squeeze S1024x128 squeezes_S1x1024x1x128_S1024x128

/-- The semaphore of local copy `i`. -/
abbrev lsem (i : Fin 16) : DmaSem sig :=
  ((cc0_scratch16.slice (Rect.unit (s := S16) ![i.val] S1.size (inb16 i))).squeeze S_ squeezes_S1_S_).sem

/-- The array of keys. -/
abbrev kHbm : Memref sig .tc .hbm S1x1024x128x128 .f32 := Memref.whole main_arg2
/-- The array of values. -/
abbrev vHbm : Memref sig .tc .hbm S1x1024x128x128 .f32 := Memref.whole main_arg3

/-- Start copying head `h`'s keys, then its values. -/
def kvStart (O : Offs) (h : Fin 8) : Kp F PUnit :=
  (Prog.lift (.enqueueDma (headM kHbm (O.kv h)) (.here (slotH kM h)) (.dma (lsem ⟨h.val, by omega⟩))
    ((View.wordExact_bits rfl).reshape _ _) ((View.wordExact_bits rfl).reshape _ _) ⟨Or.inl rfl, trivial⟩)).bind fun _ =>
  Prog.lift (.enqueueDma (headM vHbm (O.kv h)) (.here (slotH vM h)) (.dma (lsem ⟨h.val + 8, by omega⟩))
    ((View.wordExact_bits rfl).reshape _ _) ((View.wordExact_bits rfl).reshape _ _) ⟨Or.inl rfl, trivial⟩)

/-- Wait for head `h`'s keys and values. -/
def kvWait (O : Offs) (h : Fin 8) : Kp F PUnit :=
  (Prog.lift (.waitDma2 (lsem ⟨h.val, by omega⟩) (headM kHbm (O.kv h)) (slotH kM h)
    ((View.wordExact_bits rfl).reshape _ _) ((View.wordExact_bits rfl).reshape _ _))).bind fun _ =>
  Prog.lift (.waitDma2 (lsem ⟨h.val + 8, by omega⟩) (headM vHbm (O.kv h)) (slotH vM h)
    ((View.wordExact_bits rfl).reshape _ _) ((View.wordExact_bits rfl).reshape _ _))

/-- Load head `h`'s keys or values whole. -/
abbrev ldHead (M : Memref sig .tc .vmem S8x1024x128 .f32) (h : Fin 8) : Kp F (Vec F S1x1024x128 .f32) :=
  Prog.lift (.load M (Rect.unit (s := S8x1024x128) ![h.val, 0, 0] S1x1024x128.size (inbHd h)).toLoadRect (View.loadsAt_vmem h_S1x1024x128))

/-- Load a matrix of weights whole. -/
abbrev ldW (M : Memref sig .tc .vmem S1024x1024 .f32) : Kp F (Vec F S1024x1024 .f32) :=
  Prog.lift (.load M (Rect.unit (s := S1024x1024) ![0, 0] S1024x1024.size inb_S1024x1024_S1024x1024_0_0).toLoadRect (View.loadsAt_vmem h_S1024x1024))

/-- Load a whole chunk-sized buffer. -/
abbrev ldC (M : Memref sig .tc .vmem S256x1024 .f32) : Kp F (Vec F S256x1024 .f32) :=
  Prog.lift (.load M (Rect.unit (s := S256x1024) ![0, 0] S256x1024.size inb_S256x1024_S256x1024_0_0).toLoadRect (View.loadsAt_vmem h_S256x1024))

/-- Load head `h`'s columns of a chunk-sized buffer. -/
abbrev ldQ (M : Memref sig .tc .vmem S256x1024 .f32) (h : Fin 8) : Kp F (Vec F S256x128 .f32) :=
  Prog.lift (.load M (Rect.unit (s := S256x1024) ![0, 128 * h.val] S256x128.size (inbQ h)).toLoadRect (View.loadsAt_vmem h_S256x128))

/-- Load a window of head `h`'s keys or values. -/
abbrev ldWin (M : Memref sig .tc .vmem S8x1024x128 .f32) (o : {o : Fin 3 → Nat // ∀ a, o a + S1x512x128.size a ≤ S8x1024x128.size a}) :
    Kp F (Vec F S1x512x128 .f32) :=
  Prog.lift (.load M (Rect.unit (s := S8x1024x128) o.1 S1x512x128.size o.2).toLoadRect (View.loadsAt_vmem h_S1x512x128))

/-- Load the first 128 of head `h`'s keys or values. -/
abbrev ldGlob (M : Memref sig .tc .vmem S8x1024x128 .f32) (h : Fin 8) : Kp F (Vec F S1x128x128 .f32) :=
  Prog.lift (.load M (Rect.unit (s := S8x1024x128) ![h.val, 0, 0] S1x128x128.size (inbHg h)).toLoadRect (View.loadsAt_vmem h_S1x128x128))

/-- The first 32 rows, computed in full and kept aside. -/
def pfixP (x : Vec F S1x32x1024 .f32) (wq : Vec F S1024x1024 .f32) : Kp F PUnit :=
  (ldHead kM 0).bind fun k0 => (ldHead vM 0).bind fun v0 => (ldHead kM 1).bind fun k1 => (ldHead vM 1).bind fun v1 =>
  (ldHead kM 2).bind fun k2 => (ldHead vM 2).bind fun v2 => (ldHead kM 3).bind fun k3 => (ldHead vM 3).bind fun v3 =>
  (ldHead kM 4).bind fun k4 => (ldHead vM 4).bind fun v4 => (ldHead kM 5).bind fun k5 => (ldHead vM 5).bind fun v5 =>
  (ldHead kM 6).bind fun k6 => (ldHead vM 6).bind fun v6 => (ldHead kM 7).bind fun k7 => (ldHead vM 7).bind fun v7 =>
  (ldW woM).bind fun wo =>
  (Prog.lift (.load pfixM (Rect.unit (s := S32x1024) ![0, 0] S32x1024.size inb_S32x1024_S32x1024_0_0).toLoadRect (View.loadsAt_vmem h_S32x1024)) : Kp F (Vec F S32x1024 .f32)).bind fun _ =>
  Prog.lift (.store pfixM (Rect.unit (s := S32x1024) ![0, 0] S32x1024.size inb_S32x1024_S32x1024_0_0)
    (pfixOf (q32Of x wq) ![k0, k1, k2, k3, k4, k5, k6, k7] ![v0, v1, v2, v3, v4, v5, v6, v7] wo) Finset.univ (View.stores_vmem_bits_univ h_S32x1024 rfl) (.inl rfl))

/-- Head `h` of chunk `i`. -/
def headP (O : Offs) (i : Fin 4) (h : Fin 8) : Kp F PUnit :=
  (ldQ qM h).bind fun q => (ldWin kM (O.win i h)).bind fun kw => (ldGlob kM h).bind fun kg =>
  (ldWin vM (O.win i h)).bind fun vw => (ldGlob vM h).bind fun vg => (ldQ ctxM h).bind fun _ =>
  Prog.lift (.store ctxM (Rect.unit (s := S256x1024) ![0, 128 * h.val] S256x128.size (inbQ h)) (headOut (O.word i) q kw kg vw vg)
    Finset.univ (View.stores_vmem_bits_univ h_S256x128 rfl) (.inl rfl))

/-- The rows kept aside replace the first 32 of the first chunk. -/
def fixP (cw : BitVec 32) : Kp F PUnit :=
  if h : Scalar.cmpi .ne (Scalar.extui (Scalar.cmpi .eq cw 0#32) : BitVec 32) 0#32 = 1#1 then
    (Prog.lift (.load pfixM (Rect.unit (s := S32x1024) ![0, 0] S32x1024.size inb_S32x1024_S32x1024_0_0).toLoadRect (View.loadsAt_vmem h_S32x1024)) : Kp F (Vec F S32x1024 .f32)).bind fun v =>
    (Prog.lift (.load partM (Rect.unit (s := S1024x1024) ![0, 0] S32x1024.size inb_S1024x1024_S32x1024_0_0).toLoadRect (View.loadsAt_vmem h_S32x1024)) : Kp F (Vec F S32x1024 .f32)).bind fun _ =>
    Prog.lift (.store partM (Rect.unit (s := S1024x1024) ![0, 0] S32x1024.size inb_S1024x1024_S32x1024_0_0)
      (shapeCast S32x1024 v shapeCasts_S32x1024_S32x1024 : FVec F S32x1024 .f32) Finset.univ (View.stores_vmem_bits_univ h_S32x1024 rfl) (.inl rfl))
  else .ret ⟨⟩

/-- Chunk `i` of the partial result. -/
def chunkP (O : Offs) (i : Fin 4) : Kp F PUnit :=
  (Prog.lift (.load xM (Rect.unit (s := S1x1024x1024) (O.x i).1 S1x256x1024.size (O.x i).2).toLoadRect (View.loadsAt_vmem h_S1x256x1024)) : Kp F (Vec F S1x256x1024 .f32)).bind fun x =>
  (ldW wqM).bind fun wq => (ldC qM).bind fun _ =>
  (Prog.lift (.store qM (Rect.unit (s := S256x1024) ![0, 0] S256x1024.size inb_S256x1024_S256x1024_0_0) (qOf x wq) Finset.univ (View.stores_vmem_bits_univ h_S256x1024 rfl) (.inl rfl))).bind fun _ =>
  (seqs [headP O i 0, headP O i 1, headP O i 2, headP O i 3, headP O i 4, headP O i 5, headP O i 6, headP O i 7]).bind fun _ =>
  (ldC ctxM).bind fun ctx => (ldW woM).bind fun wo =>
  (Prog.lift (.load partM (Rect.unit (s := S1024x1024) (O.part i).1 S256x1024.size (O.part i).2).toLoadRect (View.loadsAt_vmem h_S256x1024)) : Kp F (Vec F S256x1024 .f32)).bind fun _ =>
  (Prog.lift (.store partM (Rect.unit (s := S1024x1024) (O.part i).1 S256x1024.size (O.part i).2) (partOf ctx wo) Finset.univ (View.stores_vmem_bits_univ h_S256x1024 rfl) (.inl rfl))).bind fun _ =>
  fixP (O.word i)

/-- The chunk (or strip row) that step `t` of direction `w` adds: how far it lies after the device's own. -/
def ai : Fin 2 → Fin 3 → Fin 4
  | 0, 0 => 3 | 0, 1 => 2 | 0, 2 => 1
  | 1, 0 => 1 | 1, 1 => 2 | 1, 2 => 3

/-- A load of a slot of the first ring. -/
abbrev ldSlotA (M : Memref sig .tc .vmem S3x256x512 .f32) (t : Fin 3) : Kp F (Vec F S1x256x512 .f32) :=
  Prog.lift (.load M (Rect.unit (s := S3x256x512) ![t.val, 0, 0] S1x256x512.size (inb3a t)).toLoadRect (View.loadsAt_vmem h_S1x256x512))
/-- A load of a slot of the second ring. -/
abbrev ldSlotB (M : Memref sig .tc .vmem S3x64x512 .f32) (t : Fin 3) : Kp F (Vec F S1x64x512 .f32) :=
  Prog.lift (.load M (Rect.unit (s := S3x64x512) ![t.val, 0, 0] S1x64x512.size (inb3b t)).toLoadRect (View.loadsAt_vmem h_S1x64x512))
/-- A load of a half chunk. -/
abbrev ldHalf (o : {o : Fin 2 → Nat // ∀ a, o a + S256x512.size a ≤ S1024x1024.size a}) : Kp F (Vec F S256x512 .f32) :=
  Prog.lift (.load partM (Rect.unit (s := S1024x1024) o.1 S256x512.size o.2).toLoadRect (View.loadsAt_vmem h_S256x512))
/-- A load of a part of a strip. -/
abbrev ldStrip (w : Fin 2) (o : {o : Fin 2 → Nat // ∀ a, o a + S64x512.size a ≤ S256x512.size a}) : Kp F (Vec F S64x512 .f32) :=
  Prog.lift (.load (stripM w) (Rect.unit (s := S256x512) o.1 S64x512.size o.2).toLoadRect (View.loadsAt_vmem h_S64x512))

/-- What has arrived in slot `t`, with the device's own rows added. -/
def addA (v : Vec F S1x256x512 .f32) (u : Vec F S256x512 .f32) : FVec F S256x512 .f32 :=
  addf (shapeCast S256x512 v shapeCasts_S1x256x512_S256x512 : FVec F S256x512 .f32) u
/-- What has arrived, and the device's own part of a strip, added. -/
def addB (v : Vec F S1x64x512 .f32) (u : Vec F S64x512 .f32) : FVec F S64x512 .f32 :=
  addf (shapeCast S64x512 v shapeCasts_S1x64x512_S64x512 : FVec F S64x512 .f32) u

/-- Add to what arrived in slot `t` the own rows, for sending on in slot `t'`. -/
def accA (O : Offs) (w : Fin 2) (t t' : Fin 3) : Kp F PUnit :=
  (ldSlotA (recvA w) t).bind fun v => (ldHalf (O.half w (ai w t))).bind fun u => (ldSlotA (sendA w) t').bind fun _ =>
  Prog.lift (.store (sendA w) (Rect.unit (s := S3x256x512) ![t'.val, 0, 0] S1x256x512.size (inb3a t'))
    (shapeCast S1x256x512 (addA v u) shapeCasts_S256x512_S1x256x512 : FVec F S1x256x512 .f32) Finset.univ (View.stores_vmem_bits_univ h_S1x256x512 rfl) (.inl rfl))

/-- The last step of a row ring: the strip. -/
def accStrip (O : Offs) (w : Fin 2) : Kp F PUnit :=
  (ldSlotA (recvA w) 2).bind fun v => (ldHalf (O.half w (ai w 2))).bind fun u =>
  (Prog.lift (.load (stripM w) (Rect.unit (s := S256x512) ![0, 0] S256x512.size inb_S256x512_S256x512_0_0).toLoadRect (View.loadsAt_vmem h_S256x512)) : Kp F (Vec F S256x512 .f32)).bind fun _ =>
  Prog.lift (.store (stripM w) (Rect.unit (s := S256x512) ![0, 0] S256x512.size inb_S256x512_S256x512_0_0)
    (shapeCast S256x512 (addA v u) shapeCasts_S256x512_S256x512 : FVec F S256x512 .f32) Finset.univ (View.stores_vmem_bits_univ h_S256x512 rfl) (.inl rfl))

/-- A step of the second ring: add and store what is sent next. -/
def accB (O : Offs) (w : Fin 2) (t t' : Fin 3) : Kp F PUnit :=
  (ldSlotB (recvB w) t).bind fun v => (ldStrip w (O.strip w (ai w t))).bind fun u => (ldSlotB (sendB w) t').bind fun _ =>
  Prog.lift (.store (sendB w) (Rect.unit (s := S3x64x512) ![t'.val, 0, 0] S1x64x512.size (inb3b t'))
    (shapeCast S1x64x512 (addB v u) shapeCasts_S64x512_S1x64x512 : FVec F S1x64x512 .f32) Finset.univ (View.stores_vmem_bits_univ h_S1x64x512 rfl) (.inl rfl))

/-- The last step of a column ring: the device's finished rows, in the strip. -/
def accOwn (O : Offs) (w : Fin 2) : Kp F PUnit :=
  (ldSlotB (recvB w) 2).bind fun v => (ldStrip w (O.strip w (ai w 2))).bind fun u => (ldStrip w (O.strip w (ai w 2))).bind fun _ =>
  Prog.lift (.store (stripM w) (Rect.unit (s := S256x512) (O.strip w (ai w 2)).1 S64x512.size (O.strip w (ai w 2)).2)
    (shapeCast S64x512 (addB v u) shapeCasts_S64x512_S64x512 : FVec F S64x512 .f32) Finset.univ (View.stores_vmem_bits_univ h_S64x512 rfl) (.inl rfl))

/-- Put the finished rows into the result. -/
def ownP (O : Offs) (w : Fin 2) : Kp F PUnit :=
  (ldStrip w (O.strip w (ai w 2))).bind fun u =>
  (Prog.lift (.load outM (Rect.unit (s := S1x1024x1024) (O.own w).1 S1x64x512.size (O.own w).2).toLoadRect (View.loadsAt_vmem h_S1x64x512)) : Kp F (Vec F S1x64x512 .f32)).bind fun _ =>
  Prog.lift (.store outM (Rect.unit (s := S1x1024x1024) (O.own w).1 S1x64x512.size (O.own w).2)
    (shapeCast S1x64x512 u shapeCasts_S64x512_S1x64x512 : FVec F S1x64x512 .f32) Finset.univ (View.stores_vmem_bits_univ h_S1x64x512 rfl) (.inl rfl))

/-- The barrier semaphore. -/
abbrev barS : Sems sig S_ := SemArray.scalar (sig.barrier 0 rfl)

/-- Signal the four neighbours and wait for their four signals. -/
def barrierP (O : Offs) : Kp F PUnit :=
  (semSignalWord (O.nbr 0) barS.sem 1#32).bind fun _ =>
  (semSignalWord (O.nbr 1) barS.sem 1#32).bind fun _ =>
  (semSignalWord (O.nbr 2) barS.sem 1#32).bind fun _ =>
  (semSignalWord (O.nbr 3) barS.sem 1#32).bind fun _ =>
  semWaitWord barS.sem 4#32

/-- The keys and values come, the first 32 rows are computed. -/
def headsP (O : Offs) : Kp F PUnit :=
  (seqs [kvStart O 0, kvStart O 1, kvStart O 2, kvStart O 3, kvStart O 4, kvStart O 5, kvStart O 6, kvStart O 7]).bind fun _ =>
  (Prog.lift (.load xM (Rect.unit (s := S1x1024x1024) ![0, 0, 0] S1x32x1024.size inb_S1x1024x1024_S1x32x1024_0_0_0).toLoadRect (View.loadsAt_vmem h_S1x32x1024)) : Kp F (Vec F S1x32x1024 .f32)).bind fun x =>
  (ldW wqM).bind fun wq =>
  (seqs [kvWait O 0, kvWait O 1, kvWait O 2, kvWait O 3, kvWait O 4, kvWait O 5, kvWait O 6, kvWait O 7]).bind fun _ =>
  pfixP x wq

/-- The rings: the list of what is done from the first chunk to the finished rows. -/
def ringSteps (O : Offs) : List (Kp F PUnit) :=
  [chunkP O 0, sendP O (.a 0 0), sendP O (.a 1 0),
   chunkP O 3, waitP O (.a 0 0), accA O 0 0 1, sendP O (.a 0 1),
   chunkP O 1, waitP O (.a 1 0), accA O 1 0 1, sendP O (.a 1 1),
   chunkP O 2, waitP O (.a 0 1), accA O 0 1 2, sendP O (.a 0 2), waitP O (.a 1 1), accA O 1 1 2, sendP O (.a 1 2),
   waitP O (.a 0 2), accStrip O 0, waitP O (.a 1 2), accStrip O 1,
   sendP O (.b 0 0), sendP O (.b 1 0),
   waitP O (.b 0 0), accB O 0 0 1, waitP O (.b 1 0), accB O 1 0 1, sendP O (.b 0 1), sendP O (.b 1 1),
   waitP O (.b 0 1), accB O 0 1 2, waitP O (.b 1 1), accB O 1 1 2, sendP O (.b 0 2), sendP O (.b 1 2),
   waitP O (.b 0 2), accOwn O 0, waitP O (.b 1 2), accOwn O 1, ownP O 0, ownP O 1]

/-- The first stage of the gathering. -/
def gather1 (O : Offs) (k : Fin 3) : List (Kp F PUnit) :=
  [sendP O (.s1 0 k), sendP O (.s1 1 k), sendP O (.s1 2 k), sendP O (.s1 3 k),
   waitP O (.s1 0 k), waitP O (.s1 1 k), waitP O (.s1 2 k), waitP O (.s1 3 k)]

/-- The second. -/
def gather2 (O : Offs) (u : Fin 3) : List (Kp F PUnit) :=
  [sendP O (.s2 0 u 0), sendP O (.s2 1 u 0), sendP O (.s2 2 u 0), sendP O (.s2 3 u 0),
   sendP O (.s2 0 u 1), sendP O (.s2 1 u 1), sendP O (.s2 2 u 1), sendP O (.s2 3 u 1),
   sendP O (.s2 0 u 2), sendP O (.s2 1 u 2), sendP O (.s2 2 u 2), sendP O (.s2 3 u 2),
   sendP O (.s2 0 u 3), sendP O (.s2 1 u 3), sendP O (.s2 2 u 3), sendP O (.s2 3 u 3),
   waitP O (.s2 0 u 0), waitP O (.s2 0 u 1), waitP O (.s2 0 u 2), waitP O (.s2 0 u 3),
   waitP O (.s2 1 u 0), waitP O (.s2 1 u 1), waitP O (.s2 1 u 2), waitP O (.s2 1 u 3),
   waitP O (.s2 2 u 0), waitP O (.s2 2 u 1), waitP O (.s2 2 u 2), waitP O (.s2 2 u 3),
   waitP O (.s2 3 u 0), waitP O (.s2 3 u 1), waitP O (.s2 3 u 2), waitP O (.s2 3 u 3)]

/-- The body's steps, in order. -/
def allSteps (O : Offs) : List (Kp F PUnit) :=
  barrierP O :: headsP O :: ringSteps O ++ (gather1 O 0 ++ (gather1 O 1 ++ (gather1 O 2 ++ (gather2 O 0 ++ (gather2 O 1 ++ gather2 O 2)))))

/-- The body on one device. -/
def bodyP (O : Dev nD → Offs) : Kp F PUnit := (Prog.lift .deviceId).bind fun d => seqs (allSteps (O d))

end Cert.KernelIdeal.Body
end
-- ==== Proof.Regions.lean ====
module

public import proofs.«01_k».proof.Proof.Prog
public import Idealize.ShloMosaic.Lib.Pipeline.Launch
public import Idealize.ShloMosaic.Lib.Pipeline.Kit
public import Idealize.ShloMosaic.Lib.Tactic
public import proofs.«01_k».proof.Proof.Gen.KernelIdeal.Launch

/-! Owning parts of a buffer: a family of disjoint rectangles that covers a memref, loads and stores on one
    of them, and a rectangle under its squeezed shape. -/

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

/-- The resources of the rounds protocol, whose duties are numbered by `Fin 4`, beside the pipeline's. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program on device `c`. -/
abbrev WP (c : Dev nD) {α : Type} (p : Kp F α) (Q : α → sProp 𝕄) : sProp 𝕄 :=
  wp frame (wpE (defs₀ (F := F)) 𝒱₀ (c : Thread nD τ) none) Set.univ p Q

/-- The rectangle of all of a shape places every index at itself. -/
theorem emb_all {s : Shape} {off : Fin s.rank → ℕ} (inb : ∀ a, off a + s.size a ≤ s.size a) (z : (Rect.unit off s.size inb).shape.Idx) :
    (Rect.unit off s.size inb).emb z = z :=
  funext fun a => Fin.ext (by
    show off a + 1 * (z a).val = (z a).val
    have := inb a
    omega)

section Own

variable (c : Dev nD) {sp : Space} {s : Shape} {e : EltTy}

/-- Device `c` owns what `M` views, at some values. -/
def some' (M : Memref sig .tc sp s e) : sProp 𝕄 := iprop(∃ X, owns (c : Thread nD τ) M fullShare X)

instance some'_storable (M : Memref sig .tc sp s e) : BI.Storable (upEmb : UEmb _ 𝕄) (some' (F := F) c M) := by
  unfold some'; infer_instance

omit [FloatOps F] [Named F] in
/-- Owning a region with a value is owning it with some contents. -/
theorem some'_intro (M : Memref sig .tc sp s e) (X : s.Idx → Elt F e) : (owns (c : Thread nD τ) M fullShare X : sProp 𝕄) ⊢ some' c M := by
  unfold some'; iintro H; iexists X; iexact H

omit [FloatOps F] [Named F] in
/-- The elements of a memref at contents `f` are owned at what it reads of `f`. -/
theorem owns_at (M : Memref sig .tc sp s e) (q : PosShare TreeShare) (f : M.view.ty.Contents (Elt F)) :
    (owns (c : Thread nD τ) M q (M.view.read (Elt F) f) : sProp 𝕄) = M.view.loc (c : Thread nD τ) ↦[M.view.set]{q} f := by
  have h₁ : (owns (c : Thread nD τ) M q (M.view.read (Elt F) f) : sProp 𝕄) ⊢ M.view.loc (c : Thread nD τ) ↦[M.view.set]{q} f := ?_
  · exact BI.equiv_iff.mp ⟨h₁, owns_intro _ _ _ _⟩
  unfold owns
  iintro ⟨%g, %hg, H⟩
  have e : (M.view.loc (c : Thread nD τ) ↦[M.view.set]{q} g : sProp 𝕄) = M.view.loc (c : Thread nD τ) ↦[M.view.set]{q} f :=
    pointsTo_congr fun i hi => by
      rw [View.set, Finset.mem_map] at hi
      obtain ⟨x, -, rfl⟩ := hi
      have := congrFun hg x
      simp only [View.read] at this
      exact (cast_inj _).mp this
  rw [← e]; iexact H

omit [FloatOps F] [Named F] in
/-- The cells of a region are those of the region with its axes of size one dropped. -/
theorem pts_squeeze (M : Memref sig .tc sp s e) (q : PosShare TreeShare) (s' : Shape) (h : s.Squeezes s') (g : M.view.ty.Contents (Elt F)) :
    ((M.squeeze s' h).view.loc (c : Thread nD τ) ↦[(M.squeeze s' h).view.set]{q} g : sProp 𝕄) = M.view.loc (c : Thread nD τ) ↦[M.view.set]{q} g :=
  congrArg (fun S : Finset M.view.ty.Idx => (M.view.loc (c : Thread nD τ) ↦[S]{q} g : sProp 𝕄)) (View.set_reshape M.view h.numel_eq)

omit [FloatOps F] [Named F] in
/-- A memref under another shape of the same number of elements. -/
theorem owns_squeeze (M : Memref sig .tc sp s e) (q : PosShare TreeShare) (s' : Shape) (h : s.Squeezes s') (X : s.Idx → Elt F e) :
    (owns (c : Thread nD τ) (M.squeeze s' h) q (shapeCast s' X h.numel_eq) : sProp 𝕄) = owns (c : Thread nD τ) M q X := by
  have h₁ : (owns (c : Thread nD τ) (M.squeeze s' h) q (shapeCast s' X h.numel_eq) : sProp 𝕄) ⊢ owns (c : Thread nD τ) M q X := by
    unfold owns
    iintro ⟨%g, %hg, H⟩
    iexists g
    isplitr
    · ipureintro
      funext j
      obtain ⟨i, rfl⟩ := (Shape.reshapeEquiv h.numel_eq).surjective j
      exact congrFun hg i
    · iapply (Entails.of_eq (pts_squeeze c M q s' h g)); iexact H
  have h₂ : (owns (c : Thread nD τ) M q X : sProp 𝕄) ⊢ owns (c : Thread nD τ) (M.squeeze s' h) q (shapeCast s' X h.numel_eq) := by
    unfold owns
    iintro ⟨%g, %hg, H⟩
    iexists g
    isplitr
    · ipureintro
      funext j
      exact congrFun hg _
    · iapply (Entails.of_eq (pts_squeeze c M q s' h g).symm); iexact H
  exact BI.equiv_iff.mp ⟨h₁, h₂⟩

omit [FloatOps F] [Named F] in
/-- A region with some contents is the same with its axes of size one dropped. -/
theorem some'_squeeze (M : Memref sig .tc sp s e) (s' : Shape) (h : s.Squeezes s') :
    (some' (F := F) c (M.squeeze s' h) : sProp 𝕄) ⊢ some' c M := by
  unfold some'
  iintro ⟨%X, H⟩
  unfold owns
  icases H with ⟨%g, %hg, H⟩
  iexists M.view.read (Elt F) g, g
  isplitr
  · ipureintro; rfl
  · iapply (Entails.of_eq (pts_squeeze c M _ s' h g)); iexact H

omit [FloatOps F] [Named F] in
/-- And back. -/
theorem some'_of_squeeze (M : Memref sig .tc sp s e) (s' : Shape) (h : s.Squeezes s') :
    (some' (F := F) c M : sProp 𝕄) ⊢ some' c (M.squeeze s' h) := by
  unfold some'
  iintro ⟨%X, H⟩
  iexists shapeCast s' X h.numel_eq
  rw [owns_squeeze]; iexact H

omit [FloatOps F] [Named F] in
/-- A whole buffer at some contents. -/
theorem some'_whole (b : Ref sig .tc) :
    (some' (F := F) c (Memref.whole b) : sProp 𝕄) = iprop(∃ f : Buf (Elt F) ((c : Thread nD τ).loc b), ((c : Thread nD τ).loc b) ↦{fullShare} f) := by
  unfold some'
  refine congrArg _ (funext fun f => ?_)
  exact owns_whole _ _ _ _

end Own

section Family

variable {T : Type} [Fintype T] [DecidableEq T] {s : Shape} {α : Type}

/-- Rectangles `r t`, one for each class of places: `cls` says which one a place is in. -/
structure Fam (s : Shape) (T : Type) where
  r : T → Rect s
  cls : s.Idx → T
  str : ∀ t a, (r t).stride a = 1
  mem : ∀ t i, i ∈ (r t).set ↔ cls i = t

namespace Fam

variable (R : Fam s T)

/-- Different parts do not overlap. -/
theorem disj (t t' : T) (h : t ≠ t') : Disjoint (R.r t).set (R.r t').set :=
  Finset.disjoint_left.mpr fun i hi hi' => h (((R.mem t i).mp hi).symm.trans ((R.mem t' i).mp hi'))

/-- The parts cover the whole. -/
theorem cov : (Finset.univ : Finset T).biUnion (fun t => (R.r t).set) = Finset.univ :=
  Finset.eq_univ_iff_forall.mpr fun i => Finset.mem_biUnion.mpr ⟨R.cls i, Finset.mem_univ _, (R.mem _ i).mpr rfl⟩

/-- The part that an index of a part lies in is that part. -/
theorem cls_emb (t : T) (j : (R.r t).shape.Idx) : R.cls ((R.r t).emb j) = t :=
  (R.mem t _).mp ((R.r t).map_emb_univ ▸ Finset.mem_map_of_mem _ (Finset.mem_univ j))

/-- Values on the whole made of values on the parts. -/
def glue [Nonempty α] (X : ∀ t, (R.r t).shape.Idx → α) : s.Idx → α :=
  fun i => (R.r (R.cls i)).overlay (fun _ => Classical.arbitrary α) (X (R.cls i)) i

/-- The joined array, read in a part, is the part's array. -/
theorem glue_emb [Nonempty α] (X : ∀ t, (R.r t).shape.Idx → α) (t : T) (j : (R.r t).shape.Idx) : R.glue X ((R.r t).emb j) = X t j := by
  have key : ∀ t', t' = t → (R.r t').overlay (fun _ => Classical.arbitrary α) (X t') ((R.r t).emb j) = X t j := by
    rintro _ rfl; exact Rect.overlay_emb _ _ _ _
  exact key _ (R.cls_emb t j)

end Fam

variable (c : Dev nD) {sp : Space} {e : EltTy} (R : Fam s T) (M : Memref sig .tc sp s e)

omit [FloatOps F] [Named F] in
/-- The whole, with an array, is its parts, with the array's. -/
theorem fam_split (q : PosShare TreeShare) (X : s.Idx → Elt F e) :
    (owns (c : Thread nD τ) M q X : sProp 𝕄) ⊢ bigSep Finset.univ fun t => owns (c : Thread nD τ) (M.slice (R.r t) (R.str t)) q (fun j => X ((R.r t).emb j)) :=
  owns_rects (c : Thread nD τ) M q R.r R.str R.disj R.cov X

omit [Named F] in
/-- The parts, with their arrays, are the whole with the joined array. -/
theorem fam_join (q : PosShare TreeShare) (X : ∀ t, (R.r t).shape.Idx → Elt F e) (Y : s.Idx → Elt F e)
    (h : ∀ t, (fun j => Y ((R.r t).emb j)) = X t) :
    (bigSep Finset.univ fun t => owns (c : Thread nD τ) (M.slice (R.r t) (R.str t)) q (X t)) ⊢ (owns (c : Thread nD τ) M q Y : sProp 𝕄) := by
  rw [show X = fun t j => Y ((R.r t).emb j) from funext fun t => (h t).symm]
  exact owns_of_rects (c : Thread nD τ) M q R.r R.str R.disj R.cov Y

omit [FloatOps F] [Named F] in
/-- The whole with some contents is its parts with some contents. -/
theorem fam_some :
    (some' (F := F) c M : sProp 𝕄) ⊢ bigSep Finset.univ fun t => some' c (M.slice (R.r t) (R.str t)) := by
  have h (X : s.Idx → Elt F e) : (owns (c : Thread nD τ) M fullShare X : sProp 𝕄) ⊢ bigSep Finset.univ fun t => some' c (M.slice (R.r t) (R.str t)) :=
    (fam_split c R M fullShare X).trans (bigSep_mono fun t _ => some'_intro c (M.slice (R.r t) (R.str t)) _)
  iintro H
  ihave H := (show some' c M ⊢ iprop(∃ X, owns (c : Thread nD τ) M fullShare X) from .rfl) $$ H
  icases H with ⟨%X, H⟩
  iapply (h X); iexact H

omit [Named F] in
/-- The parts with some contents are the whole with some contents. -/
theorem fam_some_join :
    (bigSep Finset.univ fun t => some' c (M.slice (R.r t) (R.str t))) ⊢ (some' (F := F) c M : sProp 𝕄) := by
  unfold some'
  refine (bigSep_exists_pi Finset.univ fun t (X : (R.r t).shape.Idx → Elt F e) => owns (c : Thread nD τ) (M.slice (R.r t) (R.str t)) fullShare X).trans ?_
  iintro ⟨%X, H⟩
  iexists R.glue X
  iapply (fam_join c R M fullShare X (R.glue X) (fun t => funext fun j => R.glue_emb X t j))
  iexact H

end Family

section Steps

variable (c : Dev nD) {sp : Space} {s : Shape} {e : EltTy} (M : Memref sig .tc .vmem s e) (r : Rect s) (hr : ∀ a, r.stride a = 1)

/-- A load from a rectangle whose cells are held. -/
theorem wp_load_part {α : Type} {q : PosShare TreeShare} {X : r.shape.Idx → Elt F e} {hl : M.view.LoadsAt r.toLoadRect}
    {k : (r.shape.Idx → Elt F e) → Kp F α} {Q : α → sProp 𝕄} :
    (owns (c : Thread nD τ) (M.slice r hr) q X : sProp 𝕄)
      ⊢ iprop((owns (c : Thread nD τ) (M.slice r hr) q X -∗ WP c (k X) Q) -∗ WP c ((Prog.lift (.load M r.toLoadRect hl) : Kp F _).bind k) Q) := by
  unfold owns
  iintro ⟨%f, %hf, H⟩ Hk
  iapply (wp_load 𝒱₀ (c : Thread nD τ) none Set.univ (m := M) (r := r.toLoadRect) (S := (M.slice r hr).view.set) (f := f)
    (View.set_slice M.view r).symm.le) $$ H
  iintro H
  rw [show M.view.readAt (Elt F) r.toLoadRect f = X from hf]
  iapply Hk
  iexists f
  isplitr
  · ipureintro; exact hf
  · iexact H

/-- A store to a rectangle whose cells are held. -/
theorem wp_store_part {α : Type} {X w : r.shape.Idx → Elt F e} {hx : (M.access r).Stores Finset.univ} {hm : (Finset.univ : Finset r.shape.Idx) = Finset.univ ∨ ∀ a, r.stride a = 1}
    {k : PUnit → Kp F α} {Q : α → sProp 𝕄} :
    (owns (c : Thread nD τ) (M.slice r hr) fullShare X : sProp 𝕄)
      ⊢ iprop((owns (c : Thread nD τ) (M.slice r hr) fullShare w -∗ WP c (k ⟨⟩) Q) -∗ WP c ((Prog.lift (.store M r w Finset.univ hx hm) : Kp F _).bind k) Q) := by
  unfold owns
  iintro ⟨%f, %hf, H⟩ Hk
  iapply (wp_store 𝒱₀ (c : Thread nD τ) none Set.univ (m := M) (r := r) (S := (M.slice r hr).view.set) (f := f) (w := w) (Mk := Finset.univ)
    (le_of_eq rfl)) $$ H
  iintro H
  iapply Hk
  iexists (M.access r).write (Elt F) f w Finset.univ
  isplitr; · ipureintro; exact View.read_write_univ _ _
  iexact H

/-- A load of a part of what is owned whole. -/
theorem wp_load_in {α : Type} {q : PosShare TreeShare} {X : s.Idx → Elt F e} {hl : M.view.LoadsAt r.toLoadRect}
    {k : (r.shape.Idx → Elt F e) → Kp F α} {Q : α → sProp 𝕄} :
    (owns (c : Thread nD τ) M q X : sProp 𝕄)
      ⊢ iprop((owns (c : Thread nD τ) M q X -∗ WP c (k fun j => X (r.emb j)) Q) -∗ WP c ((Prog.lift (.load M r.toLoadRect hl) : Kp F _).bind k) Q) := by
  unfold owns
  iintro ⟨%f, %hf, H⟩ Hk
  iapply (wp_load 𝒱₀ (c : Thread nD τ) none Set.univ (m := M) (r := r.toLoadRect) (S := M.view.set) (f := f)
    (Finset.map_subset_map.mpr (Finset.subset_univ _))) $$ H
  iintro H
  rw [show M.view.readAt (Elt F) r.toLoadRect f = fun j => X (r.emb j) from hf ▸ rfl]
  iapply Hk
  iexists f
  isplitr
  · ipureintro; exact hf
  · iexact H

/-- A store over all of what is owned. -/
theorem wp_store_all {α : Type} {X w : s.Idx → Elt F e} {off : Fin s.rank → ℕ} {inb : ∀ a, off a + s.size a ≤ s.size a}
    {hx : (M.access (Rect.unit off s.size inb)).Stores Finset.univ} {hm : (Finset.univ : Finset (Rect.unit off s.size inb).shape.Idx) = Finset.univ ∨ ∀ a, (Rect.unit off s.size inb).stride a = 1}
    {k : PUnit → Kp F α} {Q : α → sProp 𝕄} :
    (owns (c : Thread nD τ) M fullShare X : sProp 𝕄)
      ⊢ iprop((owns (c : Thread nD τ) M fullShare w -∗ WP c (k ⟨⟩) Q) -∗ WP c ((Prog.lift (.store M (Rect.unit off s.size inb) w Finset.univ hx hm) : Kp F _).bind k) Q) := by
  unfold owns
  iintro ⟨%f, %hf, H⟩ Hk
  iapply (wp_store 𝒱₀ (c : Thread nD τ) none Set.univ (m := M) (r := Rect.unit off s.size inb) (S := M.view.set) (f := f) (w := w) (Mk := Finset.univ)
    (View.set_slice_subset _ _)) $$ H
  iintro H
  iapply Hk
  iexists (M.access (Rect.unit off s.size inb)).write (Elt F) f w Finset.univ
  isplitr
  · ipureintro
    funext j
    have := congrFun (View.read_write_univ (v := M.access (Rect.unit off s.size inb)) f w) j
    refine Eq.trans ?_ this
    exact congrArg (M.view.read (Elt F) _) (emb_all inb j).symm
  iexact H

/-- A load of all of what is owned. -/
theorem wp_load_all {α : Type} {q : PosShare TreeShare} {X : s.Idx → Elt F e} {off : Fin s.rank → ℕ} {inb : ∀ a, off a + s.size a ≤ s.size a}
    {hl : M.view.LoadsAt (Rect.unit off s.size inb).toLoadRect} {k : (s.Idx → Elt F e) → Kp F α} {Q : α → sProp 𝕄} :
    (owns (c : Thread nD τ) M q X : sProp 𝕄)
      ⊢ iprop((owns (c : Thread nD τ) M q X -∗ WP c (k X) Q) -∗ WP c ((Prog.lift (.load M (Rect.unit off s.size inb).toLoadRect hl) : Kp F _).bind k) Q) := by
  refine (wp_load_in c M (Rect.unit off s.size inb) (X := X) (hl := hl) (k := k) (Q := Q)).trans ?_
  rw [show (fun j => X ((Rect.unit off s.size inb).emb j)) = X from funext fun j => congrArg X (emb_all inb j)]

end Steps

end Cert.KernelIdeal.Body
end
-- ==== Proof.OffsForm.lean ====
module

public import proofs.«01_k».proof.Proof.Prog

/-! The offsets in closed form over the torus of four rows of four devices. -/

@[expose] public section

noncomputable section

namespace Cert.KernelIdeal.Body

open Idealize.ShloMosaic Idealize.ShloMosaic.TcCoe
open Idealize.SL Idealize.SL.Sem
open Cert.KernelIdeal Cert.KernelIdeal.Gen

/-- The device's place in its row. -/
def qq (d : Dev nD) : Fin 4 := ⟨d.val % 4, Nat.mod_lt _ (by decide)⟩
/-- The device's row. -/
def rr (d : Dev nD) : Fin 4 := ⟨d.val / 4, by have := d.isLt; have : d.val < 16 := this; omega⟩
/-- The device at place `q` of row `r`. -/
def devAt (r q : Fin 4) : Dev nD := ⟨4 * r.val + q.val, by show _ < 16; omega⟩

/-- A piece of the result: its chunk of rows, its strip in the chunk, the upper or lower half of the
    strip, the left or right half of the columns. -/
structure Piece where
  k : Fin 4
  s : Fin 4
  b : Fin 2
  w : Fin 2
  deriving DecidableEq, Fintype

namespace Piece

/-- Where the piece starts. -/
abbrev off (p : Piece) : Fin 3 → Nat := ![0, 256 * p.k.val + 64 * p.s.val + 32 * p.b.val, 512 * p.w.val]

/-- Each piece lies in the result. -/
theorem inb (p : Piece) : ∀ a, p.off a + S1x32x512.size a ≤ S1x1024x1024.size a := by
  rcases p with ⟨k, s, b, w⟩; revert k s b w; decide

end Piece

/-- How far after the device's own the finished chunk (or strip) of direction `w` lies. -/
abbrev fin1 (w : Fin 2) : Fin 4 := ai w 2

/-- The piece a transfer of the gathering moves, from the device at `(q, r)`. -/
def pieceAt (q r : Fin 4) : Tx → Piece
  | .s1 0 k => ⟨q + 1, r + 1 - k.castSucc, 0, 0⟩
  | .s1 1 k => ⟨q + 3, r + 3 + k.castSucc, 0, 1⟩
  | .s1 2 k => ⟨q + 1 - k.castSucc, r + 1, 1, 0⟩
  | .s1 3 k => ⟨q + 3 + k.castSucc, r + 3, 1, 1⟩
  | .s2 0 u j => ⟨q + 1 - u.castSucc, j, 0, 0⟩
  | .s2 1 u j => ⟨q + 3 + u.castSucc, j, 0, 1⟩
  | .s2 2 u j => ⟨j, r + 1 - u.castSucc, 1, 0⟩
  | .s2 3 u j => ⟨j, r + 3 + u.castSucc, 1, 1⟩
  | _ => ⟨0, 0, 0, 0⟩

/-- Where chunk `k`'s window of keys starts. -/
def w0 : Fin 4 → Nat := ![0, 128, 384, 512]

/-- Each of a device's heads lies in the array of heads. -/
theorem inbKv (d : Dev nD) (h : Fin 8) : ∀ a, (![0, 0, 8 * d.val + h.val, 0] : Fin 4 → Nat) a + S1x1024x1x128.size a ≤ S1x1024x128x128.size a := by
  revert d h; decide +kernel
/-- Each chunk of rows lies in `x`. -/
theorem inbX (k : Fin 4) : ∀ a, (![0, 256 * k.val, 0] : Fin 3 → Nat) a + S1x256x1024.size a ≤ S1x1024x1024.size a := by
  revert k; decide
/-- Each chunk's window lies in a head's keys or values. -/
theorem inbWin (k : Fin 4) (h : Fin 8) : ∀ a, (![h.val, w0 k, 0] : Fin 3 → Nat) a + S1x512x128.size a ≤ S8x1024x128.size a := by
  revert k h; decide
/-- Each chunk lies in the buffer of products. -/
theorem inbPart (k : Fin 4) : ∀ a, (![256 * k.val, 0] : Fin 2 → Nat) a + S256x1024.size a ≤ S1024x1024.size a := by
  revert k; decide
/-- Each half chunk lies in the buffer of products. -/
theorem inbHalf (w : Fin 2) (k : Fin 4) : ∀ a, (![256 * k.val, 512 * w.val] : Fin 2 → Nat) a + S256x512.size a ≤ S1024x1024.size a := by
  revert w k; decide
/-- Each part lies in its strip. -/
theorem inbStrip (s : Fin 4) : ∀ a, (![64 * s.val, 0] : Fin 2 → Nat) a + S64x512.size a ≤ S256x512.size a := by
  revert s; decide
/-- Each device's part lies in the result. -/
theorem inbOwn (k s : Fin 4) (w : Fin 2) :
    ∀ a, (![0, 256 * k.val + 64 * s.val, 512 * w.val] : Fin 3 → Nat) a + S1x64x512.size a ≤ S1x1024x1024.size a := by
  revert k s w; decide

/-- The neighbours: next and previous in the row, next and previous in the column. -/
def nbr (i : Fin 4) (d : Dev nD) : Dev nD :=
  devAt (![rr d, rr d, rr d + 1, rr d + 3] i) (![qq d + 1, qq d + 3, qq d, qq d] i)

/-- The offsets. -/
def offs (d : Dev nD) : Offs where
  word i := BitVec.ofNat 32 (qq d + i).val
  kv h := ⟨![0, 0, 8 * d.val + h.val, 0], inbKv d h⟩
  x i := ⟨![0, 256 * (qq d + i).val, 0], inbX _⟩
  win i h := ⟨![h.val, w0 (qq d + i), 0], inbWin _ _⟩
  part i := ⟨![256 * (qq d + i).val, 0], inbPart _⟩
  half w i := ⟨![256 * (qq d + i).val, 512 * w.val], inbHalf _ _⟩
  strip w i := ⟨![64 * (rr d + i).val, 0], inbStrip _⟩
  own w := ⟨![0, 256 * (qq d + fin1 w).val + 64 * (rr d + fin1 w).val, 512 * w.val], inbOwn _ _ _⟩
  s1 f k := ⟨(pieceAt (qq d) (rr d) (.s1 f k)).off, Piece.inb _⟩
  s2 f u j := ⟨(pieceAt (qq d) (rr d) (.s2 f u j)).off, Piece.inb _⟩
  nbr i := nbr i d

end Cert.KernelIdeal.Body
end
-- ==== Proof.Proto.lean ====
module

public import proofs.«01_k».proof.Proof.Regions
public import proofs.«01_k».proof.Proof.OffsForm

/-! The protocol: which cells there are, what each hands over, what a device owes, and the rules for one
    transfer's start and wait. -/

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Cells -/

/-- The semaphores of the protocol: the barrier, those of the local copies (keys `0`, values `1`, by
    head), and a transfer's at its sender and at its receiver. -/
inductive CK
  | bar
  | loc (b : Fin 2) (h : Fin 8)
  | snd (x : Tx)
  | rcv (x : Tx)
  deriving DecidableEq, Fintype

/-- The number of a local copy's semaphore: keys first, then values. -/
def locId : Fin 2 → Fin 8 → Fin 16
  | 0, h => ⟨h.val, by omega⟩
  | 1, h => ⟨h.val + 8, by omega⟩

/-- The semaphore of a kind. -/
def csem : CK → SemLoc sig
  | .bar => .reg barS.sem
  | .loc b h => .dma (lsem (locId b h))
  | .snd x => .dma (sS x)
  | .rcv x => .dma (sR x)

/-- The kind of a copy's semaphore, by its number. -/
def kindN (n : ℕ) : Option CK :=
  if n < 4 then none
  else if n < 20 then some (.loc (Fin.ofNat 2 ((n - 4) / 8)) (Fin.ofNat 8 ((n - 4) % 8)))
  else if n < 26 then some (.snd (.a (Fin.ofNat 2 ((n - 20) / 3)) (Fin.ofNat 3 ((n - 20) % 3))))
  else if n < 32 then some (.rcv (.a (Fin.ofNat 2 ((n - 26) / 3)) (Fin.ofNat 3 ((n - 26) % 3))))
  else if n < 38 then some (.snd (.b (Fin.ofNat 2 ((n - 32) / 3)) (Fin.ofNat 3 ((n - 32) % 3))))
  else if n < 44 then some (.rcv (.b (Fin.ofNat 2 ((n - 38) / 3)) (Fin.ofNat 3 ((n - 38) % 3))))
  else if n < 56 then some (.snd (.s1 (Fin.ofNat 4 ((n - 44) / 3)) (Fin.ofNat 3 ((n - 44) % 3))))
  else if n < 68 then some (.rcv (.s1 (Fin.ofNat 4 ((n - 56) / 3)) (Fin.ofNat 3 ((n - 56) % 3))))
  else if n < 116 then some (.snd (.s2 (Fin.ofNat 4 ((n - 68) / 12)) (Fin.ofNat 3 ((n - 68) / 4 % 3)) (Fin.ofNat 4 ((n - 68) % 4))))
  else some (.rcv (.s2 (Fin.ofNat 4 ((n - 116) / 12)) (Fin.ofNat 3 ((n - 116) / 4 % 3)) (Fin.ofNat 4 ((n - 116) % 4))))

/-- Which of them a semaphore is. -/
def kindOf : SemLoc sig → Option CK
  | .reg _ => some .bar
  | .dma q => kindN q.val

/-- The kind of a sending semaphore. -/
theorem kindN_snd (x : Tx) : kindN (sS x).val = some (.snd x) := by
  rcases x with ⟨w, t⟩ | ⟨w, t⟩ | ⟨f, k⟩ | ⟨f, u, j⟩
  · revert w t; decide +kernel
  · revert w t; decide +kernel
  · revert f k; decide +kernel
  · revert f u j; decide +kernel

/-- The kind of a receiving semaphore. -/
theorem kindN_rcv (x : Tx) : kindN (sR x).val = some (.rcv x) := by
  rcases x with ⟨w, t⟩ | ⟨w, t⟩ | ⟨f, k⟩ | ⟨f, u, j⟩
  · revert w t; decide +kernel
  · revert w t; decide +kernel
  · revert f k; decide +kernel
  · revert f u j; decide +kernel

/-- The kind of a local copy's semaphore. -/
theorem kindN_loc (b : Fin 2) (h : Fin 8) : kindN (lsem (locId b h)).val = some (.loc b h) := by
  revert b h; decide +kernel

/-- The kind of a kind's semaphore is that kind. -/
theorem kind_csem : ∀ k, kindOf (csem k) = some k
  | .bar => rfl
  | .loc b h => kindN_loc b h
  | .snd x => kindN_snd x
  | .rcv x => kindN_rcv x

abbrev cell (c : Dev nD) (k : CK) : GSem nD τ sig := ((c : Thread nD τ), csem k)

/-- Different kinds have different semaphores. -/
theorem csem_inj : Function.Injective csem := fun k k' h => by
  have := kind_csem k; rw [h, kind_csem] at this; exact (Option.some.inj this).symm

/-- A device and a kind are given by their semaphore. -/
theorem cell_inj {c c' : Dev nD} {k k' : CK} (h : cell c k = cell c' k') : c = c' ∧ k = k' :=
  ⟨congrArg (fun g : GSem nD τ sig => g.1.1) h, csem_inj (congrArg Prod.snd h)⟩

/-! ## Neighbours -/

/-- The opposite direction. -/
def opp : Fin 4 → Fin 4 := ![1, 0, 3, 2]

/-- A neighbour's opposite neighbour is the device itself. -/
theorem nbr_opp (i : Fin 4) (d : Dev nD) : nbr i (nbr (opp i) d) = d := by revert i d; decide +kernel
/-- And the other way round. -/
theorem opp_nbr (i : Fin 4) (d : Dev nD) : nbr (opp i) (nbr i d) = d := by revert i d; decide +kernel
/-- The opposite of the opposite direction is the direction. -/
theorem opp_opp (i : Fin 4) : opp (opp i) = i := by revert i; decide

/-- Where device `c`'s transfer `x` goes, -/
abbrev peer (c : Dev nD) (x : Tx) : Dev nD := nbr x.dir c
/-- and whose transfer `x` it receives. -/
abbrev frm (c : Dev nD) (x : Tx) : Dev nD := nbr (opp x.dir) c

/-! ## Amounts -/

/-- What a transfer counts. -/
def Nx : Tx → ℕ
  | .a _ _ => (slotA (recvA 0) 0).view.dmaCredit
  | .b _ _ => (slotB (recvB 0) 0).view.dmaCredit
  | .s1 _ _ => (pieceM (⟨(⟨0, 0, 0, 0⟩ : Piece).off, Piece.inb _⟩)).view.dmaCredit
  | .s2 _ _ _ => (pieceM (⟨(⟨0, 0, 0, 0⟩ : Piece).off, Piece.inb _⟩)).view.dmaCredit

/-- What a copy's landing is worth. -/
theorem dst_credit (O : Offs) (x : Tx) : (dstM O x).view.dmaCredit = Nx x := by
  rcases x with ⟨w, t⟩ | ⟨w, t⟩ | ⟨f, k⟩ | ⟨f, u, j⟩
  · fin_cases w <;> rfl
  · fin_cases w <;> rfl
  · rfl
  · rfl

/-- What a copy's departure is worth. -/
theorem src_credit (O : Offs) (x : Tx) : (srcM O x).view.dmaCredit = Nx x := by
  rcases x with ⟨w, t⟩ | ⟨w, t⟩ | ⟨f, k⟩ | ⟨f, u, j⟩
  · fin_cases w <;> fin_cases t <;> rfl
  · fin_cases w <;> fin_cases t <;> rfl
  · rfl
  · rfl

/-- A remote copy is worth something. -/
theorem Nx_pos (x : Tx) : 0 < Nx x := by
  rcases x with ⟨w, t⟩ | ⟨w, t⟩ | ⟨f, k⟩ | ⟨f, u, j⟩ <;> exact View.dmaCredit_pos _ (by decide)

/-- What a local copy counts. -/
def NL : ℕ := (slotH kM 0).view.dmaCredit
/-- A local copy is worth something. -/
theorem NL_pos : 0 < NL := View.dmaCredit_pos _ (by decide)

/-! ## The schedule -/

/-- The buffer of keys, or of values. -/
abbrev kvM : Fin 2 → Memref sig .tc .vmem S8x1024x128 .f32
  | 0 => kM | 1 => vM
/-- The array of keys, or of values. -/
abbrev kvH : Fin 2 → Memref sig .tc .hbm S1x1024x128x128 .f32
  | 0 => kHbm | 1 => vHbm

/-- What a local copy's landing is worth. -/
theorem loc_credit (b : Fin 2) (h : Fin 8) : (slotH (kvM b) h).view.dmaCredit = NL := by fin_cases b <;> rfl

/-- The values moved: each transfer's, and each head's keys and values. -/
structure Vals (F : FTy → Type) where
  tx : Dev nD → (x : Tx) → x.shp.Idx → Elt F .f32
  kv : Dev nD → Fin 2 → Fin 8 → S1024x128.Idx → Elt F .f32

section Sched

variable (V : Vals F)

/-- What device `c` offers at the start to the neighbour in direction `i`: the places it will write. -/
def offer (c : Dev nD) (i : Fin 4) : sProp 𝕄 :=
  bigSep (Finset.univ.filter fun x : Tx => x.dir = opp i) fun x => some' (F := F) c (dstM (offs (frm c x)) x)

instance offer_storable (c : Dev nD) (i : Fin 4) : BI.Storable (upEmb : UEmb _ 𝕄) (offer (F := F) c i) := by
  unfold offer; infer_instance

/-- What a duty hands over, by its semaphore's kind. -/
def payOf (c : Dev nD) (d : Fin 4) : CK → sProp 𝕄
  | .bar => offer (nbr (opp d) c) d
  | .loc b h => iprop(owns (c : Thread nD τ) (slotH (kvM b) h) fullShare (V.kv c b h)
      ∗ owns (c : Thread nD τ) (headM (kvH b) ((offs c).kv h)) fullShare (V.kv c b h))
  | .snd x => owns (c : Thread nD τ) (srcM (offs c) x) fullShare (V.tx c x)
  | .rcv x => owns (c : Thread nD τ) (dstM (offs (frm c x)) x) fullShare (V.tx (frm c x) x)

instance payOf_storable (c : Dev nD) (d : Fin 4) (k : CK) : BI.Storable (upEmb : UEmb _ 𝕄) (payOf V c d k) := by
  rcases k with _ | ⟨b, h⟩ | x | x <;> unfold payOf <;> infer_instance

/-- What a duty pays, by its semaphore's kind. -/
def amtOf : CK → ℕ
  | .bar => 1
  | .loc _ _ => NL
  | .snd x => Nx x
  | .rcv x => Nx x

/-- Every duty pays something. -/
theorem amtOf_pos : ∀ k, 0 < amtOf k
  | .bar => Nat.one_pos
  | .loc _ _ => NL_pos
  | .snd x => Nx_pos x
  | .rcv x => Nx_pos x

/-- The duties of a kind: four at the barrier, else one. -/
def dutiesOf : CK → Finset (Fin 4)
  | .bar => Finset.univ
  | _ => {0}

/-- The level of a kind: first what a device pays itself, then the barrier, then the landings in the order of sending. -/
def lvlOf : CK → ℕ
  | .bar => 1
  | .rcv x => 2 + x.ord
  | _ => 0

/-- One round. -/
def Rd : Rounds.Schedule (GSem nD τ sig) (Fin 4) 𝕄 where
  duties g r := if r = 0 ∧ g.1.2 = .tc then (kindOf g.2).elim ∅ dutiesOf else ∅
  unitless _ := False
  amount g _ _ := (kindOf g.2).elim 1 amtOf
  payload g _ d := (kindOf g.2).elim iprop(emp) (payOf V g.1.1 d)
  amount_pos g _ _ _ := by
    rcases kindOf g.2 with _ | k
    · exact Nat.one_pos
    · exact amtOf_pos k

instance Rd_storable (g : GSem nD τ sig) (r : ℕ) (d : Fin 4) : BI.Storable (upEmb : UEmb _ 𝕄) ((Rd (F := F) V).payload g r d) := by
  show BI.Storable upEmb ((kindOf g.2).elim iprop(emp) (payOf V g.1.1 d))
  rcases kindOf g.2 with _ | k
  · show BI.Storable upEmb iprop(emp); infer_instance
  · show BI.Storable upEmb (payOf V g.1.1 d k); infer_instance

variable (c : Dev nD) (k : CK)

omit [FloatOps F] [Named F] in
/-- A semaphore's duties in the only round. -/
theorem duties_cell : (Rd (F := F) V).duties (cell c k) 0 = dutiesOf k := by
  dsimp only [Rd, cell]; rw [if_pos ⟨rfl, rfl⟩, kind_csem]; rfl
omit [FloatOps F] [Named F] in
/-- There are no duties after it. -/
theorem duties_later (g : GSem nD τ sig) : ∀ r, 1 ≤ r → (Rd (F := F) V).duties g r = ∅ :=
  fun r hr => by dsimp only [Rd]; rw [if_neg fun h => by omega]
omit [FloatOps F] [Named F] in
/-- What a semaphore's duty pays. -/
theorem amount_cell (d : Fin 4) : (Rd (F := F) V).amount (cell c k) 0 d = amtOf k := by
  dsimp only [Rd, cell]; rw [kind_csem]; rfl
omit [FloatOps F] [Named F] in
/-- What a semaphore's duty hands over. -/
theorem payload_cell (d : Fin 4) : (Rd (F := F) V).payload (cell c k) 0 d = payOf V c d k := by
  dsimp only [Rd, cell]; rw [kind_csem]; rfl
omit [FloatOps F] [Named F] in
/-- What a semaphore's round brings in all. -/
theorem expect_cell : (Rd (F := F) V).expect (cell c k) 0 = (dutiesOf k).card * amtOf k := by
  unfold Schedule.expect Schedule.amountOf
  rw [duties_cell, Finset.sum_congr rfl fun d _ => amount_cell V c k d, Finset.sum_const, smul_eq_mul]
omit [FloatOps F] [Named F] in
/-- What a semaphore's round hands over in all. -/
theorem rest_cell : bigSep ((Rd (F := F) V).duties (cell c k) 0 \ ∅) (fun d => (Rd (F := F) V).payload (cell c k) 0 d)
    = bigSep (dutiesOf k) fun d => payOf V c d k := by
  rw [Finset.sdiff_empty, duties_cell]; exact bigSep_congr fun d _ => payload_cell V c k d

end Sched

/-! ## What is owed -/

/-- The transfers not yet started, once `n` have been, owed to their receivers. -/
def Orem (c : Dev nD) (n : ℕ) : CellTallies nD τ sig Unit :=
  ∑ x ∈ Finset.univ.filter (fun x : Tx => n ≤ x.ord), tallyAt (cell (peer c x) (.rcv x)) () (Nx x)

/-- Different copies have different places in the order. -/
theorem ord_inj : Function.Injective Tx.ord := by
  intro x y h; revert x y; decide +kernel

/-- Before a copy a device owes that copy and what comes after. -/
theorem Orem_step (c : Dev nD) (x : Tx) : Orem c x.ord = Orem c (x.ord + 1) + tallyAt (cell (peer c x) (.rcv x)) () (Nx x) := by
  unfold Orem
  have : Finset.univ.filter (fun y : Tx => x.ord ≤ y.ord) = insert x (Finset.univ.filter fun y : Tx => x.ord + 1 ≤ y.ord) := by
    ext y; simp only [Finset.mem_filter, Finset.mem_univ, true_and, Finset.mem_insert]
    constructor
    · intro h; rcases Nat.eq_or_lt_of_le h with h | h
      · exact Or.inl (ord_inj h).symm
      · exact Or.inr h
    · rintro (rfl | h)
      · exact le_refl _
      · omega
  rw [this, Finset.sum_insert (by simp), add_comm]

/-- After the last copy a device owes nothing. -/
theorem Orem_end (c : Dev nD) : Orem c 72 = 0 := by
  unfold Orem
  rw [show Finset.univ.filter (fun x : Tx => 72 ≤ x.ord) = ∅ from by decide +kernel, Finset.sum_empty]

/-- A debt is owed to its own semaphore only. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h; exact absurd h (Nat.lt_irrefl 0)

/-- What is owed after a place is owed to the receiving semaphore of a copy of that place or later. -/
theorem Orem_pos {c : Dev nD} {n : ℕ} {g : GSem nD τ sig} {u : Unit} (h : 0 < Orem c n g u) :
    ∃ x : Tx, n ≤ x.ord ∧ g = cell (peer c x) (.rcv x) := by
  unfold Orem at h
  rw [Finset.sum_apply, Finsupp.finset_sum_apply] at h
  obtain ⟨x, hx, hp⟩ := Finset.exists_ne_zero_of_sum_ne_zero (Nat.pos_iff_ne_zero.mp h)
  exact ⟨x, (Finset.mem_filter.mp hx).2, tally_pos (Nat.pos_iff_ne_zero.mpr hp)⟩

/-- With the barrier's signals from the `i`-th on. -/
def Obar (c : Dev nD) : ℕ → CellTallies nD τ sig Unit
  | 0 => Orem c 0 + tallyAt (cell (nbr 3 c) .bar) () 1 + tallyAt (cell (nbr 2 c) .bar) () 1 + tallyAt (cell (nbr 1 c) .bar) () 1 + tallyAt (cell (nbr 0 c) .bar) () 1
  | 1 => Orem c 0 + tallyAt (cell (nbr 3 c) .bar) () 1 + tallyAt (cell (nbr 2 c) .bar) () 1 + tallyAt (cell (nbr 1 c) .bar) () 1
  | 2 => Orem c 0 + tallyAt (cell (nbr 3 c) .bar) () 1 + tallyAt (cell (nbr 2 c) .bar) () 1
  | 3 => Orem c 0 + tallyAt (cell (nbr 3 c) .bar) () 1
  | _ => Orem c 0

/-- What two debts owe together one of them owes. -/
theorem add_pos' {A B : CellTallies nD τ sig Unit} {g : GSem nD τ sig} {u : Unit} (h : 0 < (A + B) g u) : 0 < A g u ∨ 0 < B g u := by
  rw [Pi.add_apply, Finsupp.add_apply] at h; omega

/-- What a device owes at its entry is a signal to a neighbour or a copy. -/
theorem Obar_pos {c : Dev nD} {g : GSem nD τ sig} {u : Unit} (h : 0 < Obar c 0 g u) :
    (∃ x : Tx, g = cell (peer c x) (.rcv x)) ∨ ∃ i, g = cell (nbr i c) .bar := by
  unfold Obar at h
  rcases add_pos' h with h | h
  · rcases add_pos' h with h | h
    · rcases add_pos' h with h | h
      · rcases add_pos' h with h | h
        · obtain ⟨x, -, hx⟩ := Orem_pos h; exact Or.inl ⟨x, hx⟩
        · exact Or.inr ⟨_, tally_pos h⟩
      · exact Or.inr ⟨_, tally_pos h⟩
    · exact Or.inr ⟨_, tally_pos h⟩
  · exact Or.inr ⟨_, tally_pos h⟩

/-- Where debts are counted: at the semaphores of the main cores. -/
def L (g : GSem nD τ sig) : Finset Unit := if g.1.2 = .tc then {()} else ∅
/-- The level of a semaphore. -/
def lv (g : GSem nD τ sig) (_ : Unit) : ℕ := (kindOf g.2).elim 0 lvlOf

/-- Other cores owe nothing. -/
theorem L_of_ne (g : GSem nD τ sig) (h : g.1.2 ≠ .tc) : L g = ∅ := if_neg h
/-- The main cores' semaphores are counted. -/
theorem L_tc (c : Dev nD) (sm : SemLoc sig) : L ((c : Thread nD τ), sm) = {()} := if_pos rfl
/-- The level of a kind's semaphore. -/
theorem lv_cell (c : Dev nD) (k : CK) (u : Unit) : lv (cell c k) u = lvlOf k := by
  unfold lv; dsimp only [cell]; rw [kind_csem]; rfl

omit [FloatOps F] [Named F] in
/-- A wait below everything that is still owed is allowed. -/
theorem mayWait_cell (c : Dev nD) (k : CK) (n : ℕ) (h : lvlOf k < 2 + n) :
    (levAts L lv : sProp 𝕄) ⊢ MayWait (c : Thread nD τ) (csem k) () (Orem c n) :=
  MayOwe.of_cut (L := L) (lev := lv) (lvlOf k) (fun p hp => by rw [Finset.mem_singleton.mp hp, L_tc]; exact Finset.mem_singleton_self _)
    (fun g u hg => by obtain ⟨x, -, rfl⟩ := Orem_pos hg; exact Finset.mem_singleton_self _)
    (fun p hp => by rw [Finset.mem_singleton.mp hp]; exact (lv_cell c k ()).le)
    (fun g u hg => by
      obtain ⟨x, hx, rfl⟩ := Orem_pos hg
      rw [lv_cell]; show _ < 2 + x.ord; omega)

omit [FloatOps F] [Named F] in
/-- The pipeline's own waits are allowed. -/
theorem mayWait_stage (c : Dev nD) (q : DmaSem sig) (hq : kindOf (.dma q) = none) (O : CellTallies nD τ sig Unit) (hO : O = Obar c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Obar_pos hg with ⟨x, rfl⟩ | ⟨i, rfl⟩ <;> exact Finset.mem_singleton_self _)
      (fun p hp => by rw [Finset.mem_singleton.mp hp]; show (kindOf (.dma q)).elim 0 lvlOf ≤ 0; rw [hq]; exact le_refl _)
      (fun g u hg => by
        rcases Obar_pos hg with ⟨x, rfl⟩ | ⟨i, rfl⟩
        · rw [lv_cell]; show 0 < 2 + x.ord; omega
        · rw [lv_cell]; exact Nat.one_pos)
  · rw [MayWait_zero]; iintro -; iempintro

end Cert.KernelIdeal.Body
end
-- ==== Proof.Steps.lean ====
module

public import proofs.«01_k».proof.Proof.Proto

/-! The body's steps under the protocol: lists of like steps, a transfer's start and wait, the barrier, the
    local copies. -/

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Lists -/

/-- The conjunction over a list. -/
def sepL {I M : Type} [URA M] (Φ : I → sProp M) : List I → sProp M
  | [] => iprop(emp)
  | i :: l => iprop(Φ i ∗ sepL Φ l)

/-- A product over no items. -/
theorem sepL_nil {I M : Type} [URA M] (Φ : I → sProp M) : sepL Φ [] = iprop(emp) := rfl
/-- A product over a first item and the others. -/
theorem sepL_cons {I M : Type} [URA M] (Φ : I → sProp M) (i : I) (l : List I) : sepL Φ (i :: l) = iprop(Φ i ∗ sepL Φ l) := rfl

/-- A product over a list without repetition is one over its set. -/
theorem sepL_eq {I M : Type} [URA M] [DecidableEq I] (Φ : I → sProp M) : ∀ l : List I, l.Nodup → sepL Φ l = bigSep l.toFinset Φ
  | [], _ => by rw [sepL_nil, List.toFinset_nil, BI.bigSep_empty]; rfl
  | i :: l, h => by
    rw [sepL_cons, List.toFinset_cons, BI.bigSep_insert (by rw [List.mem_toFinset]; exact (List.nodup_cons.mp h).1), sepL_eq Φ l (List.nodup_cons.mp h).2]; rfl

/-- A product over a list of all items is one over all items. -/
theorem sepL_univ {I M : Type} [URA M] [DecidableEq I] [Fintype I] (Φ : I → sProp M) (l : List I) (h : l.Nodup) (hu : l.toFinset = Finset.univ) :
    bigSep Finset.univ Φ = sepL Φ l := by rw [sepL_eq Φ l h, hu]

/-- A product over two lists, one after the other. -/
theorem sepL_append {I M : Type} [URA M] (Φ : I → sProp M) : ∀ l l' : List I, sepL Φ (l ++ l') = iprop(sepL Φ l ∗ sepL Φ l')
  | [], l' => by
    rw [List.nil_append, sepL_nil]
    exact BI.equiv_iff.mp ⟨by
      have h : (sepL Φ l' : sProp M) ⊢ iprop(emp ∗ sepL Φ l') := by
        iintro H; isplitr; · iempintro
        iexact H
      exact h, by
      have h : iprop(emp ∗ sepL Φ l') ⊢ (sepL Φ l' : sProp M) := by
        iintro ⟨-, H⟩; iexact H
      exact h⟩
  | i :: l, l' => by
    rw [List.cons_append, sepL_cons, sepL_cons, sepL_append Φ l l']
    exact BI.equiv_iff.mp ⟨by
      have h : iprop(Φ i ∗ sepL Φ l ∗ sepL Φ l') ⊢ iprop((Φ i ∗ sepL Φ l) ∗ sepL Φ l') := by
        iintro ⟨A, B, C⟩
        isplitr [C]
        · isplitl [A] <;> iassumption
        · iexact C
      exact h, by
      have h : iprop((Φ i ∗ sepL Φ l) ∗ sepL Φ l') ⊢ iprop(Φ i ∗ sepL Φ l ∗ sepL Φ l') := by
        iintro ⟨⟨A, B⟩, C⟩
        isplitl [A]; · iexact A
        isplitl [B] <;> iassumption
      exact h⟩

/-- Equal factors give equal products. -/
theorem sepL_congr {I M : Type} [URA M] (Φ Ψ : I → sProp M) : ∀ l : List I, (∀ i ∈ l, Φ i = Ψ i) → sepL Φ l = sepL Ψ l
  | [], _ => rfl
  | i :: l, h => by
    rw [sepL_cons, sepL_cons, h i List.mem_cons_self, sepL_congr Φ Ψ l fun j hj => h j (List.mem_cons_of_mem _ hj)]

/-- Implied factors give implied products. -/
theorem sepL_mono {I M : Type} [URA M] (Φ Ψ : I → sProp M) (h : ∀ i, Φ i ⊢ Ψ i) : ∀ l : List I, sepL Φ l ⊢ sepL Ψ l
  | [] => BI.Entails.refl _
  | i :: l => by
    have h2 := sepL_mono Φ Ψ h l
    rw [sepL_cons, sepL_cons]
    iintro ⟨A, B⟩
    isplitl [A]; · iapply (h i); iexact A
    iapply h2; iexact B

/-- A product over a list's images. -/
theorem sepL_map {I J M : Type} [URA M] (f : J → I) (Φ : I → sProp M) : ∀ l : List J, sepL Φ (l.map f) = sepL (fun j => Φ (f j)) l
  | [] => rfl
  | i :: l => by rw [List.map_cons, sepL_cons, sepL_cons, sepL_map f Φ l]

/-- A product of pairs gives a pair of products. -/
theorem sepL_sep {I M : Type} [URA M] (Φ Ψ : I → sProp M) : ∀ l : List I, sepL (fun i => iprop(Φ i ∗ Ψ i)) l ⊢ iprop(sepL Φ l ∗ sepL Ψ l)
  | [] => by
    rw [sepL_nil, sepL_nil]
    iintro -
    isplitr <;> iempintro
  | i :: l => by
    have h2 := sepL_sep Φ Ψ l
    rw [sepL_cons, sepL_cons, sepL_cons]
    iintro ⟨⟨A, B⟩, C⟩
    ihave C := h2 $$ C
    icases C with ⟨C, D⟩
    isplitl [A C]
    · isplitl [A] <;> iassumption
    · isplitl [B] <;> iassumption

/-- And back. -/
theorem sepL_sep' {I M : Type} [URA M] (Φ Ψ : I → sProp M) : ∀ l : List I, iprop(sepL Φ l ∗ sepL Ψ l) ⊢ sepL (fun i => iprop(Φ i ∗ Ψ i)) l
  | [] => by
    rw [sepL_nil, sepL_nil]
    iintro -
    iempintro
  | i :: l => by
    have h2 := sepL_sep' Φ Ψ l
    rw [sepL_cons, sepL_cons, sepL_cons]
    iintro ⟨⟨A, C⟩, B, D⟩
    isplitl [A B]
    · isplitl [A] <;> iassumption
    · iapply h2
      isplitl [C] <;> iassumption

/-- A product does not depend on the order. -/
theorem sepL_perm {I M : Type} [URA M] [DecidableEq I] (Φ : I → sProp M) (l l' : List I) (h : l.Nodup) (h' : l'.Nodup) (e : l.toFinset = l'.toFinset) :
    sepL Φ l = sepL Φ l' := by rw [sepL_eq Φ l h, sepL_eq Φ l' h', e]

/-- At each place of the list, counting from `n` by `δ`, `ok` holds. -/
def okL {I : Type} (δ : ℕ) (ok : I → ℕ → Prop) : ℕ → List I → Prop
  | _, [] => True
  | n, i :: l => ok i n ∧ okL δ ok (n + δ) l

/-- Programs in sequence may be grouped either way. -/
theorem pbind_assoc {E : Type → Type} {α β γ : Type} (p : Prog E α) (f : α → Prog E β) (g : β → Prog E γ) :
    (p.bind f).bind g = p.bind fun x => (f x).bind g := Prog.bind_assoc p f g

/-- Like steps one after the other. -/
theorem wp_list {I : Type} (c : Dev nD) (δ : ℕ) (ok : I → ℕ → Prop) (R : ℕ → sProp 𝕄) (A B : I → sProp 𝕄) (p : I → Kp F PUnit)
    (step : ∀ (i : I) (n : ℕ) (k : PUnit → Kp F PUnit) (Φ : PUnit → sProp 𝕄), ok i n →
      (iprop(R n ∗ A i) ⊢ iprop((iprop(R (n + δ) ∗ B i) -∗ WP c (k ⟨⟩) Φ) -∗ WP c ((p i).bind k) Φ))) :
    ∀ (l : List I) (n : ℕ) (k : PUnit → Kp F PUnit) (Φ : PUnit → sProp 𝕄), okL δ ok n l →
      (iprop(R n ∗ sepL A l) ⊢ iprop((iprop(R (n + δ * l.length) ∗ sepL B l) -∗ WP c (k ⟨⟩) Φ) -∗ WP c ((seqs (l.map p)).bind k) Φ))
  | [], n, k, Φ, _ => by
    show iprop(R n ∗ sepL A []) ⊢ iprop((iprop(R (n + δ * 0) ∗ sepL B []) -∗ WP c (k ⟨⟩) Φ) -∗ WP c (k ⟨⟩) Φ)
    rw [sepL_nil, sepL_nil, Nat.mul_zero, Nat.add_zero]
    iintro ⟨H, -⟩ Hk
    iapply Hk
    isplitl [H]; · iexact H
    iempintro
  | i :: l, n, k, Φ, h => by
    have ih := wp_list c δ ok R A B p step l (n + δ) k Φ h.2
    rw [show n + δ + δ * l.length = n + δ * (i :: l).length from by rw [List.length_cons, Nat.mul_succ]; omega] at ih
    rw [List.map_cons, show seqs (p i :: l.map p) = (p i).bind fun _ => seqs (l.map p) from rfl, pbind_assoc, sepL_cons, sepL_cons]
    iintro ⟨H, HA, HL⟩ Hk
    iapply (step i n (fun _ => (seqs (l.map p)).bind k) Φ h.1) $$ [H HA]
    · isplitl [H] <;> iassumption
    iintro ⟨H, HB⟩
    iapply ih $$ [H HL]
    · isplitl [H] <;> iassumption
    iintro ⟨H, HBL⟩
    iapply Hk
    isplitl [H]; · iexact H
    isplitl [HB] <;> iassumption

/-- The steps of two lists one after the other. -/
theorem seqs_append (l l' : List (Kp F PUnit)) : seqs (l ++ l') = (seqs l).bind fun _ => seqs l' := by
  induction l with
  | nil => rfl
  | cons p l ih =>
    show (p.bind fun _ => seqs (l ++ l')) = (p.bind fun _ => seqs l).bind fun _ => seqs l'
    rw [pbind_assoc, ih]

/-! ## The shared facts -/

variable (V : Vals F) (K : Dev nD × CK → ℕ)

/-- Every cell's invariant, that its round is open, and the levels. -/
def Inv : sProp 𝕄 :=
  iprop((bigSep Finset.univ fun ck : Dev nD × CK => cellInv ER (Rd V) (K ck) (cell ck.1 ck.2))
    ∗ (bigSep Finset.univ fun ck : Dev nD × CK => reached ER (cell ck.1 ck.2) 0) ∗ levAts L lv)

instance Inv_persistent : BI.Persistent (Inv V K) := by unfold Inv; infer_instance

omit [FloatOps F] [Named F] in
/-- The invariant of one semaphore. -/
theorem inv_at (c : Dev nD) (k : CK) : (Inv V K : sProp 𝕄) ⊢ cellInv ER (Rd V) (K (c, k)) (cell c k) := by
  have h : (bigSep Finset.univ fun ck : Dev nD × CK => cellInv ER (Rd V) (K ck) (cell ck.1 ck.2)) ⊢ cellInv ER (Rd V) (K (c, k)) (cell c k) :=
    bigSep_elim (Φ := fun ck : Dev nD × CK => cellInv ER (Rd V) (K ck) (cell ck.1 ck.2)) (Finset.mem_univ (c, k))
  unfold Inv
  iintro ⟨H, -⟩
  iapply h; iexact H
omit [FloatOps F] [Named F] in
/-- Each semaphore has reached its only round. -/
theorem reached_at (c : Dev nD) (k : CK) : (Inv V K : sProp 𝕄) ⊢ reached ER (cell c k) 0 := by
  have h : (bigSep Finset.univ fun ck : Dev nD × CK => (reached ER (cell ck.1 ck.2) 0 : sProp 𝕄)) ⊢ reached ER (cell c k) 0 :=
    bigSep_elim (Φ := fun ck : Dev nD × CK => (reached ER (cell ck.1 ck.2) 0 : sProp 𝕄)) (Finset.mem_univ (c, k))
  unfold Inv
  iintro ⟨-, H, -⟩
  iapply h; iexact H
omit [FloatOps F] [Named F] in
/-- A wait below everything that is still owed is allowed. -/
theorem mayWait_inv (c : Dev nD) (k : CK) (n : ℕ) (h : lvlOf k < 2 + n) :
    (Inv V K : sProp 𝕄) ⊢ MayWait (c : Thread nD τ) (csem k) () (Orem c n) := by
  unfold Inv
  iintro ⟨-, -, H⟩
  iapply (mayWait_cell c k n h); iexact H

/-- What device `c` owes once `n` transfers have been started. -/
def Owe (c : Dev nD) (n : ℕ) : sProp 𝕄 := iprop(∃ W, owes (c : Thread nD τ) (Orem c n) W)

/-- What a transfer's start needs beside its source. -/
def SendRes (c : Dev nD) (x : Tx) : sProp 𝕄 :=
  iprop((dutyTok ER (cell c (.snd x)) 0 0 ∗ dutyTok ER (cell (peer c x) (.rcv x)) 0 0) ∗ some' (F := F) (peer c x) (dstM (offs c) x))
/-- What it leaves for the wait. -/
def CredS (c : Dev nD) (x : Tx) : sProp 𝕄 := cred (tallyAt (cell c (.snd x)) () (Nx x))
/-- What the wait needs beside that. -/
def WaitRes (c : Dev nD) (x : Tx) : sProp 𝕄 :=
  iprop((atPos ER (cell c (.snd x)) 0 ∅ 0 ∗ atPos ER (cell c (.rcv x)) 0 ∅ 0) ∗ cred (tallyAt (cell c (.rcv x)) () (Nx x)))
/-- Both cells used up. -/
def Fin' (c : Dev nD) (x : Tx) : sProp 𝕄 := iprop(atPos ER (cell c (.snd x)) 1 ∅ 0 ∗ atPos ER (cell c (.rcv x)) 1 ∅ 0)
/-- What is sent, at the sender; -/
def Src (c : Dev nD) (x : Tx) : sProp 𝕄 := owns (c : Thread nD τ) (srcM (offs c) x) fullShare (V.tx c x)
/-- what has landed, at the receiver. -/
def Landed (c : Dev nD) (x : Tx) : sProp 𝕄 := owns (c : Thread nD τ) (dstM (offs (frm c x)) x) fullShare (V.tx (frm c x) x)

/-- A receiver's sender is the device itself. -/
theorem frm_peer (c : Dev nD) (x : Tx) : frm (peer c x) x = c := opp_nbr _ _
/-- A sender's receiver is the device itself. -/
theorem peer_frm (c : Dev nD) (x : Tx) : peer (frm c x) x = c := nbr_opp _ _

/-- Starting a remote copy: its source is given up, its landing is paid. -/
theorem wp_sendX (c : Dev nD) (x : Tx) (n : ℕ) (hn : x.ord = n) (k : PUnit → Kp F PUnit) (Q : PUnit → sProp 𝕄) :
    iprop(Inv V K ∗ Src V c x ∗ SendRes c x ∗ Owe c n)
      ⊢ iprop((iprop(CredS c x ∗ Owe c (n + 1)) -∗ WP c (k ⟨⟩) Q) -∗ WP c ((sendP (offs c) x).bind k) Q) := by
  subst hn
  rw [show (sendP (offs c) x).bind k = Prog.op (.enqueueDma (srcM (offs c) x) (.remote (Dev.tc (peer c x)) (dstM (offs c) x) (.dma (sS x)) (dstSc (offs c) x)) (.dma (sR x))
    (srcW (offs c) x) (dstW (offs c) x) ⟨⟨rfl, Or.inl rfl⟩, trivial⟩) k from rfl]
  unfold Src SendRes CredS Owe some' owns
  iintro ⟨#HI, ⟨%fs, %hfs, Hs⟩, ⟨⟨Ht1, Ht2⟩, ⟨%X, %fd, %hfd, Hd⟩⟩, ⟨%W, HO⟩⟩ Hk
  iapply (Rounds.wp_send_pointsTo 𝒱₀ ER (Rd V) (c : Thread nD τ) none (κ₁ := K (c, .snd x)) (κ₂ := K (peer c x, .rcv x))
    (c' := (Dev.tc (peer c x) : Thread nD τ)) (sS := csem (.snd x)) (sem := csem (.rcv x))
    (r₁ := 0) (r₂ := 0) (d₁ := 0) (d₂ := 0) (fs := fs) (fd := fd)
    (by rw [duties_cell]; exact Finset.mem_singleton_self _) (by rw [duties_cell]; exact Finset.mem_singleton_self _)
    () () (Nx x) (dst_credit (offs c) x) (amount_cell V c (.snd x) 0) (amount_cell V (peer c x) (.rcv x) 0) (Orem c (x.ord + 1)) (Orem_step c x) (W := W)
    (by
      rw [payload_cell]
      show _ ⊢ owns (c : Thread nD τ) (srcM (offs c) x) fullShare (V.tx c x)
      rw [← hfs, owns_at])
    (by
      rw [payload_cell]
      show _ ⊢ owns (peer c x : Thread nD τ) (dstM (offs (frm (peer c x) x)) x) fullShare (V.tx (frm (peer c x) x) x)
      rw [frm_peer, ← hfs]
      refine (owns_intro _ _ _ _).trans ?_
      rw [View.read_write_univ])) $$ [Hs Hd HO Ht1 Ht2]
  · isplitr; · iapply (inv_at V K c (.snd x)); iexact HI
    isplitr; · iapply (inv_at V K (peer c x) (.rcv x)); iexact HI
    isplitl [Hs]; · iexact Hs
    isplitl [Hd]; · iexact Hd
    isplitl [HO]; · iexact HO
    isplitl [Ht1]; · iexact Ht1
    isplitr; · iapply (reached_at V K c (.snd x)); iexact HI
    isplitl [Ht2]; · iexact Ht2
    iapply (reached_at V K (peer c x) (.rcv x)); iexact HI
  iintro ⟨HC, HO⟩
  iapply Hk
  isplitl [HC]; · iexact HC
  iexists W; iexact HO

omit [FloatOps F] [Named F] in
/-- A departure hands its source back. -/
theorem pay_snd (c : Dev nD) (x : Tx) : payOf V c 0 (.snd x) = Src V c x := by unfold Src; simp only [payOf]
omit [FloatOps F] [Named F] in
/-- A landing hands over its destination with what was sent. -/
theorem pay_rcv (c : Dev nD) (x : Tx) : payOf V c 0 (.rcv x) = Landed V c x := by unfold Landed; simp only [payOf]
omit [FloatOps F] [Named F] in
/-- What the sending semaphore hands over in all. -/
theorem rest_snd (c : Dev nD) (x : Tx) : bigSep ((Rd (F := F) V).duties (cell c (.snd x)) 0 \ ∅) (fun d => (Rd (F := F) V).payload (cell c (.snd x)) 0 d) = Src V c x := by
  rw [rest_cell]; exact BI.bigSep_singleton.trans (pay_snd V c x)
omit [FloatOps F] [Named F] in
/-- What the receiving semaphore hands over in all. -/
theorem rest_rcv (c : Dev nD) (x : Tx) : bigSep ((Rd (F := F) V).duties (cell c (.rcv x)) 0 \ ∅) (fun d => (Rd (F := F) V).payload (cell c (.rcv x)) 0 d) = Landed V c x := by
  rw [rest_cell]; exact BI.bigSep_singleton.trans (pay_rcv V c x)
/-- The level of a sending semaphore. -/
theorem lvl_snd (x : Tx) : lvlOf (.snd x) = 0 := by simp only [lvlOf]
/-- The level of a receiving semaphore. -/
theorem lvl_rcv (x : Tx) : lvlOf (.rcv x) = 2 + x.ord := by simp only [lvlOf]
/-- What a departure pays. -/
theorem amt_snd (x : Tx) : amtOf (.snd x) = Nx x := by simp only [amtOf]
/-- What a landing pays. -/
theorem amt_rcv (x : Tx) : amtOf (.rcv x) = Nx x := by simp only [amtOf]

/-- But for the barrier a round brings one duty's amount. -/
theorem card_one (k : CK) (h : k ≠ .bar) : (dutiesOf k).card * amtOf k = amtOf k := by
  rcases k with _ | _ | _ | _
  · exact absurd rfl h
  all_goals exact Nat.one_mul _

/-- Waiting for a remote copy, out and in: the source comes back, and what has landed. -/
theorem wp_waitX (c : Dev nD) (x : Tx) (n : ℕ) (hn : x.ord < n) (k : PUnit → Kp F PUnit) (Q : PUnit → sProp 𝕄) :
    iprop(Inv V K ∗ CredS c x ∗ WaitRes c x ∗ Owe c n)
      ⊢ iprop((iprop(Src V c x ∗ Landed V c x ∗ Fin' c x ∗ Owe c n) -∗ WP c (k ⟨⟩) Q) -∗ WP c ((waitP (offs c) x).bind k) Q) := by
  rw [show (waitP (offs c) x).bind k = Prog.op (.waitDma2 (sS x) (dstM (offs c) x) (srcM (offs c) x) (dstW (offs c) x) (srcW (offs c) x)) fun _ =>
    Prog.op (.waitDma2 (sR x) (srcM (offs c) x) (dstM (offs c) x) (srcW (offs c) x) (dstW (offs c) x)) k from rfl]
  unfold CredS WaitRes Owe Fin'
  iintro ⟨#HI, HC, ⟨⟨Ha1, Ha2⟩, HC2⟩, ⟨%W, HO⟩⟩ Hk
  iapply (Rounds.wp_wait_rest_token 𝒱₀ ER (Rd V) (c : Thread nD τ) none (κ := K (c, .snd x)) (sm := csem (.snd x)) (k' := Nx x)
      (fun K' => by rw [← src_credit (offs c) x]; exact wpE_waitDma2_eq 𝒱₀ (c : Thread nD τ) none Set.univ K') (Set.mem_univ _) () (O := Orem c n) (W := W) (R := 0) (m := 0) (T := ∅)
      (by rw [expect_cell, card_one _ (by intro h; cases h), Nat.zero_add, amt_snd])) $$ [HC HO Ha1]
  · isplitr; · iapply (inv_at V K c (.snd x)); iexact HI
    isplitl [HC]; · iexact HC
    isplitl [HO]; · iexact HO
    isplitr
    · iapply (mayWait_inv V K c (.snd x) n (by rw [lvl_snd]; exact Nat.add_pos_left Nat.two_pos n)); iexact HI
    iexact Ha1
  iintro ⟨HO, Ha1, -, Hp⟩
  ihave Hs := (Entails.of_eq (rest_snd V c x)) $$ Hp
  iapply (Rounds.wp_wait_rest_token 𝒱₀ ER (Rd V) (c : Thread nD τ) none (κ := K (c, .rcv x)) (sm := csem (.rcv x)) (k' := Nx x)
      (fun K' => by rw [← dst_credit (offs c) x]; exact wpE_waitDma2_eq 𝒱₀ (c : Thread nD τ) none Set.univ K') (Set.mem_univ _) () (O := Orem c n) (W := insert (csem (.snd x), ()) W) (R := 0) (m := 0) (T := ∅)
      (by rw [expect_cell, card_one _ (by intro h; cases h), Nat.zero_add, amt_rcv])) $$ [HC2 HO Ha2]
  · isplitr; · iapply (inv_at V K c (.rcv x)); iexact HI
    isplitl [HC2]; · iexact HC2
    isplitl [HO]; · iexact HO
    isplitr
    · iapply (mayWait_inv V K c (.rcv x) n (by rw [lvl_rcv]; exact Nat.add_lt_add_left hn 2)); iexact HI
    iexact Ha2
  iintro ⟨HO, Ha2, -, Hp⟩
  ihave Hr := (Entails.of_eq (rest_rcv V c x)) $$ Hp
  iapply Hk
  isplitl [Hs]; · iexact Hs
  isplitl [Hr]; · iexact Hr
  isplitl [Ha1 Ha2]
  · isplitl [Ha1]; · iexact Ha1
    iexact Ha2
  iexists _; iexact HO

end Cert.KernelIdeal.Body
end
-- ==== Proof.Steps2.lean ====
module

public import proofs.«01_k».proof.Proof.Proto
public import proofs.«01_k».proof.Proof.Steps
@[expose] public section

/-! The barrier and the local copies under the protocol. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : Vals F) (K : Dev nD × CK → ℕ)

/-! ## The barrier -/

omit [FloatOps F] [Named F] in
/-- A product over four items. -/
theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

omit [FloatOps F] [Named F] in
/-- What a signal at the barrier hands over. -/
theorem pay_bar (c : Dev nD) (d : Fin 4) : payOf V c d .bar = offer (nbr (opp d) c) d := by simp only [payOf]

/-- Different directions have different opposites. -/
theorem opp_inj {i j : Fin 4} (h : opp i = opp j) : i = j := by rw [← opp_opp i, h, opp_opp]

omit [FloatOps F] [Named F] in
/-- What is offered to the four neighbours are all the places the device is written to. -/
theorem offers (c : Dev nD) : (bigSep Finset.univ fun x : Tx => some' (F := F) c (dstM (offs (frm c x)) x)) = bigSep Finset.univ fun i : Fin 4 => offer (F := F) c i := by
  rw [bigSep_fiberwise Finset.univ (fun x : Tx => opp x.dir)]
  rw [show (Finset.univ : Finset Tx).image (fun x : Tx => opp x.dir) = Finset.univ from by decide +kernel]
  refine bigSep_congr fun i _ => ?_
  unfold offer
  congr 1
  ext x
  simp only [Finset.mem_filter, Finset.mem_univ, true_and]
  exact ⟨fun h => by rw [← h, opp_opp], fun h => by rw [h, opp_opp]⟩

omit [FloatOps F] [Named F] in
/-- What the four neighbours offer are all the places the device writes to. -/
theorem offered (c : Dev nD) : (bigSep Finset.univ fun d : Fin 4 => payOf V c d .bar) = bigSep Finset.univ fun x : Tx => some' (F := F) (peer c x) (dstM (offs c) x) := by
  rw [bigSep_fiberwise Finset.univ (fun x : Tx => opp x.dir) (fun x : Tx => some' (F := F) (peer c x) (dstM (offs c) x))]
  rw [show (Finset.univ : Finset Tx).image (fun x : Tx => opp x.dir) = Finset.univ from by decide +kernel]
  refine bigSep_congr fun i _ => ?_
  rw [pay_bar]
  unfold offer
  rw [show (Finset.univ.filter fun x : Tx => x.dir = opp i) = Finset.univ.filter fun x : Tx => opp x.dir = i from by
    ext x
    simp only [Finset.mem_filter, Finset.mem_univ, true_and]
    exact ⟨fun h => by rw [h, opp_opp], fun h => by rw [← h, opp_opp]⟩]
  refine bigSep_congr fun x hx => ?_
  have h : nbr (opp i) c = peer c x := by
    have := (Finset.mem_filter.mp hx).2
    rw [← this, opp_opp]
  rw [h, frm_peer]

/-- A signal is worth one. -/
theorem amt_bar : amtOf .bar = 1 := rfl
/-- The barrier's round brings four. -/
theorem expect_bar (c : Dev nD) : (Rd (F := F) V).expect (cell c .bar) 0 = 4 := by
  rw [expect_cell, amt_bar]; rfl

/-- What the barrier takes, -/
def BarPre (c : Dev nD) : sProp 𝕄 :=
  iprop((bigSep Finset.univ fun i : Fin 4 => dutyTok ER (cell (nbr i c) .bar) 0 i)
    ∗ (bigSep Finset.univ fun x : Tx => some' (F := F) c (dstM (offs (frm c x)) x))
    ∗ atPos ER (cell c .bar) 0 ∅ 0 ∗ cred (tallyAt (cell c .bar) () 4) ∗ ∃ W, owes (c : Thread nD τ) (Obar c 0) W)
/-- and what it gives. -/
def BarPost (c : Dev nD) : sProp 𝕄 :=
  iprop((bigSep Finset.univ fun x : Tx => some' (F := F) (peer c x) (dstM (offs c) x)) ∗ atPos ER (cell c .bar) 1 ∅ 0 ∗ Owe c 0)

/-- What a device offers to a neighbour is what its signal hands over. -/
theorem pay_offer (c : Dev nD) (i : Fin 4) : (offer (F := F) c i : sProp 𝕄) ⊢ (Rd V).payload ((nbr i c : Thread nD τ), .reg barS.sem) 0 i := by
  rw [show (Rd V).payload ((nbr i c : Thread nD τ), .reg barS.sem) 0 i = payOf V (nbr i c) i .bar from payload_cell V (nbr i c) .bar i, pay_bar, opp_nbr]

/-- The barrier: four signals and a wait for four. -/
theorem wp_barrier (c : Dev nD) (k : PUnit → Kp F PUnit) (Q : PUnit → sProp 𝕄) :
    iprop(Inv V K ∗ BarPre c) ⊢ iprop((BarPost c -∗ WP c (k ⟨⟩) Q) -∗ WP c ((barrierP (offs c)).bind k) Q) := by
  unfold barrierP
  simp only [semSignalWord, semWaitWord, Prog.lift, Prog.bind_op, Prog.bind_ret, Prog.pure_eq_ret, Prog.bind]
  unfold BarPre BarPost
  rw [offers, bigSep_fin4, bigSep_fin4]
  iintro ⟨#HI, ⟨Ht0, Ht1, Ht2, Ht3⟩, ⟨Ho0, Ho1, Ho2, Ho3⟩, Hat, Hcr, ⟨%W, HO⟩⟩ Hk
  iapply (Rounds.wp_signal 𝒱₀ ER (Rd V) (c : Thread nD τ) none (dst := (nbr 0 c : Thread nD τ)) (κ := K (nbr 0 c, .bar))
      (d := 0) (by rw [show ((nbr 0 c : Thread nD τ), SemLoc.reg barS.sem) = cell (nbr 0 c) .bar from rfl, duties_cell]; exact Finset.mem_univ _) ((amount_cell V (nbr 0 c) .bar 0).trans (by decide)) () (Obar c 1) rfl)
    $$ [HO Ht0 Ho0]
  · isplitr; · iapply (inv_at V K (nbr 0 c) .bar); iexact HI
    isplitl [HO]; · iexact HO
    isplitl [Ht0]; · iexact Ht0
    isplitl [Ho0]; · iapply (pay_offer V c 0); iexact Ho0
    iapply (reached_at V K (nbr 0 c) .bar); iexact HI
  iintro HO
  iapply (Rounds.wp_signal 𝒱₀ ER (Rd V) (c : Thread nD τ) none (dst := (nbr 1 c : Thread nD τ)) (κ := K (nbr 1 c, .bar))
      (d := 1) (by rw [show ((nbr 1 c : Thread nD τ), SemLoc.reg barS.sem) = cell (nbr 1 c) .bar from rfl, duties_cell]; exact Finset.mem_univ _) ((amount_cell V (nbr 1 c) .bar 1).trans (by decide)) () (Obar c 2) rfl)
    $$ [HO Ht1 Ho1]
  · isplitr; · iapply (inv_at V K (nbr 1 c) .bar); iexact HI
    isplitl [HO]; · iexact HO
    isplitl [Ht1]; · iexact Ht1
    isplitl [Ho1]; · iapply (pay_offer V c 1); iexact Ho1
    iapply (reached_at V K (nbr 1 c) .bar); iexact HI
  iintro HO
  iapply (Rounds.wp_signal 𝒱₀ ER (Rd V) (c : Thread nD τ) none (dst := (nbr 2 c : Thread nD τ)) (κ := K (nbr 2 c, .bar))
      (d := 2) (by rw [show ((nbr 2 c : Thread nD τ), SemLoc.reg barS.sem) = cell (nbr 2 c) .bar from rfl, duties_cell]; exact Finset.mem_univ _) ((amount_cell V (nbr 2 c) .bar 2).trans (by decide)) () (Obar c 3) rfl)
    $$ [HO Ht2 Ho2]
  · isplitr; · iapply (inv_at V K (nbr 2 c) .bar); iexact HI
    isplitl [HO]; · iexact HO
    isplitl [Ht2]; · iexact Ht2
    isplitl [Ho2]; · iapply (pay_offer V c 2); iexact Ho2
    iapply (reached_at V K (nbr 2 c) .bar); iexact HI
  iintro HO
  iapply (Rounds.wp_signal 𝒱₀ ER (Rd V) (c : Thread nD τ) none (dst := (nbr 3 c : Thread nD τ)) (κ := K (nbr 3 c, .bar))
      (d := 3) (by rw [show ((nbr 3 c : Thread nD τ), SemLoc.reg barS.sem) = cell (nbr 3 c) .bar from rfl, duties_cell]; exact Finset.mem_univ _) ((amount_cell V (nbr 3 c) .bar 3).trans (by decide)) () (Orem c 0) rfl)
    $$ [HO Ht3 Ho3]
  · isplitr; · iapply (inv_at V K (nbr 3 c) .bar); iexact HI
    isplitl [HO]; · iexact HO
    isplitl [Ht3]; · iexact Ht3
    isplitl [Ho3]; · iapply (pay_offer V c 3); iexact Ho3
    iapply (reached_at V K (nbr 3 c) .bar); iexact HI
  iintro HO
  iapply (Rounds.wp_wait_rest_token 𝒱₀ ER (Rd V) (c : Thread nD τ) none (κ := K (c, .bar)) (sm := csem .bar)
      (wpE_semWait_eq 𝒱₀ (c : Thread nD τ) none Set.univ) (Set.mem_univ _) () (O := Orem c 0) (W := W) (R := 0) (m := 0) (T := ∅)
      (by rw [show (Rd V).expect ((c : Thread nD τ), csem .bar) 0 = 4 from expect_bar V c]; decide)) $$ [Hcr HO Hat]
  · isplitr; · iapply (inv_at V K c .bar); iexact HI
    isplitl [Hcr]; · iexact Hcr
    isplitl [HO]; · iexact HO
    isplitr
    · iapply (mayWait_inv V K c .bar 0 (by decide)); iexact HI
    iexact Hat
  iintro ⟨HO, Hat, -, Hp⟩
  ihave Hp := (Entails.of_eq ((rest_cell V c .bar).trans (offered V c))) $$ Hp
  iapply Hk
  isplitl [Hp]; · iexact Hp
  isplitl [Hat]; · iexact Hat
  unfold Owe; iexists _; iexact HO

/-! ## The local copies -/

/-- What starting head `h`'s copies takes, -/
def KvPre (c : Dev nD) (h : Fin 8) : sProp 𝕄 :=
  iprop((some' (F := F) c (slotH kM h) ∗ owns (c : Thread nD τ) (headM kHbm ((offs c).kv h)) fullShare (V.kv c 0 h) ∗ dutyTok ER (cell c (.loc 0 h)) 0 0)
    ∗ (some' (F := F) c (slotH vM h) ∗ owns (c : Thread nD τ) (headM vHbm ((offs c).kv h)) fullShare (V.kv c 1 h) ∗ dutyTok ER (cell c (.loc 1 h)) 0 0))
/-- what it leaves, -/
def KvMid (c : Dev nD) (h : Fin 8) : sProp 𝕄 :=
  iprop(cred (tallyAt (cell c (.loc 0 h)) () NL) ∗ cred (tallyAt (cell c (.loc 1 h)) () NL))
/-- and what the wait gives. -/
def KvAt (c : Dev nD) (h : Fin 8) (r : ℕ) : sProp 𝕄 :=
  iprop(atPos ER (cell c (.loc 0 h)) r ∅ 0 ∗ atPos ER (cell c (.loc 1 h)) r ∅ 0)
/-- A local copy's landing: the array's head, and the buffer's slot with its contents. -/
def KvGot (c : Dev nD) (b : Fin 2) (h : Fin 8) : sProp 𝕄 :=
  iprop(owns (c : Thread nD τ) (slotH (kvM b) h) fullShare (V.kv c b h) ∗ owns (c : Thread nD τ) (headM (kvH b) ((offs c).kv h)) fullShare (V.kv c b h))

omit [FloatOps F] [Named F] in
/-- What a local copy hands over. -/
theorem pay_loc (c : Dev nD) (b : Fin 2) (h : Fin 8) : payOf V c 0 (.loc b h) = KvGot V c b h := by unfold KvGot; simp only [payOf]
/-- What a local copy pays. -/
theorem amt_loc (b : Fin 2) (h : Fin 8) : amtOf (.loc b h) = NL := by simp only [amtOf]
/-- The level of a local copy's semaphore. -/
theorem lvl_loc (b : Fin 2) (h : Fin 8) : lvlOf (.loc b h) = 0 := by simp only [lvlOf]
omit [FloatOps F] [Named F] in
/-- What a local copy's semaphore hands over in all. -/
theorem rest_loc (c : Dev nD) (b : Fin 2) (h : Fin 8) :
    bigSep ((Rd (F := F) V).duties (cell c (.loc b h)) 0 \ ∅) (fun d => (Rd (F := F) V).payload (cell c (.loc b h)) 0 d) = KvGot V c b h := by
  rw [rest_cell]; exact BI.bigSep_singleton.trans (pay_loc V c b h)

/-- One copy's start. -/
theorem wp_copyX (c : Dev nD) (b : Fin 2) (h : Fin 8) {hsrc hdst hsem} {α : Type} (k : PUnit → Kp F α) (Q : α → sProp 𝕄) :
    iprop(Inv V K ∗ some' (F := F) c (slotH (kvM b) h) ∗ owns (c : Thread nD τ) (headM (kvH b) ((offs c).kv h)) fullShare (V.kv c b h) ∗ dutyTok ER (cell c (.loc b h)) 0 0)
      ⊢ iprop((cred (tallyAt (cell c (.loc b h)) () NL) -∗ WP c (k ⟨⟩) Q)
          -∗ WP c (Prog.op (.enqueueDma (headM (kvH b) ((offs c).kv h)) (.here (slotH (kvM b) h)) (.dma (lsem (locId b h))) hsrc hdst hsem) k) Q) := by
  unfold some' owns
  iintro ⟨#HI, ⟨%X, %fd, %hfd, Hd⟩, ⟨%fs, %hfs, Hs⟩, Ht⟩ Hk
  iapply (Rounds.wp_copy_pointsTo 𝒱₀ ER (Rd V) (c : Thread nD τ) none (κ := K (c, .loc b h)) (sem := csem (.loc b h)) (r := 0) (d := 0) (q := fullShare) (fs := fs) (fd := fd)
    (by rw [duties_cell]; exact Finset.mem_singleton_self _) () NL (loc_credit b h) ((amount_cell V c (.loc b h) 0).trans (amt_loc b h))
    (by
      rw [show (Rd V).payload ((c : Thread nD τ), csem (.loc b h)) 0 0 = KvGot V c b h from (payload_cell V c (.loc b h) 0).trans (pay_loc V c b h)]
      unfold KvGot
      refine BI.sep_mono ?_ ?_
      · refine (owns_intro _ _ _ _).trans ?_
        rw [View.read_write_univ, hfs]
      · rw [← hfs, owns_at]; exact BI.Entails.refl _)) $$ [Hs Hd Ht]
  · isplitr; · iapply (inv_at V K c (.loc b h)); iexact HI
    isplitl [Hs]; · iexact Hs
    isplitl [Hd]; · iexact Hd
    isplitl [Ht]; · iexact Ht
    iapply (reached_at V K c (.loc b h)); iexact HI
  iexact Hk

/-- Starting the copies of a head's keys and values. -/
theorem wp_kvStart (c : Dev nD) (h : Fin 8) (k : PUnit → Kp F PUnit) (Q : PUnit → sProp 𝕄) :
    iprop(Inv V K ∗ KvPre V c h) ⊢ iprop((KvMid c h -∗ WP c (k ⟨⟩) Q) -∗ WP c ((kvStart (offs c) h).bind k) Q) := by
  unfold kvStart
  simp only [Prog.lift, Prog.bind]
  unfold KvPre KvMid
  iintro ⟨#HI, ⟨Ha, Hb, Hc⟩, ⟨Hd, He, Hf⟩⟩ Hk
  iapply (wp_copyX V K c 0 h) $$ [Ha Hb Hc]
  · isplitr; · iexact HI
    isplitl [Ha]; · iexact Ha
    isplitl [Hb] <;> iassumption
  iintro H1
  iapply (wp_copyX V K c 1 h) $$ [Hd He Hf]
  · isplitr; · iexact HI
    isplitl [Hd]; · iexact Hd
    isplitl [He] <;> iassumption
  iintro H2
  iapply Hk
  isplitl [H1] <;> iassumption

/-- One copy's wait. -/
theorem wp_waitL (c : Dev nD) (b : Fin 2) (h : Fin 8) (n : ℕ) {hsrc hdst} {α : Type} (k : PUnit → Kp F α) (Q : α → sProp 𝕄) :
    iprop(Inv V K ∗ cred (tallyAt (cell c (.loc b h)) () NL) ∗ atPos ER (cell c (.loc b h)) 0 ∅ 0 ∗ Owe c n)
      ⊢ iprop((iprop(KvGot V c b h ∗ atPos ER (cell c (.loc b h)) 1 ∅ 0 ∗ Owe c n) -∗ WP c (k ⟨⟩) Q)
          -∗ WP c (Prog.op (.waitDma2 (lsem (locId b h)) (headM (kvH b) ((offs c).kv h)) (slotH (kvM b) h) hsrc hdst) k) Q) := by
  unfold Owe
  iintro ⟨#HI, HC, Ha, ⟨%W, HO⟩⟩ Hk
  iapply (Rounds.wp_wait_rest_token 𝒱₀ ER (Rd V) (c : Thread nD τ) none (κ := K (c, .loc b h)) (sm := csem (.loc b h)) (k' := NL)
      (fun K' => by rw [← loc_credit b h]; exact wpE_waitDma2_eq 𝒱₀ (c : Thread nD τ) none Set.univ K') (Set.mem_univ _) () (O := Orem c n) (W := W) (R := 0) (m := 0) (T := ∅)
      (by rw [expect_cell, card_one _ (by intro h; cases h), Nat.zero_add, amt_loc])) $$ [HC HO Ha]
  · isplitr; · iapply (inv_at V K c (.loc b h)); iexact HI
    isplitl [HC]; · iexact HC
    isplitl [HO]; · iexact HO
    isplitr
    · iapply (mayWait_inv V K c (.loc b h) n (by rw [lvl_loc]; exact Nat.add_pos_left Nat.two_pos n)); iexact HI
    iexact Ha
  iintro ⟨HO, Ha, -, Hp⟩
  ihave Hs := (Entails.of_eq (rest_loc V c b h)) $$ Hp
  iapply Hk
  isplitl [Hs]; · iexact Hs
  isplitl [Ha]; · iexact Ha
  iexists _; iexact HO

/-- Waiting for the copies of a head's keys and values. -/
theorem wp_kvWait (c : Dev nD) (h : Fin 8) (n : ℕ) (k : PUnit → Kp F PUnit) (Q : PUnit → sProp 𝕄) :
    iprop(Inv V K ∗ KvMid c h ∗ KvAt c h 0 ∗ Owe c n)
      ⊢ iprop((iprop((KvGot V c 0 h ∗ KvGot V c 1 h ∗ KvAt c h 1) ∗ Owe c n) -∗ WP c (k ⟨⟩) Q) -∗ WP c ((kvWait (offs c) h).bind k) Q) := by
  unfold kvWait
  simp only [Prog.lift, Prog.bind]
  unfold KvMid KvAt
  iintro ⟨#HI, ⟨Ha, Hb⟩, ⟨Hc, Hd⟩, HO⟩ Hk
  iapply (wp_waitL V K c 0 h n) $$ [Ha Hc HO]
  · isplitr; · iexact HI
    isplitl [Ha]; · iexact Ha
    isplitl [Hc] <;> iassumption
  iintro ⟨H1, H2, HO⟩
  iapply (wp_waitL V K c 1 h n) $$ [Hb Hd HO]
  · isplitr; · iexact HI
    isplitl [Hb]; · iexact Hb
    isplitl [Hd] <;> iassumption
  iintro ⟨H3, H4, HO⟩
  iapply Hk
  isplitr [HO]
  · isplitl [H1]; · iexact H1
    isplitl [H3]; · iexact H3
    isplitl [H2] <;> iassumption
  iexact HO

end Cert.KernelIdeal.Body
end
-- ==== Proof.Values.lean ====
module

public import proofs.«01_k».proof.Proof.Proto
public import Idealize.ShloMosaic.Lib.Pointwise.Index
public import Idealize.ShloMosaic.Lib.Pointwise.Reshape
public import Idealize.ShloMosaic.Lib.Pipeline.Value

@[expose] public section

/-! The values the devices compute and move, from the contents of their buffers, and the families of
    rectangles the buffers are cut into. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

/-! ## Rectangles -/

/-- The rectangles of size `sz` at offsets `off t`, which are the classes of `cls`. -/
def mkFam {T : Type} (s : Shape) (off : T → Fin s.rank → ℕ) (sz : Fin s.rank → ℕ) (inb : ∀ t a, off t a + sz a ≤ s.size a) (cls : s.Idx → T)
    (h : ∀ t i, (∀ a, off t a ≤ (i a).val ∧ (i a).val < off t a + sz a) ↔ cls i = t) : Fam s T where
  r t := Rect.unit (s := s) (off t) sz (inb t)
  cls := cls
  str _ _ := rfl
  mem t i := Rect.mem_set_unit.trans (h t i)

/-- The three slots of a first ring's buffer. -/
def famA : Fam S3x256x512 (Fin 3) := mkFam S3x256x512 (fun t => ![t.val, 0, 0]) S1x256x512.size inb3a (fun i => ⟨(i 0).val, (i 0).isLt⟩) fun t i => by
  have h1 : (i 1).val < 256 := (i 1).isLt
  have h2 : (i 2).val < 512 := (i 2).isLt
  rw [Fin.ext_iff]
  constructor
  · intro h
    have := h 0
    simp at this
    show (i 0).val = t.val
    omega
  · intro h a
    have h' : (i 0).val = t.val := h
    match a with
    | 0 => exact ⟨by show t.val ≤ _; omega, by show _ < t.val + 1; omega⟩
    | 1 => exact ⟨Nat.zero_le _, by show _ < 0 + 256; omega⟩
    | 2 => exact ⟨Nat.zero_le _, by show _ < 0 + 512; omega⟩

/-- The three slots of a second ring's buffer. -/
def famB : Fam S3x64x512 (Fin 3) := mkFam S3x64x512 (fun t => ![t.val, 0, 0]) S1x64x512.size inb3b (fun i => ⟨(i 0).val, (i 0).isLt⟩) fun t i => by
  have h1 : (i 1).val < 64 := (i 1).isLt
  have h2 : (i 2).val < 512 := (i 2).isLt
  rw [Fin.ext_iff]
  constructor
  · intro h
    have := h 0
    simp at this
    show (i 0).val = t.val
    omega
  · intro h a
    have h' : (i 0).val = t.val := h
    match a with
    | 0 => exact ⟨by show t.val ≤ _; omega, by show _ < t.val + 1; omega⟩
    | 1 => exact ⟨Nat.zero_le _, by show _ < 0 + 64; omega⟩
    | 2 => exact ⟨Nat.zero_le _, by show _ < 0 + 512; omega⟩

/-- The eight heads of the buffer of keys or of values. -/
def famHd : Fam S8x1024x128 (Fin 8) := mkFam S8x1024x128 (fun t => ![t.val, 0, 0]) S1x1024x128.size inbHd (fun i => ⟨(i 0).val, (i 0).isLt⟩) fun t i => by
  have h1 : (i 1).val < 1024 := (i 1).isLt
  have h2 : (i 2).val < 128 := (i 2).isLt
  rw [Fin.ext_iff]
  constructor
  · intro h
    have := h 0
    simp at this
    show (i 0).val = t.val
    omega
  · intro h a
    have h' : (i 0).val = t.val := h
    match a with
    | 0 => exact ⟨by show t.val ≤ _; omega, by show _ < t.val + 1; omega⟩
    | 1 => exact ⟨Nat.zero_le _, by show _ < 0 + 1024; omega⟩
    | 2 => exact ⟨Nat.zero_le _, by show _ < 0 + 128; omega⟩

/-- The eight heads' columns of a chunk-sized buffer. -/
def famQ : Fam S256x1024 (Fin 8) := mkFam S256x1024 (fun t => ![0, 128 * t.val]) S256x128.size inbQ
    (fun i => ⟨(i 1).val / 128, by have : (i 1).val < 1024 := (i 1).isLt; omega⟩) fun t i => by
  have h1 : (i 0).val < 256 := (i 0).isLt
  have h2 : (i 1).val < 1024 := (i 1).isLt
  rw [Fin.ext_iff]
  constructor
  · intro h
    have := h 1
    simp at this
    show (i 1).val / 128 = t.val
    omega
  · intro h a
    have h' : (i 1).val / 128 = t.val := h
    match a with
    | 0 => exact ⟨Nat.zero_le _, by show _ < 0 + 256; omega⟩
    | 1 => exact ⟨by show 128 * t.val ≤ _; omega, by show _ < 128 * t.val + 128; omega⟩

/-- The four chunks of the partial result. -/
def famC : Fam S1024x1024 (Fin 4) := mkFam S1024x1024 (fun k => ![256 * k.val, 0]) S256x1024.size inbPart
    (fun i => ⟨(i 0).val / 256, by have : (i 0).val < 1024 := (i 0).isLt; omega⟩) fun t i => by
  have h1 : (i 0).val < 1024 := (i 0).isLt
  have h2 : (i 1).val < 1024 := (i 1).isLt
  rw [Fin.ext_iff]
  constructor
  · intro h
    have := h 0
    simp at this
    show (i 0).val / 256 = t.val
    omega
  · intro h a
    have h' : (i 0).val / 256 = t.val := h
    match a with
    | 0 => exact ⟨by show 256 * t.val ≤ _; omega, by show _ < 256 * t.val + 256; omega⟩
    | 1 => exact ⟨Nat.zero_le _, by show _ < 0 + 1024; omega⟩

/-- The four row strips of a strip buffer. -/
def famS : Fam S256x512 (Fin 4) := mkFam S256x512 (fun k => ![64 * k.val, 0]) S64x512.size inbStrip
    (fun i => ⟨(i 0).val / 64, by have : (i 0).val < 256 := (i 0).isLt; omega⟩) fun t i => by
  have h1 : (i 0).val < 256 := (i 0).isLt
  have h2 : (i 1).val < 512 := (i 1).isLt
  rw [Fin.ext_iff]
  constructor
  · intro h
    have := h 0
    simp at this
    show (i 0).val / 64 = t.val
    omega
  · intro h a
    have h' : (i 0).val / 64 = t.val := h
    match a with
    | 0 => exact ⟨by show 64 * t.val ≤ _; omega, by show _ < 64 * t.val + 64; omega⟩
    | 1 => exact ⟨Nat.zero_le _, by show _ < 0 + 512; omega⟩

/-- The piece of the result a place is in. -/
def pieceOf (i : S1x1024x1024.Idx) : Piece :=
  ⟨⟨(i 1).val / 256, by have : (i 1).val < 1024 := (i 1).isLt; omega⟩, ⟨(i 1).val / 64 % 4, Nat.mod_lt _ (by decide)⟩,
    ⟨(i 1).val / 32 % 2, Nat.mod_lt _ (by decide)⟩, ⟨(i 2).val / 512, by have : (i 2).val < 1024 := (i 2).isLt; omega⟩⟩

/-- The sixty-four pieces of the result. -/
def famP : Fam S1x1024x1024 Piece := mkFam S1x1024x1024 (fun p => p.off) S1x32x512.size Piece.inb pieceOf fun p i => by
  have h0 : (i 0).val < 1 := (i 0).isLt
  have h1 : (i 1).val < 1024 := (i 1).isLt
  have h2 : (i 2).val < 1024 := (i 2).isLt
  rcases p with ⟨⟨k, hk⟩, ⟨s, hs⟩, ⟨b, hb⟩, ⟨w, hw⟩⟩
  constructor
  · intro h
    have a1 := h 1
    have a2 := h 2
    have a1' : 256 * k + 64 * s + 32 * b ≤ (i 1).val ∧ (i 1).val < 256 * k + 64 * s + 32 * b + 32 := a1
    have a2' : 512 * w ≤ (i 2).val ∧ (i 2).val < 512 * w + 512 := a2
    unfold pieceOf
    simp only [Piece.mk.injEq, Fin.mk.injEq]
    omega
  · intro h
    unfold pieceOf at h
    simp only [Piece.mk.injEq, Fin.mk.injEq] at h
    intro a
    match a with
    | 0 => exact ⟨Nat.zero_le _, by show _ < 0 + 1; omega⟩
    | 1 => exact ⟨by show 256 * k + 64 * s + 32 * b ≤ _; omega, by show _ < 256 * k + 64 * s + 32 * b + 32; omega⟩
    | 2 => exact ⟨by show 512 * w ≤ _; omega, by show _ < 512 * w + 512; omega⟩

/-! ## Values -/

/-- What the devices' buffers hold at the start: the rows, the two matrices of weights, the keys and values. -/
structure Inp (F : FTy → Type) where
  x : Dev nD → S1x1024x1024.Idx → Elt F .f32
  wq : Dev nD → S1024x1024.Idx → Elt F .f32
  wo : Dev nD → S1024x1024.Idx → Elt F .f32
  kv : Dev nD → Fin 2 → S1x1024x128x128.Idx → Elt F .f32

instance : Nonempty (Elt F .f32) := ⟨(constant (F := F) S256x1024 .f32 0x00000000#32) (ix2 0 0)⟩

variable (I : Inp F)

/-- The device's eight heads of the keys (`b = 0`) or values (`b = 1`). -/
def kAll (c : Dev nD) (b : Fin 2) : S8x1024x128.Idx → Elt F .f32 := fun i =>
  I.kv c b (ix4 (n0 := 1) (n1 := 1024) (n2 := 128) (n3 := 128) 0 ⟨(i 1).val, (i 1).isLt⟩
    ⟨8 * c.val + (i 0).val, by have h : (i 0).val < 8 := (i 0).isLt; have h' : c.val < 16 := c.isLt; omega⟩ ⟨(i 2).val, (i 2).isLt⟩)

/-- A head of them. -/
def kHead (c : Dev nD) (b : Fin 2) (h : Fin 8) : S1x1024x128.Idx → Elt F .f32 := fun j => kAll I c b ((famHd.r h).emb j)
/-- The window of a head's keys or values for chunk `k`. -/
def kWin (c : Dev nD) (b : Fin 2) (k : Fin 4) (h : Fin 8) : S1x512x128.Idx → Elt F .f32 := fun j =>
  kAll I c b ((Rect.unit (s := S8x1024x128) ![h.val, w0 k, 0] S1x512x128.size (inbWin k h)).emb j)
/-- The first 128 of them. -/
def kGlob (c : Dev nD) (b : Fin 2) (h : Fin 8) : S1x128x128.Idx → Elt F .f32 := fun j =>
  kAll I c b ((Rect.unit (s := S8x1024x128) ![h.val, 0, 0] S1x128x128.size (inbHg h)).emb j)

/-- The first 32 rows, computed in full. -/
def pfixV (c : Dev nD) : FVec F S32x1024 .f32 :=
  pfixOf (q32Of (fun j => I.x c ((Rect.unit (s := S1x1024x1024) ![0, 0, 0] S1x32x1024.size inb_S1x1024x1024_S1x32x1024_0_0_0).emb j)) (I.wq c))
    ![kHead I c 0 0, kHead I c 0 1, kHead I c 0 2, kHead I c 0 3, kHead I c 0 4, kHead I c 0 5, kHead I c 0 6, kHead I c 0 7]
    ![kHead I c 1 0, kHead I c 1 1, kHead I c 1 2, kHead I c 1 3, kHead I c 1 4, kHead I c 1 5, kHead I c 1 6, kHead I c 1 7] (I.wo c)

/-- Chunk `k`'s queries. -/
def qV (c : Dev nD) (k : Fin 4) : FVec F S256x1024 .f32 :=
  qOf (fun j => I.x c ((Rect.unit (s := S1x1024x1024) ![0, 256 * k.val, 0] S1x256x1024.size (inbX k)).emb j)) (I.wq c)
/-- One head of chunk `k`. -/
def headV (c : Dev nD) (k : Fin 4) (h : Fin 8) : FVec F S256x128 .f32 :=
  headOut (BitVec.ofNat 32 k.val) (fun j => qV I c k ((famQ.r h).emb j)) (kWin I c 0 k h) (kGlob I c 0 h) (kWin I c 1 k h) (kGlob I c 1 h)
/-- All heads of chunk `k`. -/
def ctxV (c : Dev nD) (k : Fin 4) : S256x1024.Idx → Elt F .f32 := famQ.glue (headV I c k)
/-- Chunk `k` of the partial result, as first computed. -/
def partV (c : Dev nD) (k : Fin 4) : FVec F S256x1024 .f32 := partOf (ctxV I c k) (I.wo c)
/-- The partial result, as first computed, -/
def totV (c : Dev nD) : S1024x1024.Idx → Elt F .f32 := famC.glue (partV I c)
/-- and with its first 32 rows replaced. -/
def fixV (c : Dev nD) : S1024x1024.Idx → Elt F .f32 := fun i =>
  if h : (i 0).val < 32 then pfixV I c (ix2 (n0 := 32) (n1 := 1024) ⟨(i 0).val, h⟩ ⟨(i 1).val, (i 1).isLt⟩) else totV I c i

/-- The left or right columns of chunk `k` of it. -/
def halfV (c : Dev nD) (w : Fin 2) (k : Fin 4) : S256x512.Idx → Elt F .f32 := fun j =>
  fixV I c ((Rect.unit (s := S1024x1024) ![256 * k.val, 512 * w.val] S256x512.size (inbHalf w k)).emb j)

/-- Which chunk (or strip) step `t` adds. -/
def aiN (w : Fin 2) (t : ℕ) : Fin 4 := ai w (Fin.ofNat 3 t)

/-- What direction `w` of the first ring sends in step `t`, and the finished strip for `t = 3`. -/
def txA (w : Fin 2) : ℕ → Dev nD → FVec F S256x512 .f32
  | 0, c => halfV I c w (qq c + 0)
  | t + 1, c => addf (txA w t (frm c (.a w 0))) (halfV I c w (qq c + aiN w t))

/-- A strip's rows of the first ring's result. -/
def stripV (c : Dev nD) (w : Fin 2) (s : Fin 4) : S64x512.Idx → Elt F .f32 := fun j => txA I w 3 c ((famS.r s).emb j)

/-- What direction `w` of the second ring sends in step `t`, and the finished rows for `t = 3`. -/
def txB (w : Fin 2) : ℕ → Dev nD → FVec F S64x512 .f32
  | 0, c => stripV I c w (rr c + 0)
  | t + 1, c => addf (txB w t (frm c (.b w 0))) (stripV I c w (rr c + aiN w t))

/-- The result. -/
def outV : S1x1024x1024.Idx → Elt F .f32 := fun i =>
  let w : Fin 2 := (pieceOf i).w
  txB I w 3 (devAt ((pieceOf i).s - fin1 w) ((pieceOf i).k - fin1 w))
    (ix2 (n0 := 64) (n1 := 512) ⟨(i 1).val % 64, Nat.mod_lt _ (by decide)⟩ ⟨(i 2).val % 512, Nat.mod_lt _ (by decide)⟩)

/-- A piece of the result. -/
def pieceV (p : Piece) : S32x512.Idx → Elt F .f32 := shapeCast S32x512 (fun j => outV I ((famP.r p).emb j) : S1x32x512.Idx → Elt F .f32) squeezes_S1x32x512_S32x512.numel_eq

/-- The values moved. -/
def vals : Vals F where
  tx c
    | .a w t => txA I w t.val c
    | .b w t => txB I w t.val c
    | .s1 f k => pieceV I (pieceAt (qq c) (rr c) (.s1 f k))
    | .s2 f u j => pieceV I (pieceAt (qq c) (rr c) (.s2 f u j))
  kv c b h := shapeCast S1024x128 (kHead I c b h) squeezes_S1x1024x128_S1024x128.numel_eq

/-- The step's chunk, from a number or from a bounded number. -/
theorem aiN_val (w : Fin 2) (t : Fin 3) : aiN w t.val = ai w t := by revert w t; decide
/-- A direction of the first ring has one sender for all its steps. -/
theorem frm_a (c : Dev nD) (w : Fin 2) (t : Fin 3) : frm c (.a w t) = frm c (.a w 0) := by fin_cases w <;> rfl
/-- A direction of the second ring has one sender for all its steps. -/
theorem frm_b (c : Dev nD) (w : Fin 2) (t : Fin 3) : frm c (.b w t) = frm c (.b w 0) := by fin_cases w <;> rfl

/-- A step of the first ring sends what arrived plus the device's own half chunk. -/
theorem txA_succ (c : Dev nD) (w : Fin 2) (t : Fin 3) : txA I w (t.val + 1) c = addf ((vals I).tx (frm c (.a w t)) (.a w t)) (halfV I c w (qq c + ai w t)) := by
  rw [frm_a, ← aiN_val]; rfl
/-- A step of the second ring sends what arrived plus the device's own part of the strip. -/
theorem txB_succ (c : Dev nD) (w : Fin 2) (t : Fin 3) : txB I w (t.val + 1) c = addf ((vals I).tx (frm c (.b w t)) (.b w t)) (stripV I c w (rr c + ai w t)) := by
  rw [frm_b, ← aiN_val]; rfl

/-- The keys and values of a head as they stand in the device's memory. -/
theorem kv_read (c : Dev nD) (b : Fin 2) (h : Fin 8) :
    shapeCast S1024x128 (fun j => I.kv c b ((Rect.unit (s := S1x1024x128x128) ((offs c).kv h).1 S1x1024x1x128.size ((offs c).kv h).2).emb j) : S1x1024x1x128.Idx → Elt F .f32)
      squeezes_S1x1024x1x128_S1024x128.numel_eq = (vals I).kv c b h := by
  funext j
  have e1 : shapeCast S1024x128 (fun j => I.kv c b ((Rect.unit (s := S1x1024x128x128) ((offs c).kv h).1 S1x1024x1x128.size ((offs c).kv h).2).emb j) : S1x1024x1x128.Idx → Elt F .f32)
      squeezes_S1x1024x1x128_S1024x128.numel_eq j = I.kv c b ((Rect.unit (s := S1x1024x128x128) ((offs c).kv h).1 S1x1024x1x128.size ((offs c).kv h).2).emb
        (ix4 (n0 := 1) (n1 := 1024) (n2 := 1) (n3 := 128) 0 ⟨(j 0).val, (j 0).isLt⟩ 0 ⟨(j 1).val, (j 1).isLt⟩)) := by
    refine shapeCast_apply _ _ _ _ ?_
    rw [Shape.rowMajor_val_four, Shape.rowMajor_val_two]
    simp
  have e2 : (vals I).kv c b h j = kHead I c b h (ix3 (n0 := 1) (n1 := 1024) (n2 := 128) 0 ⟨(j 0).val, (j 0).isLt⟩ ⟨(j 1).val, (j 1).isLt⟩) := by
    refine shapeCast_apply (kHead I c b h) squeezes_S1x1024x128_S1024x128.numel_eq j _ ?_
    rw [Shape.rowMajor_val_three, Shape.rowMajor_val_two]
    simp
  rw [e1, e2]
  unfold kHead kAll
  congr 1
  funext a
  apply Fin.ext
  match a with
  | 0 => rfl
  | 1 => rfl
  | 2 => show 8 * c.val + h.val + 1 * 0 = 8 * c.val + (h.val + 1 * 0); omega
  | 3 => rfl

/-- The device's finished rows are a part of the result. -/
theorem own_out (c : Dev nD) (w : Fin 2) (j : S1x64x512.Idx) :
    outV I ((Rect.unit (s := S1x1024x1024) ((offs c).own w).1 S1x64x512.size ((offs c).own w).2).emb j)
      = txB I w 3 c (ix2 (n0 := 64) (n1 := 512) ⟨(j 1).val, (j 1).isLt⟩ ⟨(j 2).val, (j 2).isLt⟩) := by
  have h1 : (j 1).val < 64 := (j 1).isLt
  have h2 : (j 2).val < 512 := (j 2).isLt
  generalize hi : (Rect.unit (s := S1x1024x1024) ((offs c).own w).1 S1x64x512.size ((offs c).own w).2).emb j = i
  have i1 : (i 1).val = 256 * (qq c + fin1 w).val + 64 * (rr c + fin1 w).val + (j 1).val := by
    rw [← hi]; show _ + 1 * (j 1).val = _; rw [Nat.one_mul]; rfl
  have i2 : (i 2).val = 512 * w.val + (j 2).val := by
    rw [← hi]; show _ + 1 * (j 2).val = _; rw [Nat.one_mul]; rfl
  have hw : (pieceOf i).w = w := Fin.ext (by show (i 2).val / 512 = _; omega)
  have hs : (pieceOf i).s = rr c + fin1 w := Fin.ext (by
    show (i 1).val / 64 % 4 = _
    have := (qq c + fin1 w).isLt; have := (rr c + fin1 w).isLt; omega)
  have hk : (pieceOf i).k = qq c + fin1 w := Fin.ext (by
    show (i 1).val / 256 = _
    have := (qq c + fin1 w).isLt; have := (rr c + fin1 w).isLt; omega)
  have hd : devAt (rr c + fin1 w - fin1 w) (qq c + fin1 w - fin1 w) = c := by
    rw [add_sub_cancel_right, add_sub_cancel_right]
    exact Fin.ext (by show 4 * (c.val / 4) + c.val % 4 = c.val; omega)
  unfold outV
  simp only [hw, hs, hk, hd]
  congr 1
  have e1 : (⟨(i 1).val % 64, Nat.mod_lt _ (by decide)⟩ : Fin 64) = ⟨(j 1).val, h1⟩ := Fin.ext (by show (i 1).val % 64 = (j 1).val; omega)
  have e2 : (⟨(i 2).val % 512, Nat.mod_lt _ (by decide)⟩ : Fin 512) = ⟨(j 2).val, h2⟩ := Fin.ext (by show (i 2).val % 512 = (j 2).val; omega)
  rw [e1, e2]

end Cert.KernelIdeal.Body
end
-- ==== Proof.Compute.lean ====
module

public import proofs.«01_k».proof.Proof.Steps2
public import proofs.«01_k».proof.Proof.Values

@[expose] public section

/-! The steps that compute: a chunk of rows, the first rows, the additions of the rings. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Parts of whole buffers -/

section Parts

variable (c : Dev nD) (b : Ref sig .tc) (r r₁ r₂ : Rect b.ty.shape) (hr : ∀ a, r.stride a = 1) (h₁ : ∀ a, r₁.stride a = 1) (h₂ : ∀ a, r₂.stride a = 1)

omit [FloatOps F] [Named F] in
/-- Owning a rectangle of a whole buffer with a rectangle's contents is holding its cells with an array that has them. -/
theorem owns_rect (q : PosShare TreeShare) (Y : b.ty.shape.Idx → Elt F b.ty.elt) :
    (owns (c : Thread nD τ) ((Memref.whole b).slice r hr) q (fun j => Y (r.emb j)) : sProp 𝕄) = ((c : Thread nD τ).loc b ↦[r.set]{q} Y) :=
  (owns_at c ((Memref.whole b).slice r hr) q Y).trans
    (congrArg (fun S : Finset b.ty.Idx => ((c : Thread nD τ).loc b ↦[S]{q} Y : sProp 𝕄)) (View.set_slice_whole b r))

omit [FloatOps F] [Named F] in
/-- A rectangle made of two is owned as the two are. -/
theorem owns_two (hs : r.set = r₁.set ∪ r₂.set) (hd : Disjoint r₁.set r₂.set) (q : PosShare TreeShare) (Y : b.ty.shape.Idx → Elt F b.ty.elt) :
    (owns (c : Thread nD τ) ((Memref.whole b).slice r hr) q (fun j => Y (r.emb j)) : sProp 𝕄)
      = iprop(owns (c : Thread nD τ) ((Memref.whole b).slice r₁ h₁) q (fun j => Y (r₁.emb j)) ∗ owns (c : Thread nD τ) ((Memref.whole b).slice r₂ h₂) q (fun j => Y (r₂.emb j))) := by
  rw [owns_rect, owns_rect, owns_rect, hs]
  exact BI.equiv_iff.mp ⟨(pointsTo_union hd).1, (pointsTo_union hd).2⟩

/-- A rectangle's contents extend to the whole buffer. -/
theorem ext_rect [Nonempty (Elt F b.ty.elt)] (X : r.shape.Idx → Elt F b.ty.elt) : ∃ Y : b.ty.shape.Idx → Elt F b.ty.elt, X = fun j => Y (r.emb j) :=
  ⟨r.overlay (fun _ => Classical.arbitrary _) X, funext fun j => (Rect.overlay_emb _ _ _ _).symm⟩

/-- A rectangle cut into two can be owned in its two parts. -/
theorem some'_two [Nonempty (Elt F b.ty.elt)] (hs : r.set = r₁.set ∪ r₂.set) (hd : Disjoint r₁.set r₂.set) :
    (some' (F := F) c ((Memref.whole b).slice r₁ h₁) : sProp 𝕄) ⊢ iprop(some' c ((Memref.whole b).slice r₂ h₂) -∗ some' c ((Memref.whole b).slice r hr)) := by
  unfold some'
  iintro ⟨%X, H⟩ ⟨%X', H'⟩
  have key : ∃ Y : b.ty.shape.Idx → Elt F b.ty.elt, (X = fun j => Y (r₁.emb j)) ∧ X' = fun j => Y (r₂.emb j) := by
    obtain ⟨Y, hY⟩ := ext_rect (F := F) b r₁ X
    refine ⟨r₂.overlay Y X', ?_, funext fun j => (Rect.overlay_emb _ _ _ _).symm⟩
    rw [hY]
    funext j
    refine (Rect.overlay_of_not_mem _ _ _ ?_).symm
    exact Finset.disjoint_left.mp hd (r₁.map_emb_univ ▸ Finset.mem_map_of_mem _ (Finset.mem_univ j))
  obtain ⟨Y, e, e'⟩ := key
  subst e e'
  iexists fun j => Y (r.emb j)
  rw [owns_two c b r r₁ r₂ hr h₁ h₂ hs hd]
  isplitl [H] <;> iassumption

end Parts

/-! ## A chunk -/

variable (I : Inp F) (c : Dev nD)

/-- What a chunk's computation reads. -/
def Reads : sProp 𝕄 :=
  iprop(owns (c : Thread nD τ) xM fullShare (I.x c) ∗ owns (c : Thread nD τ) wqM fullShare (I.wq c) ∗ owns (c : Thread nD τ) woM fullShare (I.wo c)
    ∗ owns (c : Thread nD τ) kM fullShare (kAll I c 0) ∗ owns (c : Thread nD τ) vM fullShare (kAll I c 1))

/-- What one head's computation reads. -/
def HeadR (k : Fin 4) : sProp 𝕄 :=
  iprop(owns (c : Thread nD τ) qM fullShare (qV I c k) ∗ owns (c : Thread nD τ) kM fullShare (kAll I c 0) ∗ owns (c : Thread nD τ) vM fullShare (kAll I c 1))

/-- One head of a chunk: from the chunk's queries and the head's keys and values to the head's columns. -/
theorem wp_head (i : Fin 4) (h : Fin 8) (K : PUnit → Kp F PUnit) (Φ : PUnit → sProp 𝕄) :
    iprop(HeadR I c (qq c + i) ∗ some' (F := F) c (ctxM.slice (famQ.r h) (famQ.str h)))
      ⊢ iprop((iprop(HeadR I c (qq c + i) ∗ owns (c : Thread nD τ) (ctxM.slice (famQ.r h) (famQ.str h)) fullShare (headV I c (qq c + i) h)) -∗ WP c (K ⟨⟩) Φ)
          -∗ WP c ((headP (offs c) i h).bind K) Φ) := by
  unfold HeadR some' headP
  simp only [pbind_assoc]
  iintro ⟨⟨Hq, Hk, Hv⟩, ⟨%X, Hc⟩⟩ HK
  iapply (wp_load_in c qM) $$ Hq
  iintro Hq
  iapply (wp_load_in c kM) $$ Hk
  iintro Hk
  iapply (wp_load_in c kM) $$ Hk
  iintro Hk
  iapply (wp_load_in c vM) $$ Hv
  iintro Hv
  iapply (wp_load_in c vM) $$ Hv
  iintro Hv
  iapply (wp_load_part c ctxM (famQ.r h) (famQ.str h)) $$ Hc
  iintro Hc
  iapply (wp_store_part c ctxM (famQ.r h) (famQ.str h)) $$ Hc
  iintro Hc
  iapply HK
  isplitr [Hc]
  · isplitl [Hq]; · iexact Hq
    isplitl [Hk] <;> iassumption
  · iexact Hc

omit [FloatOps F] [Named F] in
/-- A region owned with some contents is owned with contents that can be named. -/
theorem some'_open {sp : Space} {s : Shape} {e : EltTy} (M : Memref sig .tc sp s e) : (some' (F := F) c M : sProp 𝕄) ⊢ iprop(∃ X, owns (c : Thread nD τ) M fullShare X) := by
  unfold some'; exact BI.Entails.refl _

/-- A chunk's rectangle of the partial result. -/
abbrev chunkR (k : Fin 4) : Memref sig .tc .vmem (famC.r k).shape .f32 := partM.slice (famC.r k) (famC.str k)
/-- The left or right half of its columns. -/
abbrev halfR (w : Fin 2) (k : Fin 4) : Rect S1024x1024 := Rect.unit (s := S1024x1024) ![256 * k.val, 512 * w.val] S256x512.size (inbHalf w k)

/-- A chunk of rows is its left and its right half. -/
theorem halves (k : Fin 4) : (famC.r k).set = (halfR 0 k).set ∪ (halfR 1 k).set := by
  ext i
  have h0 : (i 0).val < 1024 := (i 0).isLt
  have h1 : (i 1).val < 1024 := (i 1).isLt
  rw [Finset.mem_union, famC.mem, Rect.mem_set_unit, Rect.mem_set_unit]
  have e : famC.cls i = k ↔ (i 0).val / 256 = k.val := Fin.ext_iff
  rw [e]
  constructor
  · intro h
    by_cases hh : (i 1).val < 512
    · left
      intro a
      match a with
      | 0 => exact ⟨by show 256 * k.val ≤ _; omega, by show _ < 256 * k.val + 256; omega⟩
      | 1 => exact ⟨Nat.zero_le _, by show _ < 0 + 512; omega⟩
    · right
      intro a
      match a with
      | 0 => exact ⟨by show 256 * k.val ≤ _; omega, by show _ < 256 * k.val + 256; omega⟩
      | 1 => exact ⟨by show 512 ≤ _; omega, by show _ < 512 + 512; omega⟩
  · rintro (h | h)
    · have a0 : 256 * k.val ≤ (i 0).val ∧ (i 0).val < 256 * k.val + 256 := h 0
      omega
    · have a0 : 256 * k.val ≤ (i 0).val ∧ (i 0).val < 256 * k.val + 256 := h 0
      omega

/-- A chunk's two halves do not overlap. -/
theorem halves_disj (k : Fin 4) : Disjoint (halfR 0 k).set (halfR 1 k).set :=
  Rect.unit_disjoint (s := S1024x1024) 1 (Or.inl (by show 512 * 0 + 512 ≤ 512 * 1; decide))

/-- Where the rows kept aside go. -/
abbrev topR : Rect S1024x1024 := Rect.unit (s := S1024x1024) ![0, 0] S32x1024.size inb_S1024x1024_S32x1024_0_0

/-- The first 32 rows lie in chunk 0. -/
theorem top_sub : topR.set ⊆ (famC.r 0).set := by
  intro i hi
  rw [Rect.mem_set_unit] at hi
  rw [famC.mem]
  have a0 : 0 ≤ (i 0).val ∧ (i 0).val < 0 + 32 := hi 0
  exact Fin.ext (by show (i 0).val / 256 = 0; omega)

/-- A load of the first 32 rows reads chunk 0 only. -/
theorem top_load : topR.toLoadRect.set.map partM.view.emb ⊆ (famC.r 0).set := by
  intro i hi
  obtain ⟨x, hx, rfl⟩ := Finset.mem_map.mp hi
  exact top_sub hx

/-- A store to the first 32 rows writes chunk 0 only. -/
theorem top_store : (partM.access topR).setOn Finset.univ ⊆ (famC.r 0).set := by
  have h : (partM.access topR).setOn Finset.univ = topR.set := (View.setOn_univ _).trans (View.set_slice_whole cc0_scratch4 topR)
  rw [h]; exact top_sub

/-- The partial result with its first rows replaced, as stored. -/
theorem fix_write (j : S1024x1024.Idx) : (partM.access topR).write (Elt F) (totV I c) (pfixV I c) Finset.univ j = fixV I c j := by
  unfold fixV
  split
  · rename_i h
    have e : j = topR.emb (ix2 (n0 := 32) (n1 := 1024) ⟨(j 0).val, h⟩ ⟨(j 1).val, (j 1).isLt⟩) := funext fun a => Fin.ext (by
      match a with
      | 0 => show (j 0).val = 0 + 1 * (j 0).val; omega
      | 1 => show (j 1).val = 0 + 1 * (j 1).val; omega)
    conv_lhs => rw [e]
    exact congrFun (View.read_write_univ (v := partM.access topR) (Val := Elt F) (totV I c) (pfixV I c)) _
  · rename_i h
    refine View.write_of_not_mem (v := partM.access topR) (totV I c) (pfixV I c) Finset.univ ?_
    intro hm
    rw [View.setOn_univ] at hm
    have hm' : j ∈ topR.set := (View.set_slice_whole cc0_scratch4 topR) ▸ hm
    rw [Rect.mem_set_unit] at hm'
    have a0 : 0 ≤ (j 0).val ∧ (j 0).val < 0 + 32 := hm' 0
    omega

/-- In a chunk other than the first the corrected product is the chunk's own. -/
theorem fix_other (k : Fin 4) (hk : k ≠ 0) (j : (famC.r k).shape.Idx) : fixV I c ((famC.r k).emb j) = partV I c k j := by
  have e : famC.cls ((famC.r k).emb j) = k := famC.cls_emb k j
  have e' : (((famC.r k).emb j) 0).val / 256 = k.val := congrArg Fin.val e
  unfold fixV
  rw [dif_neg]
  · exact famC.glue_emb _ k j
  · intro h
    exact hk (Fin.ext (by show k.val = 0; omega))

/-- The joined product, read in a chunk, is the chunk's. -/
theorem tot_emb (k : Fin 4) : (fun j => totV I c ((famC.r k).emb j)) = partV I c k := funext fun j => famC.glue_emb _ k j

/-- Chunk `k` of the partial result with its first rows replaced. -/
def fixC (k : Fin 4) : S256x1024.Idx → Elt F .f32 := fun j => fixV I c ((famC.r k).emb j)

/-- A chunk other than the first is not corrected. -/
theorem fixC_other (k : Fin 4) (hk : k ≠ 0) : fixC I c k = partV I c k := funext fun j => fix_other I c k hk j

/-- Owning a chunk's product is holding its cells of the joined product. -/
theorem pts_part (k : Fin 4) : (owns (c : Thread nD τ) (chunkR k) fullShare (partV I c k) : sProp 𝕄) = ((c : Thread nD τ).loc cc0_scratch4 ↦[(famC.r k).set]{fullShare} totV I c) :=
  (congrArg (fun X => (owns (c : Thread nD τ) (chunkR k) fullShare X : sProp 𝕄)) (tot_emb I c k).symm).trans (owns_rect c cc0_scratch4 (famC.r k) (famC.str k) fullShare (totV I c))

/-- Owning a chunk's corrected product is holding its cells of the joined corrected product. -/
theorem pts_fix (k : Fin 4) : (owns (c : Thread nD τ) (chunkR k) fullShare (fixC I c k) : sProp 𝕄) = ((c : Thread nD τ).loc cc0_scratch4 ↦[(famC.r k).set]{fullShare} fixV I c) :=
  owns_rect c cc0_scratch4 (famC.r k) (famC.str k) fullShare (fixV I c)

/-- The rows kept aside are put in place if the chunk is the first. -/
theorem wp_fix (k : Fin 4) (K : PUnit → Kp F PUnit) (Φ : PUnit → sProp 𝕄) :
    iprop(owns (c : Thread nD τ) pfixM fullShare (pfixV I c) ∗ owns (c : Thread nD τ) (chunkR k) fullShare (partV I c k))
      ⊢ iprop((iprop(owns (c : Thread nD τ) pfixM fullShare (pfixV I c) ∗ owns (c : Thread nD τ) (chunkR k) fullShare (fixC I c k)) -∗ WP c (K ⟨⟩) Φ)
          -∗ WP c ((fixP (BitVec.ofNat 32 k.val)).bind K) Φ) := by
  by_cases hk : k = 0
  · subst hk
    unfold fixP
    rw [dif_pos (by decide)]
    simp only [pbind_assoc]
    rw [pts_part, pts_fix]
    iintro ⟨Hf, Hp⟩ HK
    iapply (wp_load_all c pfixM) $$ Hf
    iintro Hf
    iapply (wp_load 𝒱₀ (c : Thread nD τ) none Set.univ (m := partM) (r := topR.toLoadRect) (S := (famC.r 0).set) (f := totV I c)
      top_load) $$ Hp
    iintro Hp
    iapply (wp_store 𝒱₀ (c : Thread nD τ) none Set.univ (m := partM) (r := topR) (S := (famC.r 0).set) (f := totV I c) (w := shapeCast S32x1024 (pfixV I c) shapeCasts_S32x1024_S32x1024) (Mk := Finset.univ)
      top_store) $$ Hp
    iintro Hp
    iapply HK
    isplitl [Hf]; · iexact Hf
    rw [shapeCast_self, show (partM.access topR).write (Elt F) (totV I c) (pfixV I c) Finset.univ = fixV I c from funext fun j => fix_write I c j]
    iexact Hp
  · unfold fixP
    rw [dif_neg (by revert hk; revert k; decide), fixC_other I c k hk]
    iintro ⟨Hf, Hp⟩ HK
    iapply HK
    isplitl [Hf] <;> iassumption

/-- A chunk's corrected product is owned in its two halves. -/
theorem own_halves (k : Fin 4) : (owns (c : Thread nD τ) (chunkR k) fullShare (fixC I c k) : sProp 𝕄)
    = iprop(owns (c : Thread nD τ) (partM.slice (halfR 0 k) (fun _ => rfl)) fullShare (halfV I c 0 k) ∗ owns (c : Thread nD τ) (partM.slice (halfR 1 k) (fun _ => rfl)) fullShare (halfV I c 1 k)) :=
  owns_two c cc0_scratch4 (famC.r k) (halfR 0 k) (halfR 1 k) (famC.str k) (fun _ => rfl) (fun _ => rfl) (halves k) (halves_disj k) fullShare (fixV I c)

/-- One chunk of rows: from the device's inputs to the chunk's corrected product, in its two halves. -/
theorem wp_chunk (i : Fin 4) (K : PUnit → Kp F PUnit) (Φ : PUnit → sProp 𝕄) :
    iprop((Reads I c ∗ owns (c : Thread nD τ) pfixM fullShare (pfixV I c) ∗ some' (F := F) c qM ∗ some' (F := F) c ctxM) ∗ some' (F := F) c (chunkR (qq c + i)))
      ⊢ iprop((iprop((Reads I c ∗ owns (c : Thread nD τ) pfixM fullShare (pfixV I c) ∗ some' (F := F) c qM ∗ some' (F := F) c ctxM)
            ∗ owns (c : Thread nD τ) (halfM ((offs c).half 0 i)) fullShare (halfV I c 0 (qq c + i)) ∗ owns (c : Thread nD τ) (halfM ((offs c).half 1 i)) fullShare (halfV I c 1 (qq c + i))) -∗ WP c (K ⟨⟩) Φ)
          -∗ WP c ((chunkP (offs c) i).bind K) Φ) := by
  unfold chunkP
  simp only [pbind_assoc]
  rw [show [headP (F := F) (offs c) i 0, headP (offs c) i 1, headP (offs c) i 2, headP (offs c) i 3, headP (offs c) i 4, headP (offs c) i 5, headP (offs c) i 6, headP (offs c) i 7]
    = [(0 : Fin 8), 1, 2, 3, 4, 5, 6, 7].map fun h => headP (offs c) i h from rfl]
  unfold Reads
  iintro ⟨⟨⟨Hx, Hwq, Hwo, Hk, Hv⟩, Hf, Hq, Hc⟩, Hp⟩ HK
  ihave Hq := (some'_open c qM) $$ Hq
  icases Hq with ⟨%Xq, Hq⟩
  ihave Hp := (some'_open c (chunkR (qq c + i))) $$ Hp
  icases Hp with ⟨%Xp, Hp⟩
  ihave Hc := (fam_some c famQ ctxM) $$ Hc
  ihave Hc := (Entails.of_eq (sepL_univ (fun h : Fin 8 => some' (F := F) c (ctxM.slice (famQ.r h) (famQ.str h))) [0, 1, 2, 3, 4, 5, 6, 7] (by decide) (by decide))) $$ Hc
  iapply (wp_load_in c xM) $$ Hx
  iintro Hx
  iapply (wp_load_all c wqM) $$ Hwq
  iintro Hwq
  iapply (wp_load_all c qM) $$ Hq
  iintro Hq
  iapply (wp_store_all c qM) $$ Hq
  iintro Hq
  iapply (wp_list c 0 (fun _ _ => True) (fun _ => HeadR I c (qq c + i)) (fun h => some' (F := F) c (ctxM.slice (famQ.r h) (famQ.str h)))
    (fun h => owns (c : Thread nD τ) (ctxM.slice (famQ.r h) (famQ.str h)) fullShare (headV I c (qq c + i) h)) (fun h => headP (offs c) i h)
    (fun h n K Φ _ => wp_head I c i h K Φ) [0, 1, 2, 3, 4, 5, 6, 7] 0 _ _ ⟨trivial, trivial, trivial, trivial, trivial, trivial, trivial, trivial, trivial⟩) $$ [Hq Hk Hv Hc]
  · isplitr [Hc]
    · unfold HeadR
      isplitl [Hq]; · iexact Hq
      isplitl [Hk] <;> iassumption
    · iexact Hc
  iintro ⟨HR, Hc⟩
  unfold HeadR
  icases HR with ⟨Hq, Hk, Hv⟩
  ihave Hc := (Entails.of_eq (sepL_univ (fun h : Fin 8 => (owns (c : Thread nD τ) (ctxM.slice (famQ.r h) (famQ.str h)) fullShare (headV I c (qq c + i) h) : sProp 𝕄)) [0, 1, 2, 3, 4, 5, 6, 7] (by decide) (by decide)).symm) $$ Hc
  ihave Hc := (fam_join c famQ ctxM fullShare (headV I c (qq c + i)) (ctxV I c (qq c + i)) (fun h => funext fun j => famQ.glue_emb _ h j)) $$ Hc
  iapply (wp_load_all c ctxM) $$ Hc
  iintro Hc
  iapply (wp_load_all c woM) $$ Hwo
  iintro Hwo
  iapply (wp_load_part c partM (famC.r (qq c + i)) (famC.str (qq c + i))) $$ Hp
  iintro Hp
  iapply (wp_store_part c partM (famC.r (qq c + i)) (famC.str (qq c + i))) $$ Hp
  iintro Hp
  iapply (wp_fix I c (qq c + i)) $$ [Hf Hp]
  · isplitl [Hf]; · iexact Hf
    iexact Hp
  iintro ⟨Hf, Hp⟩
  iapply HK
  ihave Hp := (Entails.of_eq (own_halves I c (qq c + i))) $$ Hp
  isplitr [Hp]
  · isplitl [Hx Hwq Hwo Hk Hv]
    · isplitl [Hx]; · iexact Hx
      isplitl [Hwq]; · iexact Hwq
      isplitl [Hwo]; · iexact Hwo
      isplitl [Hk] <;> iassumption
    isplitl [Hf]; · iexact Hf
    isplitl [Hq]
    · iapply (some'_intro c qM _); iexact Hq
    · iapply (some'_intro c ctxM _); iexact Hc
  · iexact Hp

end Cert.KernelIdeal.Body
end
-- ==== Proof.Compute2.lean ====
module

public import proofs.«01_k».proof.Proof.Compute

@[expose] public section

/-! The steps that compute, continued: the keys and values with the first rows, and the additions of the rings. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F) (c : Dev nD)

omit [FloatOps F] [Named F] in
/-- Owning a region is owning it with its axes of size one dropped. -/
theorem owns_sq {sp : Space} {s : Shape} {e : EltTy} (M : Memref sig .tc sp s e) (q : PosShare TreeShare) (s' : Shape) (h : s.Squeezes s') (Y : s'.Idx → Elt F e) :
    (owns (c : Thread nD τ) (M.squeeze s' h) q Y : sProp 𝕄) = owns (c : Thread nD τ) M q (shapeCast s Y h.numel_eq.symm) := by
  rw [← owns_squeeze c M q s' h, shapeCast_shapeCast]

/-! ## The first rows -/

/-- The first 32 rows: from the device's inputs to their product with the output matrix. -/
theorem wp_pfix (K : PUnit → Kp F PUnit) (Φ : PUnit → sProp 𝕄) :
    iprop(Reads I c ∗ some' (F := F) c pfixM)
      ⊢ iprop((iprop(Reads I c ∗ owns (c : Thread nD τ) pfixM fullShare (pfixV I c)) -∗ WP c (K ⟨⟩) Φ)
          -∗ WP c ((pfixP (fun j => I.x c ((Rect.unit (s := S1x1024x1024) ![0, 0, 0] S1x32x1024.size inb_S1x1024x1024_S1x32x1024_0_0_0).emb j)) (I.wq c)).bind K) Φ) := by
  unfold Reads pfixP
  simp only [pbind_assoc]
  iintro ⟨⟨Hx, Hwq, Hwo, Hk, Hv⟩, Hf⟩ HK
  ihave Hf := (some'_open c pfixM) $$ Hf
  icases Hf with ⟨%Xf, Hf⟩
  iapply (wp_load_in c kM) $$ Hk
  iintro Hk
  iapply (wp_load_in c vM) $$ Hv
  iintro Hv
  iapply (wp_load_in c kM) $$ Hk
  iintro Hk
  iapply (wp_load_in c vM) $$ Hv
  iintro Hv
  iapply (wp_load_in c kM) $$ Hk
  iintro Hk
  iapply (wp_load_in c vM) $$ Hv
  iintro Hv
  iapply (wp_load_in c kM) $$ Hk
  iintro Hk
  iapply (wp_load_in c vM) $$ Hv
  iintro Hv
  iapply (wp_load_in c kM) $$ Hk
  iintro Hk
  iapply (wp_load_in c vM) $$ Hv
  iintro Hv
  iapply (wp_load_in c kM) $$ Hk
  iintro Hk
  iapply (wp_load_in c vM) $$ Hv
  iintro Hv
  iapply (wp_load_in c kM) $$ Hk
  iintro Hk
  iapply (wp_load_in c vM) $$ Hv
  iintro Hv
  iapply (wp_load_in c kM) $$ Hk
  iintro Hk
  iapply (wp_load_in c vM) $$ Hv
  iintro Hv
  iapply (wp_load_all c woM) $$ Hwo
  iintro Hwo
  iapply (wp_load_all c pfixM) $$ Hf
  iintro Hf
  iapply (wp_store_all c pfixM) $$ Hf
  iintro Hf
  iapply HK
  isplitr [Hf]
  · isplitl [Hx]; · iexact Hx
    isplitl [Hwq]; · iexact Hwq
    isplitl [Hwo]; · iexact Hwo
    isplitl [Hk]; · iexact Hk
    iexact Hv
  · iexact Hf

variable (Kn : Dev nD × CK → ℕ)

/-- The eight heads. -/
abbrev hl : List (Fin 8) := [0, 1, 2, 3, 4, 5, 6, 7]

omit [FloatOps F] [Named F] in
/-- A buffer of keys or values falls into its heads, -/
theorem slots_some (M : Memref sig .tc .vmem S8x1024x128 .f32) : (some' (F := F) c M : sProp 𝕄) ⊢ sepL (fun h => some' c (slotH M h)) hl := by
  refine (fam_some c famHd M).trans ?_
  rw [sepL_univ (fun t : Fin 8 => some' (F := F) c (M.slice (famHd.r t) (famHd.str t))) hl (by decide) (by decide)]
  exact sepL_mono _ _ (fun h => some'_of_squeeze c (M.slice (famHd.r h) (famHd.str h)) S1024x128 squeezes_S1x1024x128_S1024x128) hl

/-- and is whole again once they have come. -/
theorem slots_join (b : Fin 2) : (sepL (fun h => owns (c : Thread nD τ) (slotH (kvM b) h) fullShare ((vals I).kv c b h)) hl : sProp 𝕄) ⊢ owns (c : Thread nD τ) (kvM b) fullShare (kAll I c b) := by
  have e (h : Fin 8) : (owns (c : Thread nD τ) (slotH (kvM b) h) fullShare ((vals I).kv c b h) : sProp 𝕄) = owns (c : Thread nD τ) ((kvM b).slice (famHd.r h) (famHd.str h)) fullShare (kHead I c b h) :=
    owns_squeeze c ((kvM b).slice (famHd.r h) (famHd.str h)) fullShare S1024x128 squeezes_S1x1024x128_S1024x128 (kHead I c b h)
  rw [sepL_congr _ _ hl (fun h _ => e h)]
  rw [← sepL_univ (fun h => owns (c : Thread nD τ) ((kvM b).slice (famHd.r h) (famHd.str h)) fullShare (kHead I c b h)) hl (by decide) (by decide)]
  exact fam_join c famHd (kvM b) fullShare (kHead I c b) (kAll I c b) (fun h => rfl)

/-- The heads' keys and values in the device's memory. -/
def Hbm : sProp 𝕄 :=
  iprop(sepL (fun h => owns (c : Thread nD τ) (headM kHbm ((offs c).kv h)) fullShare ((vals I).kv c 0 h)) hl
    ∗ sepL (fun h => owns (c : Thread nD τ) (headM vHbm ((offs c).kv h)) fullShare ((vals I).kv c 1 h)) hl)

/-- The tokens of the local copies. -/
def KvTok : sProp 𝕄 :=
  iprop(sepL (fun h => (dutyTok ER (cell c (.loc 0 h)) 0 0 : sProp 𝕄)) hl ∗ sepL (fun h => (dutyTok ER (cell c (.loc 1 h)) 0 0 : sProp 𝕄)) hl)

/-- What the eight pairs of copies of keys and values start from. -/
theorem kv_pre : iprop(some' (F := F) c kM ∗ some' (F := F) c vM ∗ Hbm I c ∗ KvTok c) ⊢ sepL (KvPre (vals I) c) hl := by
  unfold Hbm KvTok
  iintro ⟨Hk, Hv, ⟨H0, H1⟩, T0, T1⟩
  ihave Hk := (slots_some c kM) $$ Hk
  ihave Hv := (slots_some c vM) $$ Hv
  have e : (fun h => KvPre (vals I) c h) = fun h => iprop((some' (F := F) c (slotH kM h) ∗ owns (c : Thread nD τ) (headM kHbm ((offs c).kv h)) fullShare ((vals I).kv c 0 h) ∗ dutyTok ER (cell c (.loc 0 h)) 0 0)
    ∗ (some' (F := F) c (slotH vM h) ∗ owns (c : Thread nD τ) (headM vHbm ((offs c).kv h)) fullShare ((vals I).kv c 1 h) ∗ dutyTok ER (cell c (.loc 1 h)) 0 0)) := rfl
  rw [show sepL (KvPre (vals I) c) hl = sepL (fun h => KvPre (vals I) c h) hl from rfl, e]
  iapply (sepL_sep' _ _ hl)
  isplitl [Hk H0 T0]
  · iapply (sepL_sep' _ _ hl)
    isplitl [Hk]; · iexact Hk
    iapply (sepL_sep' _ _ hl)
    isplitl [H0] <;> iassumption
  · iapply (sepL_sep' _ _ hl)
    isplitl [Hv]; · iexact Hv
    iapply (sepL_sep' _ _ hl)
    isplitl [H1] <;> iassumption

/-- What the eight pairs of copies of keys and values leave. -/
theorem kv_post : sepL (fun h => iprop(KvGot (vals I) c 0 h ∗ KvGot (vals I) c 1 h ∗ KvAt c h 1)) hl
    ⊢ iprop(owns (c : Thread nD τ) kM fullShare (kAll I c 0) ∗ owns (c : Thread nD τ) vM fullShare (kAll I c 1) ∗ Hbm I c ∗ sepL (fun h => KvAt (F := F) c h 1) hl) := by
  unfold Hbm
  iintro H
  ihave H := (sepL_sep _ _ hl) $$ H
  icases H with ⟨H0, H⟩
  ihave H := (sepL_sep _ _ hl) $$ H
  icases H with ⟨H1, HA⟩
  unfold KvGot
  ihave H0 := (sepL_sep _ _ hl) $$ H0
  icases H0 with ⟨S0, M0⟩
  ihave H1 := (sepL_sep _ _ hl) $$ H1
  icases H1 with ⟨S1, M1⟩
  isplitl [S0]; · iapply (slots_join I c 0); iexact S0
  isplitl [S1]; · iapply (slots_join I c 1); iexact S1
  isplitr [HA]
  · isplitl [M0]
    · iexact M0
    · iexact M1
  · iexact HA

/-- Starting a head's two copies. -/
theorem start_step (h : Fin 8) (K : PUnit → Kp F PUnit) (Φ : PUnit → sProp 𝕄) :
    iprop(Inv (vals I) Kn ∗ KvPre (vals I) c h) ⊢ iprop((iprop(Inv (vals I) Kn ∗ KvMid c h) -∗ WP c (K ⟨⟩) Φ) -∗ WP c ((kvStart (offs c) h).bind K) Φ) := by
  iintro ⟨#HI, HP⟩ HK
  iapply (wp_kvStart (vals I) Kn c h) $$ [HP]
  · isplitr; · iexact HI
    iexact HP
  iintro HM
  iapply HK
  isplitr; · iexact HI
  iexact HM

/-- Waiting for a head's two copies. -/
theorem wait_step (h : Fin 8) (K : PUnit → Kp F PUnit) (Φ : PUnit → sProp 𝕄) :
    iprop(iprop(Inv (vals I) Kn ∗ Owe c 0) ∗ iprop(KvMid c h ∗ KvAt c h 0))
      ⊢ iprop((iprop(iprop(Inv (vals I) Kn ∗ Owe c 0) ∗ iprop(KvGot (vals I) c 0 h ∗ KvGot (vals I) c 1 h ∗ KvAt c h 1)) -∗ WP c (K ⟨⟩) Φ) -∗ WP c ((kvWait (offs c) h).bind K) Φ) := by
  iintro ⟨⟨#HI, HO⟩, HM, HA⟩ HK
  iapply (wp_kvWait (vals I) Kn c h 0) $$ [HM HA HO]
  · isplitr; · iexact HI
    isplitl [HM]; · iexact HM
    isplitl [HA]; · iexact HA
    iexact HO
  iintro ⟨HG, HO⟩
  iapply HK
  isplitl [HO]
  · isplitr; · iexact HI
    iexact HO
  · iexact HG

/-- The part of the body before the rings. -/
theorem wp_heads (K : PUnit → Kp F PUnit) (Φ : PUnit → sProp 𝕄) :
    iprop(Inv (vals I) Kn ∗ (owns (c : Thread nD τ) xM fullShare (I.x c) ∗ owns (c : Thread nD τ) wqM fullShare (I.wq c) ∗ owns (c : Thread nD τ) woM fullShare (I.wo c))
        ∗ (some' (F := F) c kM ∗ some' (F := F) c vM ∗ Hbm I c ∗ KvTok c) ∗ some' (F := F) c pfixM ∗ sepL (fun h => KvAt (F := F) c h 0) hl ∗ Owe c 0)
      ⊢ iprop((iprop((Reads I c ∗ owns (c : Thread nD τ) pfixM fullShare (pfixV I c)) ∗ (Hbm I c ∗ sepL (fun h => KvAt (F := F) c h 1) hl) ∗ Owe c 0) -∗ WP c (K ⟨⟩) Φ)
          -∗ WP c ((headsP (offs c)).bind K) Φ) := by
  unfold headsP
  simp only [pbind_assoc]
  rw [show [kvStart (F := F) (offs c) 0, kvStart (offs c) 1, kvStart (offs c) 2, kvStart (offs c) 3, kvStart (offs c) 4, kvStart (offs c) 5, kvStart (offs c) 6, kvStart (offs c) 7]
    = hl.map fun h => kvStart (offs c) h from rfl,
    show [kvWait (F := F) (offs c) 0, kvWait (offs c) 1, kvWait (offs c) 2, kvWait (offs c) 3, kvWait (offs c) 4, kvWait (offs c) 5, kvWait (offs c) 6, kvWait (offs c) 7]
    = hl.map fun h => kvWait (offs c) h from rfl]
  iintro ⟨#HI, ⟨Hx, Hwq, Hwo⟩, HP, Hf, HA, HO⟩ HK
  ihave HP := (kv_pre I c) $$ HP
  iapply (wp_list c 0 (fun _ _ => True) (fun _ => Inv (vals I) Kn) (KvPre (vals I) c) (KvMid c) (fun h => kvStart (offs c) h)
    (fun h n K Φ _ => start_step I c Kn h K Φ) hl 0 _ _ ⟨trivial, trivial, trivial, trivial, trivial, trivial, trivial, trivial, trivial⟩) $$ [HP]
  · isplitr; · iexact HI
    iexact HP
  iintro ⟨-, HM⟩
  iapply (wp_load_in c xM) $$ Hx
  iintro Hx
  iapply (wp_load_all c wqM) $$ Hwq
  iintro Hwq
  iapply (wp_list c 0 (fun _ _ => True) (fun _ => iprop(Inv (vals I) Kn ∗ Owe c 0)) (fun h => iprop(KvMid c h ∗ KvAt c h 0))
    (fun h => iprop(KvGot (vals I) c 0 h ∗ KvGot (vals I) c 1 h ∗ KvAt c h 1)) (fun h => kvWait (offs c) h)
    (fun h n K Φ _ => wait_step I c Kn h K Φ) hl 0 _ _ ⟨trivial, trivial, trivial, trivial, trivial, trivial, trivial, trivial, trivial⟩) $$ [HM HA HO]
  · isplitl [HO]
    · isplitr; · iexact HI
      iexact HO
    · iapply (sepL_sep' _ _ hl)
      isplitl [HM] <;> iassumption
  iintro ⟨⟨-, HO⟩, HG⟩
  ihave HG := (kv_post I c) $$ HG
  icases HG with ⟨Hk, Hv, HH, HA⟩
  iapply (wp_pfix I c) $$ [Hx Hwq Hwo Hk Hv Hf]
  · isplitr [Hf]
    · unfold Reads
      isplitl [Hx]; · iexact Hx
      isplitl [Hwq]; · iexact Hwq
      isplitl [Hwo]; · iexact Hwo
      isplitl [Hk]; · iexact Hk
      iexact Hv
    · iexact Hf
  iintro H
  iapply HK
  isplitl [H]; · iexact H
  isplitr [HO]
  · isplitl [HH]; · iexact HH
    iexact HA
  · iexact HO

/-! ## The additions -/

/-- A step of the first ring: what has arrived and the device's own half chunk are added for sending. -/
theorem wp_accA (w : Fin 2) (t t' : Fin 3) (ht : t'.val = t.val + 1) (K : PUnit → Kp F PUnit) (Φ : PUnit → sProp 𝕄) :
    iprop(owns (c : Thread nD τ) (slotA (recvA w) t) fullShare ((vals I).tx (frm c (.a w t)) (.a w t))
        ∗ owns (c : Thread nD τ) (halfM ((offs c).half w (ai w t))) fullShare (halfV I c w (qq c + ai w t)) ∗ some' (F := F) c (slotA (sendA w) t'))
      ⊢ iprop((iprop(owns (c : Thread nD τ) (slotA (recvA w) t) fullShare ((vals I).tx (frm c (.a w t)) (.a w t))
        ∗ owns (c : Thread nD τ) (halfM ((offs c).half w (ai w t))) fullShare (halfV I c w (qq c + ai w t)) ∗ owns (c : Thread nD τ) (slotA (sendA w) t') fullShare ((vals I).tx c (.a w t'))) -∗ WP c (K ⟨⟩) Φ)
          -∗ WP c ((accA (offs c) w t t').bind K) Φ) := by
  unfold accA
  simp only [pbind_assoc]
  rw [owns_sq, owns_sq]
  iintro ⟨Hr, Hh, Hs⟩ HK
  ihave Hs := (some'_squeeze c _ S256x512 squeezes_S1x256x512_S256x512) $$ Hs
  ihave Hs := (some'_open c _) $$ Hs
  icases Hs with ⟨%Xs, Hs⟩
  iapply (wp_load_part c (recvA w) (Rect.unit (s := S3x256x512) ![t.val, 0, 0] S1x256x512.size (inb3a t)) (fun _ => rfl)) $$ Hr
  iintro Hr
  iapply (wp_load_part c partM (Rect.unit (s := S1024x1024) ((offs c).half w (ai w t)).1 S256x512.size ((offs c).half w (ai w t)).2) (fun _ => rfl)) $$ Hh
  iintro Hh
  iapply (wp_load_part c (sendA w) (Rect.unit (s := S3x256x512) ![t'.val, 0, 0] S1x256x512.size (inb3a t')) (fun _ => rfl)) $$ Hs
  iintro Hs
  iapply (wp_store_part c (sendA w) (Rect.unit (s := S3x256x512) ![t'.val, 0, 0] S1x256x512.size (inb3a t')) (fun _ => rfl)) $$ Hs
  iintro Hs
  iapply HK
  isplitl [Hr]; · iexact Hr
  isplitl [Hh]; · iexact Hh
  rw [show (vals I).tx c (.a w t') = addA (shapeCast S1x256x512 ((vals I).tx (frm c (.a w t)) (.a w t)) squeezes_S1x256x512_S256x512.numel_eq.symm) (halfV I c w (qq c + ai w t)) from by
    unfold addA
    rw [shapeCast_shapeCast, ← txA_succ, ← ht]; rfl]
  iexact Hs

/-- The finished strip's four row strips. -/
theorem strip_split (w : Fin 2) : (owns (c : Thread nD τ) (stripM w) fullShare (txA I w 3 c) : sProp 𝕄)
    ⊢ sepL (fun s => owns (c : Thread nD τ) (stripAt w ((offs c).strip w s)) fullShare (stripV I c w (rr c + s))) [0, 1, 2, 3] := by
  refine (fam_split c famS (stripM w) fullShare (txA I w 3 c)).trans (Entails.of_eq ?_)
  refine (sepL_univ (fun s => owns (c : Thread nD τ) ((stripM w).slice (famS.r s) (famS.str s)) fullShare (stripV I c w s)) ([0, 1, 2, 3].map (rr c + ·)) ?_ ?_).trans ?_
  · generalize rr c = r; revert r; decide
  · generalize rr c = r; revert r; decide
  · exact sepL_map (rr c + ·) _ [0, 1, 2, 3]

/-- The first ring's end: what has arrived and the device's own half chunk are added into the strip. -/
theorem wp_accStrip (w : Fin 2) (K : PUnit → Kp F PUnit) (Φ : PUnit → sProp 𝕄) :
    iprop(owns (c : Thread nD τ) (slotA (recvA w) 2) fullShare ((vals I).tx (frm c (.a w 2)) (.a w 2))
        ∗ owns (c : Thread nD τ) (halfM ((offs c).half w (ai w 2))) fullShare (halfV I c w (qq c + ai w 2)) ∗ some' (F := F) c (stripM w))
      ⊢ iprop((iprop(owns (c : Thread nD τ) (slotA (recvA w) 2) fullShare ((vals I).tx (frm c (.a w 2)) (.a w 2))
        ∗ owns (c : Thread nD τ) (halfM ((offs c).half w (ai w 2))) fullShare (halfV I c w (qq c + ai w 2))
        ∗ sepL (fun s => owns (c : Thread nD τ) (stripAt w ((offs c).strip w s)) fullShare (stripV I c w (rr c + s))) [0, 1, 2, 3]) -∗ WP c (K ⟨⟩) Φ)
          -∗ WP c ((accStrip (offs c) w).bind K) Φ) := by
  unfold accStrip
  simp only [pbind_assoc]
  rw [owns_sq]
  iintro ⟨Hr, Hh, Hs⟩ HK
  ihave Hs := (some'_open c _) $$ Hs
  icases Hs with ⟨%Xs, Hs⟩
  iapply (wp_load_part c (recvA w) (Rect.unit (s := S3x256x512) ![(2 : Fin 3).val, 0, 0] S1x256x512.size (inb3a 2)) (fun _ => rfl)) $$ Hr
  iintro Hr
  iapply (wp_load_part c partM (Rect.unit (s := S1024x1024) ((offs c).half w (ai w 2)).1 S256x512.size ((offs c).half w (ai w 2)).2) (fun _ => rfl)) $$ Hh
  iintro Hh
  iapply (wp_load_all c (stripM w)) $$ Hs
  iintro Hs
  iapply (wp_store_all c (stripM w)) $$ Hs
  iintro Hs
  iapply HK
  isplitl [Hr]; · iexact Hr
  isplitl [Hh]; · iexact Hh
  iapply (strip_split I c w)
  rw [show txA I w 3 c = shapeCast S256x512 (addA (shapeCast S1x256x512 ((vals I).tx (frm c (.a w 2)) (.a w 2)) squeezes_S1x256x512_S256x512.numel_eq.symm) (halfV I c w (qq c + ai w 2))) shapeCasts_S256x512_S256x512 from by
    unfold addA
    rw [shapeCast_self, shapeCast_shapeCast, ← txA_succ]; rfl]
  iexact Hs

/-- A step of the second ring: what has arrived and the device's own part of the strip are added for sending. -/
theorem wp_accB (w : Fin 2) (t t' : Fin 3) (ht : t'.val = t.val + 1) (K : PUnit → Kp F PUnit) (Φ : PUnit → sProp 𝕄) :
    iprop(owns (c : Thread nD τ) (slotB (recvB w) t) fullShare ((vals I).tx (frm c (.b w t)) (.b w t))
        ∗ owns (c : Thread nD τ) (stripAt w ((offs c).strip w (ai w t))) fullShare (stripV I c w (rr c + ai w t)) ∗ some' (F := F) c (slotB (sendB w) t'))
      ⊢ iprop((iprop(owns (c : Thread nD τ) (slotB (recvB w) t) fullShare ((vals I).tx (frm c (.b w t)) (.b w t))
        ∗ owns (c : Thread nD τ) (stripAt w ((offs c).strip w (ai w t))) fullShare (stripV I c w (rr c + ai w t)) ∗ owns (c : Thread nD τ) (slotB (sendB w) t') fullShare ((vals I).tx c (.b w t'))) -∗ WP c (K ⟨⟩) Φ)
          -∗ WP c ((accB (offs c) w t t').bind K) Φ) := by
  unfold accB
  simp only [pbind_assoc]
  rw [owns_sq, owns_sq]
  iintro ⟨Hr, Hh, Hs⟩ HK
  ihave Hs := (some'_squeeze c _ S64x512 squeezes_S1x64x512_S64x512) $$ Hs
  ihave Hs := (some'_open c _) $$ Hs
  icases Hs with ⟨%Xs, Hs⟩
  iapply (wp_load_part c (recvB w) (Rect.unit (s := S3x64x512) ![t.val, 0, 0] S1x64x512.size (inb3b t)) (fun _ => rfl)) $$ Hr
  iintro Hr
  iapply (wp_load_part c (stripM w) (Rect.unit (s := S256x512) ((offs c).strip w (ai w t)).1 S64x512.size ((offs c).strip w (ai w t)).2) (fun _ => rfl)) $$ Hh
  iintro Hh
  iapply (wp_load_part c (sendB w) (Rect.unit (s := S3x64x512) ![t'.val, 0, 0] S1x64x512.size (inb3b t')) (fun _ => rfl)) $$ Hs
  iintro Hs
  iapply (wp_store_part c (sendB w) (Rect.unit (s := S3x64x512) ![t'.val, 0, 0] S1x64x512.size (inb3b t')) (fun _ => rfl)) $$ Hs
  iintro Hs
  iapply HK
  isplitl [Hr]; · iexact Hr
  isplitl [Hh]; · iexact Hh
  rw [show (vals I).tx c (.b w t') = addB (shapeCast S1x64x512 ((vals I).tx (frm c (.b w t)) (.b w t)) squeezes_S1x64x512_S64x512.numel_eq.symm) (stripV I c w (rr c + ai w t)) from by
    unfold addB
    rw [shapeCast_shapeCast, ← txB_succ, ← ht]; rfl]
  iexact Hs

/-- The second ring's end: what has arrived is added into the device's own part of the strip. -/
theorem wp_accOwn (w : Fin 2) (K : PUnit → Kp F PUnit) (Φ : PUnit → sProp 𝕄) :
    iprop(owns (c : Thread nD τ) (slotB (recvB w) 2) fullShare ((vals I).tx (frm c (.b w 2)) (.b w 2))
        ∗ owns (c : Thread nD τ) (stripAt w ((offs c).strip w (ai w 2))) fullShare (stripV I c w (rr c + ai w 2)))
      ⊢ iprop((iprop(owns (c : Thread nD τ) (slotB (recvB w) 2) fullShare ((vals I).tx (frm c (.b w 2)) (.b w 2))
        ∗ owns (c : Thread nD τ) (stripAt w ((offs c).strip w (ai w 2))) fullShare (txB I w 3 c)) -∗ WP c (K ⟨⟩) Φ)
          -∗ WP c ((accOwn (offs c) w).bind K) Φ) := by
  unfold accOwn
  simp only [pbind_assoc]
  rw [owns_sq]
  iintro ⟨Hr, Hs⟩ HK
  iapply (wp_load_part c (recvB w) (Rect.unit (s := S3x64x512) ![(2 : Fin 3).val, 0, 0] S1x64x512.size (inb3b 2)) (fun _ => rfl)) $$ Hr
  iintro Hr
  iapply (wp_load_part c (stripM w) (Rect.unit (s := S256x512) ((offs c).strip w (ai w 2)).1 S64x512.size ((offs c).strip w (ai w 2)).2) (fun _ => rfl)) $$ Hs
  iintro Hs
  iapply (wp_load_part c (stripM w) (Rect.unit (s := S256x512) ((offs c).strip w (ai w 2)).1 S64x512.size ((offs c).strip w (ai w 2)).2) (fun _ => rfl)) $$ Hs
  iintro Hs
  iapply (wp_store_part c (stripM w) (Rect.unit (s := S256x512) ((offs c).strip w (ai w 2)).1 S64x512.size ((offs c).strip w (ai w 2)).2) (fun _ => rfl)) $$ Hs
  iintro Hs
  iapply HK
  isplitl [Hr]; · iexact Hr
  rw [show txB I w 3 c = shapeCast S64x512 (addB (shapeCast S1x64x512 ((vals I).tx (frm c (.b w 2)) (.b w 2)) squeezes_S1x64x512_S64x512.numel_eq.symm) (stripV I c w (rr c + ai w 2))) shapeCasts_S64x512_S64x512 from by
    unfold addB
    rw [shapeCast_self, shapeCast_shapeCast, ← txB_succ]; rfl]
  iexact Hs

/-! ## The finished rows -/

/-- Where they go in the result, -/
abbrev ownR (w : Fin 2) : Rect S1x1024x1024 := Rect.unit (s := S1x1024x1024) ((offs c).own w).1 S1x64x512.size ((offs c).own w).2
/-- which are two pieces. -/
def ownP' (w b : Fin 2) : Piece := ⟨qq c + fin1 w, rr c + fin1 w, b, w⟩

/-- A device's part of the result is its two pieces. -/
theorem own_union (w : Fin 2) : (ownR c w).set = (famP.r (ownP' c w 0)).set ∪ (famP.r (ownP' c w 1)).set := by
  ext i
  rw [Finset.mem_union, famP.mem, famP.mem, Rect.mem_set_unit]
  have h0 : (i 0).val < 1 := (i 0).isLt
  have h1 : (i 1).val < 1024 := (i 1).isLt
  have h2 : (i 2).val < 1024 := (i 2).isLt
  have hq := (qq c + fin1 w).isLt
  have hr := (rr c + fin1 w).isLt
  have hw := w.isLt
  have e (b : Fin 2) : famP.cls i = ownP' c w b ↔ ((i 1).val / 256 = (qq c + fin1 w).val ∧ (i 1).val / 64 % 4 = (rr c + fin1 w).val ∧ (i 1).val / 32 % 2 = b.val ∧ (i 2).val / 512 = w.val) := by
    show pieceOf i = ownP' c w b ↔ _
    unfold pieceOf ownP'
    simp only [Piece.mk.injEq, Fin.ext_iff]
  rw [e, e]
  constructor
  · intro h
    have a1 : 256 * (qq c + fin1 w).val + 64 * (rr c + fin1 w).val ≤ (i 1).val ∧ (i 1).val < 256 * (qq c + fin1 w).val + 64 * (rr c + fin1 w).val + 64 := h 1
    have a2 : 512 * w.val ≤ (i 2).val ∧ (i 2).val < 512 * w.val + 512 := h 2
    show (_ ∧ _ ∧ _ = 0 ∧ _) ∨ (_ ∧ _ ∧ _ = 1 ∧ _)
    omega
  · intro h
    have h' : (((i 1).val / 256 = (qq c + fin1 w).val ∧ (i 1).val / 64 % 4 = (rr c + fin1 w).val ∧ (i 1).val / 32 % 2 = 0 ∧ (i 2).val / 512 = w.val)) ∨ ((i 1).val / 256 = (qq c + fin1 w).val ∧ (i 1).val / 64 % 4 = (rr c + fin1 w).val ∧ (i 1).val / 32 % 2 = 1 ∧ (i 2).val / 512 = w.val) := h
    intro a
    match a with
    | 0 => exact ⟨Nat.zero_le _, by show _ < 0 + 1; omega⟩
    | 1 => exact ⟨by show 256 * (qq c + fin1 w).val + 64 * (rr c + fin1 w).val ≤ _; omega, by show _ < 256 * (qq c + fin1 w).val + 64 * (rr c + fin1 w).val + 64; omega⟩
    | 2 => exact ⟨by show 512 * w.val ≤ _; omega, by show _ < 512 * w.val + 512; omega⟩

/-- The two pieces do not overlap. -/
theorem own_disj (w : Fin 2) : Disjoint (famP.r (ownP' c w 0)).set (famP.r (ownP' c w 1)).set :=
  famP.disj _ _ (by unfold ownP'; intro h; have := congrArg Piece.b h; exact absurd (show (0 : Fin 2) = 1 from this) (by decide))

/-- The value of the device's finished rows in the result. -/
def ownVal (w : Fin 2) : S1x64x512.Idx → Elt F .f32 := fun j => outV I ((ownR c w).emb j)

/-- What a device stores in its part of the result is the second ring's sum. -/
theorem ownVal_eq (w : Fin 2) : shapeCast S1x64x512 (txB I w 3 c) shapeCasts_S64x512_S1x64x512 = ownVal I c w := by
  funext j
  refine Eq.trans ?_ (own_out I c w j).symm
  refine shapeCast_apply _ _ _ _ ?_
  have h0 : (j 0).val < 1 := (j 0).isLt
  rw [Shape.rowMajor_val_three, Shape.rowMajor_val_two]
  simp
  omega

/-- A piece of the result, in place at its final value, -/
def Pc (p : Piece) : sProp 𝕄 := owns (c : Thread nD τ) (pieceM ⟨p.off, p.inb⟩) fullShare (pieceV I p)
/-- or at some value. -/
def Pc' (p : Piece) : sProp 𝕄 := some' (F := F) c (pieceM ⟨p.off, p.inb⟩)

/-- The piece before the change of shape. -/
def pieceX (p : Piece) : S1x32x512.Idx → Elt F .f32 := fun j => outV I ((famP.r p).emb j)
/-- Holding a piece is owning its rectangle of the result. -/
theorem Pc_eq (p : Piece) : (Pc I c p : sProp 𝕄) = owns (c : Thread nD τ) (outM.slice (famP.r p) (famP.str p)) fullShare (pieceX I p) := by
  unfold Pc
  exact owns_squeeze c (outM.slice (famP.r p) (famP.str p)) fullShare S32x512 squeezes_S1x32x512_S32x512 (pieceX I p)

omit [FloatOps F] [Named F] in
/-- A piece with some contents is its rectangle with some contents. -/
theorem Pc'_open (p : Piece) : (Pc' (F := F) c p : sProp 𝕄) ⊢ some' c (outM.slice (famP.r p) (famP.str p)) :=
  some'_squeeze c (outM.slice (famP.r p) (famP.str p)) S32x512 squeezes_S1x32x512_S32x512

omit [FloatOps F] [Named F] in
/-- A rectangle with some contents is its piece with some contents. -/
theorem Pc'_close (p : Piece) : (some' (F := F) c (outM.slice (famP.r p) (famP.str p)) : sProp 𝕄) ⊢ Pc' c p :=
  some'_of_squeeze c (outM.slice (famP.r p) (famP.str p)) S32x512 squeezes_S1x32x512_S32x512

/-- A device's two pieces together are its part of the result. -/
theorem own_join (w : Fin 2) : (some' (F := F) c (outM.slice (famP.r (ownP' c w 0)) (famP.str (ownP' c w 0))) : sProp 𝕄)
    ⊢ iprop(some' c (outM.slice (famP.r (ownP' c w 1)) (famP.str (ownP' c w 1))) -∗ some' c (outM.slice (ownR c w) (fun _ => rfl))) :=
  haveI : Nonempty (Elt F cc0_stg3_0.ty.elt) := (inferInstance : Nonempty (Elt F .f32))
  some'_two c cc0_stg3_0 (ownR c w) (famP.r (ownP' c w 0)) (famP.r (ownP' c w 1)) (fun _ => rfl) (famP.str _) (famP.str _) (own_union c w) (own_disj c w)

/-- A device's part of the result is its two pieces, with their values. -/
theorem own_split (w : Fin 2) : (owns (c : Thread nD τ) (outM.slice (ownR c w) (fun _ => rfl)) fullShare (ownVal I c w) : sProp 𝕄) ⊢ iprop(Pc I c (ownP' c w 0) ∗ Pc I c (ownP' c w 1)) := by
  rw [Pc_eq, Pc_eq]
  exact Entails.of_eq (owns_two c cc0_stg3_0 (ownR c w) (famP.r (ownP' c w 0)) (famP.r (ownP' c w 1)) (fun _ => rfl) (famP.str _) (famP.str _) (own_union c w) (own_disj c w) fullShare (outV I))

/-- Storing the device's part of the result. -/
theorem wp_own (w : Fin 2) (K : PUnit → Kp F PUnit) (Φ : PUnit → sProp 𝕄) :
    iprop(owns (c : Thread nD τ) (stripAt w ((offs c).strip w (ai w 2))) fullShare (txB I w 3 c) ∗ Pc' (F := F) c (ownP' c w 0) ∗ Pc' (F := F) c (ownP' c w 1))
      ⊢ iprop((iprop(owns (c : Thread nD τ) (stripAt w ((offs c).strip w (ai w 2))) fullShare (txB I w 3 c) ∗ Pc I c (ownP' c w 0) ∗ Pc I c (ownP' c w 1)) -∗ WP c (K ⟨⟩) Φ)
          -∗ WP c ((ownP (offs c) w).bind K) Φ) := by
  unfold ownP
  simp only [pbind_assoc]
  iintro ⟨Hs, H0, H1⟩ HK
  ihave H0 := (Pc'_open c (ownP' c w 0)) $$ H0
  ihave H1 := (Pc'_open c (ownP' c w 1)) $$ H1
  ihave Ho := (own_join c w) $$ H0 H1
  ihave Ho := (some'_open c _) $$ Ho
  icases Ho with ⟨%Xo, Ho⟩
  iapply (wp_load_part c (stripM w) (Rect.unit (s := S256x512) ((offs c).strip w (ai w 2)).1 S64x512.size ((offs c).strip w (ai w 2)).2) (fun _ => rfl)) $$ Hs
  iintro Hs
  iapply (wp_load_part c outM (ownR c w) (fun _ => rfl)) $$ Ho
  iintro Ho
  iapply (wp_store_part c outM (ownR c w) (fun _ => rfl)) $$ Ho
  iintro Ho
  iapply HK
  isplitl [Hs]; · iexact Hs
  iapply (own_split I c w)
  rw [← ownVal_eq]
  iexact Ho

end Cert.KernelIdeal.Body
end
-- ==== Proof.Rings.lean ====
module

public import proofs.«01_k».proof.Proof.Compute2

@[expose] public section

/-! The rings of the reduction, step by step: from the partial result to the device's finished rows. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F) (c : Dev nD)

/-! ## Buffers cut and joined -/

omit [FloatOps F] [Named F] in
/-- A buffer of the first ring is its three slots. -/
theorem sA_split (M : Memref sig .tc .vmem S3x256x512 .f32) : (some' (F := F) c M : sProp 𝕄) ⊢ sepL (fun t => some' c (slotA M t)) [0, 1, 2] := by
  refine (fam_some c famA M).trans ?_
  rw [sepL_univ (fun t : Fin 3 => some' (F := F) c (M.slice (famA.r t) (famA.str t))) [0, 1, 2] (by decide) (by decide)]
  exact sepL_mono _ _ (fun t => some'_of_squeeze c (M.slice (famA.r t) (famA.str t)) S256x512 squeezes_S1x256x512_S256x512) _

omit [Named F] in
/-- The three slots are the buffer. -/
theorem sA_join (M : Memref sig .tc .vmem S3x256x512 .f32) : (sepL (fun t => some' c (slotA M t)) [0, 1, 2] : sProp 𝕄) ⊢ some' (F := F) c M := by
  refine (sepL_mono _ (fun t => some' (F := F) c (M.slice (famA.r t) (famA.str t))) (fun t => some'_squeeze c (M.slice (famA.r t) (famA.str t)) S256x512 squeezes_S1x256x512_S256x512) _).trans ?_
  rw [← sepL_univ (fun t : Fin 3 => some' (F := F) c (M.slice (famA.r t) (famA.str t))) [0, 1, 2] (by decide) (by decide)]
  exact fam_some_join c famA M

omit [FloatOps F] [Named F] in
/-- A buffer of the second ring is its three slots. -/
theorem sB_split (M : Memref sig .tc .vmem S3x64x512 .f32) : (some' (F := F) c M : sProp 𝕄) ⊢ sepL (fun t => some' c (slotB M t)) [0, 1, 2] := by
  refine (fam_some c famB M).trans ?_
  rw [sepL_univ (fun t : Fin 3 => some' (F := F) c (M.slice (famB.r t) (famB.str t))) [0, 1, 2] (by decide) (by decide)]
  exact sepL_mono _ _ (fun t => some'_of_squeeze c (M.slice (famB.r t) (famB.str t)) S64x512 squeezes_S1x64x512_S64x512) _

omit [Named F] in
/-- The three slots are the buffer. -/
theorem sB_join (M : Memref sig .tc .vmem S3x64x512 .f32) : (sepL (fun t => some' c (slotB M t)) [0, 1, 2] : sProp 𝕄) ⊢ some' (F := F) c M := by
  refine (sepL_mono _ (fun t => some' (F := F) c (M.slice (famB.r t) (famB.str t))) (fun t => some'_squeeze c (M.slice (famB.r t) (famB.str t)) S64x512 squeezes_S1x64x512_S64x512) _).trans ?_
  rw [← sepL_univ (fun t : Fin 3 => some' (F := F) c (M.slice (famB.r t) (famB.str t))) [0, 1, 2] (by decide) (by decide)]
  exact fam_some_join c famB M

/-- The four chunks counted from the device's own are distinct. -/
theorem shift_nodup (r : Fin 4) : ([0, 1, 2, 3].map (r + ·)).Nodup := by revert r; decide
/-- They are all chunks. -/
theorem shift_univ (r : Fin 4) : ([0, 1, 2, 3].map (r + ·)).toFinset = Finset.univ := by revert r; decide

/-- What holds of all chunks, counted from the device's own. -/
theorem shiftL {M : Type} [URA M] (r : Fin 4) (Φ : Fin 4 → sProp M) : bigSep Finset.univ Φ = sepL (fun i => Φ (r + i)) [0, 1, 2, 3] :=
  (sepL_univ Φ _ (shift_nodup r) (shift_univ r)).trans (sepL_map (r + ·) Φ [0, 1, 2, 3])

omit [FloatOps F] [Named F] in
/-- The buffer of products is its four chunks. -/
theorem part_split : (some' (F := F) c partM : sProp 𝕄) ⊢ sepL (fun i => some' c (chunkR (qq c + i))) [0, 1, 2, 3] :=
  (fam_some c famC partM).trans (Entails.of_eq (shiftL (qq c) fun k => some' (F := F) c (chunkR k)))

/-- Two halves are a chunk. -/
theorem half_join (k : Fin 4) : (some' (F := F) c (partM.slice (halfR 0 k) (fun _ => rfl)) : sProp 𝕄)
    ⊢ iprop(some' c (partM.slice (halfR 1 k) (fun _ => rfl)) -∗ some' c (chunkR k)) :=
  haveI : Nonempty (Elt F cc0_scratch4.ty.elt) := (inferInstance : Nonempty (Elt F .f32))
  some'_two c cc0_scratch4 (famC.r k) (halfR 0 k) (halfR 1 k) (famC.str k) (fun _ => rfl) (fun _ => rfl) (halves k) (halves_disj k)

/-- A half chunk with its value is one with some contents. -/
theorem half_some (w : Fin 2) (i : Fin 4) : (owns (c : Thread nD τ) (halfM ((offs c).half w i)) fullShare (halfV I c w (qq c + i)) : sProp 𝕄)
    ⊢ some' (F := F) c (partM.slice (halfR w (qq c + i)) (fun _ => rfl)) :=
  some'_intro c (partM.slice (halfR w (qq c + i)) (fun _ => rfl)) (halfV I c w (qq c + i))

/-- Two half chunks with their values are a chunk with some contents. -/
theorem half_join' (i : Fin 4) : iprop(owns (c : Thread nD τ) (halfM ((offs c).half 0 i)) fullShare (halfV I c 0 (qq c + i)) ∗ owns (c : Thread nD τ) (halfM ((offs c).half 1 i)) fullShare (halfV I c 1 (qq c + i)))
    ⊢ (some' (F := F) c (chunkR (qq c + i)) : sProp 𝕄) := by
  iintro ⟨H0, H1⟩
  ihave H0 := (half_some I c 0 i) $$ H0
  ihave H1 := (half_some I c 1 i) $$ H1
  iapply (half_join c (qq c + i)) $$ H0 H1

/-- The eight half chunks are the buffer of products. -/
theorem part_join : (sepL (fun i => iprop(owns (c : Thread nD τ) (halfM ((offs c).half 0 i)) fullShare (halfV I c 0 (qq c + i)) ∗ owns (c : Thread nD τ) (halfM ((offs c).half 1 i)) fullShare (halfV I c 1 (qq c + i)))) [0, 1, 2, 3] : sProp 𝕄)
    ⊢ some' (F := F) c partM :=
  (sepL_mono _ _ (half_join' I c) _).trans ((Entails.of_eq (shiftL (qq c) fun k => some' (F := F) c (chunkR k)).symm).trans (fam_some_join c famC partM))

/-- The four parts of a strip are the strip. -/
theorem st_join (w : Fin 2) (X : Fin 4 → S64x512.Idx → Elt F .f32) : (sepL (fun s => owns (c : Thread nD τ) (stripAt w ((offs c).strip w s)) fullShare (X s)) [0, 1, 2, 3] : sProp 𝕄)
    ⊢ some' (F := F) c (stripM w) :=
  (sepL_mono _ (fun s => some' (F := F) c ((stripM w).slice (famS.r (rr c + s)) (famS.str _))) (fun s => some'_intro c ((stripM w).slice (famS.r (rr c + s)) (famS.str _)) (X s)) _).trans
    ((Entails.of_eq (shiftL (rr c) fun s => some' (F := F) c ((stripM w).slice (famS.r s) (famS.str s))).symm).trans (fam_some_join c famS (stripM w)))

/-! ## What a transfer's ends are -/

/-- What the first ring's first step sends. -/
theorem src_a0 (w : Fin 2) : (owns (c : Thread nD τ) (halfM ((offs c).half w 0)) fullShare (halfV I c w (qq c + 0)) : sProp 𝕄) = Src (vals I) c (.a w 0) := rfl
/-- What the first ring's second step sends. -/
theorem src_a1 (w : Fin 2) : (owns (c : Thread nD τ) (slotA (sendA w) 1) fullShare ((vals I).tx c (.a w 1)) : sProp 𝕄) = Src (vals I) c (.a w 1) := rfl
/-- What the first ring's third step sends. -/
theorem src_a2 (w : Fin 2) : (owns (c : Thread nD τ) (slotA (sendA w) 2) fullShare ((vals I).tx c (.a w 2)) : sProp 𝕄) = Src (vals I) c (.a w 2) := rfl
/-- What the second ring's first step sends. -/
theorem src_b0 (w : Fin 2) : (owns (c : Thread nD τ) (stripAt w ((offs c).strip w 0)) fullShare (stripV I c w (rr c + 0)) : sProp 𝕄) = Src (vals I) c (.b w 0) := rfl
/-- What the second ring's second step sends. -/
theorem src_b1 (w : Fin 2) : (owns (c : Thread nD τ) (slotB (sendB w) 1) fullShare ((vals I).tx c (.b w 1)) : sProp 𝕄) = Src (vals I) c (.b w 1) := rfl
/-- What the second ring's third step sends. -/
theorem src_b2 (w : Fin 2) : (owns (c : Thread nD τ) (slotB (sendB w) 2) fullShare ((vals I).tx c (.b w 2)) : sProp 𝕄) = Src (vals I) c (.b w 2) := rfl
/-- What the first ring's copies hand over. -/
theorem land_a (w : Fin 2) (t : Fin 3) : Landed (vals I) c (.a w t) = (owns (c : Thread nD τ) (slotA (recvA w) t) fullShare ((vals I).tx (frm c (.a w t)) (.a w t)) : sProp 𝕄) := rfl
/-- What the second ring's copies hand over. -/
theorem land_b (w : Fin 2) (t : Fin 3) : Landed (vals I) c (.b w t) = (owns (c : Thread nD τ) (slotB (recvB w) t) fullShare ((vals I).tx (frm c (.b w t)) (.b w t)) : sProp 𝕄) := rfl

/-! ## The rings -/

/-- The staged inputs. -/
def Ins : sProp 𝕄 :=
  iprop(owns (c : Thread nD τ) xM fullShare (I.x c) ∗ owns (c : Thread nD τ) wqM fullShare (I.wq c) ∗ owns (c : Thread nD τ) woM fullShare (I.wo c))
/-- The device's own buffers. -/
def Scr : sProp 𝕄 :=
  iprop((some' (F := F) c qM ∗ some' (F := F) c ctxM ∗ some' (F := F) c kM ∗ some' (F := F) c vM ∗ some' (F := F) c partM ∗ some' (F := F) c pfixM)
    ∗ (some' (F := F) c (sendA 0) ∗ some' (F := F) c (recvA 0) ∗ some' (F := F) c (sendA 1) ∗ some' (F := F) c (recvA 1))
    ∗ (some' (F := F) c (stripM 0) ∗ some' (F := F) c (stripM 1))
    ∗ some' (F := F) c (sendB 0) ∗ some' (F := F) c (recvB 0) ∗ some' (F := F) c (sendB 1) ∗ some' (F := F) c (recvB 1))

/-- The rings' transfers in order. -/
abbrev lr : List Tx := [.a 0 0, .a 1 0, .a 0 1, .a 1 1, .a 0 2, .a 1 2, .b 0 0, .b 1 0, .b 0 1, .b 1 1, .b 0 2, .b 1 2]

/-- What the rings take, -/
def RingPre : sProp 𝕄 :=
  iprop((Reads I c ∗ owns (c : Thread nD τ) pfixM fullShare (pfixV I c) ∗ some' (F := F) c qM ∗ some' (F := F) c ctxM) ∗ some' (F := F) c partM
    ∗ (some' (F := F) c (sendA 0) ∗ some' (F := F) c (sendA 1)) ∗ (some' (F := F) c (stripM 0) ∗ some' (F := F) c (stripM 1)) ∗ (some' (F := F) c (sendB 0) ∗ some' (F := F) c (sendB 1))
    ∗ ((Pc' (F := F) c (ownP' c 0 0) ∗ Pc' (F := F) c (ownP' c 0 1)) ∗ Pc' (F := F) c (ownP' c 1 0) ∗ Pc' (F := F) c (ownP' c 1 1))
    ∗ sepL (SendRes (F := F) c) lr ∗ sepL (WaitRes (F := F) c) lr ∗ Owe c 0)
/-- and what they leave. -/
def RingPost : sProp 𝕄 :=
  iprop(Ins I c ∗ Scr (F := F) c ∗ ((Pc I c (ownP' c 0 0) ∗ Pc I c (ownP' c 0 1)) ∗ Pc I c (ownP' c 1 0) ∗ Pc I c (ownP' c 1 1))
    ∗ sepL (Fin' (F := F) c) lr ∗ Owe c 12)

variable (Kn : Dev nD × CK → ℕ)

/-- A list of steps and what follows: the first step, then the others. -/
theorem seqs_bind_cons (p : Kp F PUnit) (l : List (Kp F PUnit)) (K : PUnit → Kp F PUnit) :
    (seqs (p :: l)).bind K = p.bind fun _ => (seqs l).bind K := by
  rw [show seqs (p :: l) = p.bind fun _ => seqs l from rfl, pbind_assoc]
/-- No steps, then what follows. -/
theorem seqs_bind_nil (K : PUnit → Kp F PUnit) : (seqs ([] : List (Kp F PUnit))).bind K = K ⟨⟩ := rfl

set_option maxHeartbeats 4000000 in
/-- The chunks, the two rings and the store of the device's part, from the device's inputs to its part of the result. -/
theorem wp_rings (K : PUnit → Kp F PUnit) (Φ : PUnit → sProp 𝕄) :
    iprop(Inv (vals I) Kn ∗ RingPre I c) ⊢ iprop((RingPost I c -∗ WP c (K ⟨⟩) Φ) -∗ WP c ((seqs (ringSteps (offs c))).bind K) Φ) := by
  unfold RingPre
  iintro ⟨#HI, ⟨HC, Hp, ⟨HsA0, HsA1⟩, ⟨Hst0, Hst1⟩, ⟨HsB0, HsB1⟩, ⟨⟨HP00, HP01⟩, HP10, HP11⟩, HS, HW, HO⟩⟩ HK
  ihave Hp := (part_split c) $$ Hp
  ihave HsA0 := (sA_split c (sendA 0)) $$ HsA0
  ihave HsA1 := (sA_split c (sendA 1)) $$ HsA1
  ihave HsB0 := (sB_split c (sendB 0)) $$ HsB0
  ihave HsB1 := (sB_split c (sendB 1)) $$ HsB1
  simp only [sepL_cons, sepL_nil]
  icases Hp with ⟨Hp0, Hp1, Hp2, Hp3, -⟩
  icases HsA0 with ⟨HA00, HA01, HA02, -⟩
  icases HsA1 with ⟨HA10, HA11, HA12, -⟩
  icases HsB0 with ⟨HB00, HB01, HB02, -⟩
  icases HsB1 with ⟨HB10, HB11, HB12, -⟩
  icases HS with ⟨Sa00, Sa10, Sa01, Sa11, Sa02, Sa12, Sb00, Sb10, Sb01, Sb11, Sb02, Sb12, -⟩
  icases HW with ⟨Wa00, Wa10, Wa01, Wa11, Wa02, Wa12, Wb00, Wb10, Wb01, Wb11, Wb02, Wb12, -⟩
  unfold ringSteps
  rw [seqs_bind_cons]
  iapply (wp_chunk I c 0) $$ [HC Hp0]
  · isplitl [HC]; · iexact HC
    iexact Hp0
  iintro ⟨HC, H00, H10⟩
  rw [seqs_bind_cons]
  ihave Src := (Entails.of_eq (src_a0 I c 0)) $$ H00
  iapply (wp_sendX (vals I) Kn c (.a 0 0) 0 (by decide)) $$ [Src Sa00 HO]
  · isplitr; · iexact HI
    isplitl [Src]; · iexact Src
    isplitl [Sa00]; · iexact Sa00
    iexact HO
  iintro ⟨Ca00, HO⟩
  rw [seqs_bind_cons]
  ihave Src := (Entails.of_eq (src_a0 I c 1)) $$ H10
  iapply (wp_sendX (vals I) Kn c (.a 1 0) 1 (by decide)) $$ [Src Sa10 HO]
  · isplitr; · iexact HI
    isplitl [Src]; · iexact Src
    isplitl [Sa10]; · iexact Sa10
    iexact HO
  iintro ⟨Ca10, HO⟩
  rw [seqs_bind_cons]
  iapply (wp_chunk I c 3) $$ [HC Hp3]
  · isplitl [HC]; · iexact HC
    iexact Hp3
  iintro ⟨HC, H03, H13⟩
  rw [seqs_bind_cons]
  iapply (wp_waitX (vals I) Kn c (.a 0 0) 2 (by decide)) $$ [Ca00 Wa00 HO]
  · isplitr; · iexact HI
    isplitl [Ca00]; · iexact Ca00
    isplitl [Wa00]; · iexact Wa00
    iexact HO
  iintro ⟨Src, Lnd, Fa00, HO⟩
  ihave H00 := (Entails.of_eq (src_a0 I c 0).symm) $$ Src
  ihave Ra00 := (Entails.of_eq (land_a I c 0 0)) $$ Lnd
  rw [seqs_bind_cons]
  iapply (wp_accA I c 0 0 1 rfl) $$ [Ra00 H03 HA01]
  · isplitl [Ra00]; · iexact Ra00
    isplitl [H03]; · iexact H03
    iexact HA01
  iintro ⟨Ra00, H03, HA01⟩
  rw [seqs_bind_cons]
  ihave Src := (Entails.of_eq (src_a1 I c 0)) $$ HA01
  iapply (wp_sendX (vals I) Kn c (.a 0 1) 2 (by decide)) $$ [Src Sa01 HO]
  · isplitr; · iexact HI
    isplitl [Src]; · iexact Src
    isplitl [Sa01]; · iexact Sa01
    iexact HO
  iintro ⟨Ca01, HO⟩
  rw [seqs_bind_cons]
  iapply (wp_chunk I c 1) $$ [HC Hp1]
  · isplitl [HC]; · iexact HC
    iexact Hp1
  iintro ⟨HC, H01, H11⟩
  rw [seqs_bind_cons]
  iapply (wp_waitX (vals I) Kn c (.a 1 0) 3 (by decide)) $$ [Ca10 Wa10 HO]
  · isplitr; · iexact HI
    isplitl [Ca10]; · iexact Ca10
    isplitl [Wa10]; · iexact Wa10
    iexact HO
  iintro ⟨Src, Lnd, Fa10, HO⟩
  ihave H10 := (Entails.of_eq (src_a0 I c 1).symm) $$ Src
  ihave Ra10 := (Entails.of_eq (land_a I c 1 0)) $$ Lnd
  rw [seqs_bind_cons]
  iapply (wp_accA I c 1 0 1 rfl) $$ [Ra10 H11 HA11]
  · isplitl [Ra10]; · iexact Ra10
    isplitl [H11]; · iexact H11
    iexact HA11
  iintro ⟨Ra10, H11, HA11⟩
  rw [seqs_bind_cons]
  ihave Src := (Entails.of_eq (src_a1 I c 1)) $$ HA11
  iapply (wp_sendX (vals I) Kn c (.a 1 1) 3 (by decide)) $$ [Src Sa11 HO]
  · isplitr; · iexact HI
    isplitl [Src]; · iexact Src
    isplitl [Sa11]; · iexact Sa11
    iexact HO
  iintro ⟨Ca11, HO⟩
  rw [seqs_bind_cons]
  iapply (wp_chunk I c 2) $$ [HC Hp2]
  · isplitl [HC]; · iexact HC
    iexact Hp2
  iintro ⟨HC, H02, H12⟩
  rw [seqs_bind_cons]
  iapply (wp_waitX (vals I) Kn c (.a 0 1) 4 (by decide)) $$ [Ca01 Wa01 HO]
  · isplitr; · iexact HI
    isplitl [Ca01]; · iexact Ca01
    isplitl [Wa01]; · iexact Wa01
    iexact HO
  iintro ⟨Src, Lnd, Fa01, HO⟩
  ihave HA01 := (Entails.of_eq (src_a1 I c 0).symm) $$ Src
  ihave Ra01 := (Entails.of_eq (land_a I c 0 1)) $$ Lnd
  rw [seqs_bind_cons]
  iapply (wp_accA I c 0 1 2 rfl) $$ [Ra01 H02 HA02]
  · isplitl [Ra01]; · iexact Ra01
    isplitl [H02]; · iexact H02
    iexact HA02
  iintro ⟨Ra01, H02, HA02⟩
  rw [seqs_bind_cons]
  ihave Src := (Entails.of_eq (src_a2 I c 0)) $$ HA02
  iapply (wp_sendX (vals I) Kn c (.a 0 2) 4 (by decide)) $$ [Src Sa02 HO]
  · isplitr; · iexact HI
    isplitl [Src]; · iexact Src
    isplitl [Sa02]; · iexact Sa02
    iexact HO
  iintro ⟨Ca02, HO⟩
  rw [seqs_bind_cons]
  iapply (wp_waitX (vals I) Kn c (.a 1 1) 5 (by decide)) $$ [Ca11 Wa11 HO]
  · isplitr; · iexact HI
    isplitl [Ca11]; · iexact Ca11
    isplitl [Wa11]; · iexact Wa11
    iexact HO
  iintro ⟨Src, Lnd, Fa11, HO⟩
  ihave HA11 := (Entails.of_eq (src_a1 I c 1).symm) $$ Src
  ihave Ra11 := (Entails.of_eq (land_a I c 1 1)) $$ Lnd
  rw [seqs_bind_cons]
  iapply (wp_accA I c 1 1 2 rfl) $$ [Ra11 H12 HA12]
  · isplitl [Ra11]; · iexact Ra11
    isplitl [H12]; · iexact H12
    iexact HA12
  iintro ⟨Ra11, H12, HA12⟩
  rw [seqs_bind_cons]
  ihave Src := (Entails.of_eq (src_a2 I c 1)) $$ HA12
  iapply (wp_sendX (vals I) Kn c (.a 1 2) 5 (by decide)) $$ [Src Sa12 HO]
  · isplitr; · iexact HI
    isplitl [Src]; · iexact Src
    isplitl [Sa12]; · iexact Sa12
    iexact HO
  iintro ⟨Ca12, HO⟩
  rw [seqs_bind_cons]
  iapply (wp_waitX (vals I) Kn c (.a 0 2) 6 (by decide)) $$ [Ca02 Wa02 HO]
  · isplitr; · iexact HI
    isplitl [Ca02]; · iexact Ca02
    isplitl [Wa02]; · iexact Wa02
    iexact HO
  iintro ⟨Src, Lnd, Fa02, HO⟩
  ihave HA02 := (Entails.of_eq (src_a2 I c 0).symm) $$ Src
  ihave Ra02 := (Entails.of_eq (land_a I c 0 2)) $$ Lnd
  rw [seqs_bind_cons]
  iapply (wp_accStrip I c 0) $$ [Ra02 H01 Hst0]
  · isplitl [Ra02]; · iexact Ra02
    isplitl [H01]; · iexact H01
    iexact Hst0
  iintro ⟨Ra02, H01, Hst0⟩
  simp only [sepL_cons, sepL_nil]
  icases Hst0 with ⟨T00, T01, T02, T03, -⟩
  rw [seqs_bind_cons]
  iapply (wp_waitX (vals I) Kn c (.a 1 2) 6 (by decide)) $$ [Ca12 Wa12 HO]
  · isplitr; · iexact HI
    isplitl [Ca12]; · iexact Ca12
    isplitl [Wa12]; · iexact Wa12
    iexact HO
  iintro ⟨Src, Lnd, Fa12, HO⟩
  ihave HA12 := (Entails.of_eq (src_a2 I c 1).symm) $$ Src
  ihave Ra12 := (Entails.of_eq (land_a I c 1 2)) $$ Lnd
  rw [seqs_bind_cons]
  iapply (wp_accStrip I c 1) $$ [Ra12 H13 Hst1]
  · isplitl [Ra12]; · iexact Ra12
    isplitl [H13]; · iexact H13
    iexact Hst1
  iintro ⟨Ra12, H13, Hst1⟩
  simp only [sepL_cons, sepL_nil]
  icases Hst1 with ⟨T10, T11, T12, T13, -⟩
  rw [seqs_bind_cons]
  ihave Src := (Entails.of_eq (src_b0 I c 0)) $$ T00
  iapply (wp_sendX (vals I) Kn c (.b 0 0) 6 (by decide)) $$ [Src Sb00 HO]
  · isplitr; · iexact HI
    isplitl [Src]; · iexact Src
    isplitl [Sb00]; · iexact Sb00
    iexact HO
  iintro ⟨Cb00, HO⟩
  rw [seqs_bind_cons]
  ihave Src := (Entails.of_eq (src_b0 I c 1)) $$ T10
  iapply (wp_sendX (vals I) Kn c (.b 1 0) 7 (by decide)) $$ [Src Sb10 HO]
  · isplitr; · iexact HI
    isplitl [Src]; · iexact Src
    isplitl [Sb10]; · iexact Sb10
    iexact HO
  iintro ⟨Cb10, HO⟩
  rw [seqs_bind_cons]
  iapply (wp_waitX (vals I) Kn c (.b 0 0) 8 (by decide)) $$ [Cb00 Wb00 HO]
  · isplitr; · iexact HI
    isplitl [Cb00]; · iexact Cb00
    isplitl [Wb00]; · iexact Wb00
    iexact HO
  iintro ⟨Src, Lnd, Fb00, HO⟩
  ihave T00 := (Entails.of_eq (src_b0 I c 0).symm) $$ Src
  ihave Rb00 := (Entails.of_eq (land_b I c 0 0)) $$ Lnd
  rw [seqs_bind_cons]
  iapply (wp_accB I c 0 0 1 rfl) $$ [Rb00 T03 HB01]
  · isplitl [Rb00]; · iexact Rb00
    isplitl [T03]; · iexact T03
    iexact HB01
  iintro ⟨Rb00, T03, HB01⟩
  rw [seqs_bind_cons]
  iapply (wp_waitX (vals I) Kn c (.b 1 0) 8 (by decide)) $$ [Cb10 Wb10 HO]
  · isplitr; · iexact HI
    isplitl [Cb10]; · iexact Cb10
    isplitl [Wb10]; · iexact Wb10
    iexact HO
  iintro ⟨Src, Lnd, Fb10, HO⟩
  ihave T10 := (Entails.of_eq (src_b0 I c 1).symm) $$ Src
  ihave Rb10 := (Entails.of_eq (land_b I c 1 0)) $$ Lnd
  rw [seqs_bind_cons]
  iapply (wp_accB I c 1 0 1 rfl) $$ [Rb10 T11 HB11]
  · isplitl [Rb10]; · iexact Rb10
    isplitl [T11]; · iexact T11
    iexact HB11
  iintro ⟨Rb10, T11, HB11⟩
  rw [seqs_bind_cons]
  ihave Src := (Entails.of_eq (src_b1 I c 0)) $$ HB01
  iapply (wp_sendX (vals I) Kn c (.b 0 1) 8 (by decide)) $$ [Src Sb01 HO]
  · isplitr; · iexact HI
    isplitl [Src]; · iexact Src
    isplitl [Sb01]; · iexact Sb01
    iexact HO
  iintro ⟨Cb01, HO⟩
  rw [seqs_bind_cons]
  ihave Src := (Entails.of_eq (src_b1 I c 1)) $$ HB11
  iapply (wp_sendX (vals I) Kn c (.b 1 1) 9 (by decide)) $$ [Src Sb11 HO]
  · isplitr; · iexact HI
    isplitl [Src]; · iexact Src
    isplitl [Sb11]; · iexact Sb11
    iexact HO
  iintro ⟨Cb11, HO⟩
  rw [seqs_bind_cons]
  iapply (wp_waitX (vals I) Kn c (.b 0 1) 10 (by decide)) $$ [Cb01 Wb01 HO]
  · isplitr; · iexact HI
    isplitl [Cb01]; · iexact Cb01
    isplitl [Wb01]; · iexact Wb01
    iexact HO
  iintro ⟨Src, Lnd, Fb01, HO⟩
  ihave HB01 := (Entails.of_eq (src_b1 I c 0).symm) $$ Src
  ihave Rb01 := (Entails.of_eq (land_b I c 0 1)) $$ Lnd
  rw [seqs_bind_cons]
  iapply (wp_accB I c 0 1 2 rfl) $$ [Rb01 T02 HB02]
  · isplitl [Rb01]; · iexact Rb01
    isplitl [T02]; · iexact T02
    iexact HB02
  iintro ⟨Rb01, T02, HB02⟩
  rw [seqs_bind_cons]
  iapply (wp_waitX (vals I) Kn c (.b 1 1) 10 (by decide)) $$ [Cb11 Wb11 HO]
  · isplitr; · iexact HI
    isplitl [Cb11]; · iexact Cb11
    isplitl [Wb11]; · iexact Wb11
    iexact HO
  iintro ⟨Src, Lnd, Fb11, HO⟩
  ihave HB11 := (Entails.of_eq (src_b1 I c 1).symm) $$ Src
  ihave Rb11 := (Entails.of_eq (land_b I c 1 1)) $$ Lnd
  rw [seqs_bind_cons]
  iapply (wp_accB I c 1 1 2 rfl) $$ [Rb11 T12 HB12]
  · isplitl [Rb11]; · iexact Rb11
    isplitl [T12]; · iexact T12
    iexact HB12
  iintro ⟨Rb11, T12, HB12⟩
  rw [seqs_bind_cons]
  ihave Src := (Entails.of_eq (src_b2 I c 0)) $$ HB02
  iapply (wp_sendX (vals I) Kn c (.b 0 2) 10 (by decide)) $$ [Src Sb02 HO]
  · isplitr; · iexact HI
    isplitl [Src]; · iexact Src
    isplitl [Sb02]; · iexact Sb02
    iexact HO
  iintro ⟨Cb02, HO⟩
  rw [seqs_bind_cons]
  ihave Src := (Entails.of_eq (src_b2 I c 1)) $$ HB12
  iapply (wp_sendX (vals I) Kn c (.b 1 2) 11 (by decide)) $$ [Src Sb12 HO]
  · isplitr; · iexact HI
    isplitl [Src]; · iexact Src
    isplitl [Sb12]; · iexact Sb12
    iexact HO
  iintro ⟨Cb12, HO⟩
  rw [seqs_bind_cons]
  iapply (wp_waitX (vals I) Kn c (.b 0 2) 12 (by decide)) $$ [Cb02 Wb02 HO]
  · isplitr; · iexact HI
    isplitl [Cb02]; · iexact Cb02
    isplitl [Wb02]; · iexact Wb02
    iexact HO
  iintro ⟨Src, Lnd, Fb02, HO⟩
  ihave HB02 := (Entails.of_eq (src_b2 I c 0).symm) $$ Src
  ihave Rb02 := (Entails.of_eq (land_b I c 0 2)) $$ Lnd
  rw [seqs_bind_cons]
  iapply (wp_accOwn I c 0) $$ [Rb02 T01]
  · isplitl [Rb02]; · iexact Rb02
    iexact T01
  iintro ⟨Rb02, T01⟩
  rw [seqs_bind_cons]
  iapply (wp_waitX (vals I) Kn c (.b 1 2) 12 (by decide)) $$ [Cb12 Wb12 HO]
  · isplitr; · iexact HI
    isplitl [Cb12]; · iexact Cb12
    isplitl [Wb12]; · iexact Wb12
    iexact HO
  iintro ⟨Src, Lnd, Fb12, HO⟩
  ihave HB12 := (Entails.of_eq (src_b2 I c 1).symm) $$ Src
  ihave Rb12 := (Entails.of_eq (land_b I c 1 2)) $$ Lnd
  rw [seqs_bind_cons]
  iapply (wp_accOwn I c 1) $$ [Rb12 T13]
  · isplitl [Rb12]; · iexact Rb12
    iexact T13
  iintro ⟨Rb12, T13⟩
  rw [seqs_bind_cons]
  iapply (wp_own I c 0) $$ [T01 HP00 HP01]
  · isplitl [T01]; · iexact T01
    isplitl [HP00]; · iexact HP00
    iexact HP01
  iintro ⟨T01, HP00, HP01⟩
  rw [seqs_bind_cons]
  iapply (wp_own I c 1) $$ [T13 HP10 HP11]
  · isplitl [T13]; · iexact T13
    isplitl [HP10]; · iexact HP10
    iexact HP11
  iintro ⟨T13, HP10, HP11⟩
  rw [seqs_bind_nil]
  iapply HK
  unfold RingPost
  unfold Reads
  icases HC with ⟨⟨Hx, Hwq, Hwo, Hk, Hv⟩, Hf, Hq, Hc⟩
  isplitl [Hx Hwq Hwo]
  · unfold Ins
    isplitl [Hx]; · iexact Hx
    isplitl [Hwq]; · iexact Hwq
    iexact Hwo
  isplitl [Hk Hv Hf Hq Hc H00 H01 H02 H03 H10 H11 H12 H13 HA00 HA01 HA02 HA10 HA11 HA12 Ra00 Ra01 Ra02 Ra10 Ra11 Ra12 T00 T01 T02 T03 T10 T11 T12 T13 HB00 HB01 HB02 HB10 HB11 HB12 Rb00 Rb01 Rb02 Rb10 Rb11 Rb12]
  · unfold Scr
    isplitl [Hk Hv Hf Hq Hc H00 H01 H02 H03 H10 H11 H12 H13]
    · isplitl [Hq]; · iexact Hq
      isplitl [Hc]; · iexact Hc
      isplitl [Hk]; · iapply (some'_intro c kM _); iexact Hk
      isplitl [Hv]; · iapply (some'_intro c vM _); iexact Hv
      isplitl [H00 H01 H02 H03 H10 H11 H12 H13]
      · iapply (part_join I c)
        simp only [sepL_cons, sepL_nil]
        isplitl [H00 H10]
        · isplitl [H00]; · iexact H00
          iexact H10
        isplitl [H01 H11]
        · isplitl [H01]; · iexact H01
          iexact H11
        isplitl [H02 H12]
        · isplitl [H02]; · iexact H02
          iexact H12
        isplitl [H03 H13]
        · isplitl [H03]; · iexact H03
          iexact H13
        iempintro
      · iapply (some'_intro c pfixM _); iexact Hf
    isplitl [HA00 HA01 HA02 HA10 HA11 HA12 Ra00 Ra01 Ra02 Ra10 Ra11 Ra12]
    · skip
      isplitl [HA00 HA01 HA02]
      · iapply (sA_join c (sendA 0))
        simp only [sepL_cons, sepL_nil]
        isplitl [HA00]; · iexact HA00
        isplitl [HA01]; · iapply (some'_intro c (slotA (sendA 0) 1) _); iexact HA01
        isplitl [HA02]; · iapply (some'_intro c (slotA (sendA 0) 2) _); iexact HA02
        iempintro
      isplitl [Ra00 Ra01 Ra02]
      · iapply (sA_join c (recvA 0))
        simp only [sepL_cons, sepL_nil]
        isplitl [Ra00]; · iapply (some'_intro c (slotA (recvA 0) 0) _); iexact Ra00
        isplitl [Ra01]; · iapply (some'_intro c (slotA (recvA 0) 1) _); iexact Ra01
        isplitl [Ra02]; · iapply (some'_intro c (slotA (recvA 0) 2) _); iexact Ra02
        iempintro
      isplitl [HA10 HA11 HA12]
      · iapply (sA_join c (sendA 1))
        simp only [sepL_cons, sepL_nil]
        isplitl [HA10]; · iexact HA10
        isplitl [HA11]; · iapply (some'_intro c (slotA (sendA 1) 1) _); iexact HA11
        isplitl [HA12]; · iapply (some'_intro c (slotA (sendA 1) 2) _); iexact HA12
        iempintro
      · iapply (sA_join c (recvA 1))
        simp only [sepL_cons, sepL_nil]
        isplitl [Ra10]; · iapply (some'_intro c (slotA (recvA 1) 0) _); iexact Ra10
        isplitl [Ra11]; · iapply (some'_intro c (slotA (recvA 1) 1) _); iexact Ra11
        isplitl [Ra12]; · iapply (some'_intro c (slotA (recvA 1) 2) _); iexact Ra12
        iempintro
    isplitl [T00 T01 T02 T03 T10 T11 T12 T13]
    · isplitl [T00 T01 T02 T03]
      · iapply (st_join c 0 (fun s => if s = 1 then txB I 0 3 c else stripV I c 0 (rr c + s)))
        simp only [sepL_cons, sepL_nil]
        isplitl [T00]; · iexact T00
        isplitl [T01]; · iexact T01
        isplitl [T02]; · iexact T02
        isplitl [T03]; · iexact T03
        iempintro
      · iapply (st_join c 1 (fun s => if s = 3 then txB I 1 3 c else stripV I c 1 (rr c + s)))
        simp only [sepL_cons, sepL_nil]
        isplitl [T10]; · iexact T10
        isplitl [T11]; · iexact T11
        isplitl [T12]; · iexact T12
        isplitl [T13]; · iexact T13
        iempintro
    isplitl [HB00 HB01 HB02]
    · iapply (sB_join c (sendB 0))
      simp only [sepL_cons, sepL_nil]
      isplitl [HB00]; · iexact HB00
      isplitl [HB01]; · iapply (some'_intro c (slotB (sendB 0) 1) _); iexact HB01
      isplitl [HB02]; · iapply (some'_intro c (slotB (sendB 0) 2) _); iexact HB02
      iempintro
    isplitl [Rb00 Rb01 Rb02]
    · iapply (sB_join c (recvB 0))
      simp only [sepL_cons, sepL_nil]
      isplitl [Rb00]; · iapply (some'_intro c (slotB (recvB 0) 0) _); iexact Rb00
      isplitl [Rb01]; · iapply (some'_intro c (slotB (recvB 0) 1) _); iexact Rb01
      isplitl [Rb02]; · iapply (some'_intro c (slotB (recvB 0) 2) _); iexact Rb02
      iempintro
    isplitl [HB10 HB11 HB12]
    · iapply (sB_join c (sendB 1))
      simp only [sepL_cons, sepL_nil]
      isplitl [HB10]; · iexact HB10
      isplitl [HB11]; · iapply (some'_intro c (slotB (sendB 1) 1) _); iexact HB11
      isplitl [HB12]; · iapply (some'_intro c (slotB (sendB 1) 2) _); iexact HB12
      iempintro
    · iapply (sB_join c (recvB 1))
      simp only [sepL_cons, sepL_nil]
      isplitl [Rb10]; · iapply (some'_intro c (slotB (recvB 1) 0) _); iexact Rb10
      isplitl [Rb11]; · iapply (some'_intro c (slotB (recvB 1) 1) _); iexact Rb11
      isplitl [Rb12]; · iapply (some'_intro c (slotB (recvB 1) 2) _); iexact Rb12
      iempintro
  isplitl [HP00 HP01 HP10 HP11]
  · isplitl [HP00 HP01]
    · isplitl [HP00]; · iexact HP00
      iexact HP01
    · isplitl [HP10]; · iexact HP10
      iexact HP11
  isplitr [HO]
  · simp only [sepL_cons, sepL_nil]
    isplitl [Fa00]; · iexact Fa00
    isplitl [Fa10]; · iexact Fa10
    isplitl [Fa01]; · iexact Fa01
    isplitl [Fa11]; · iexact Fa11
    isplitl [Fa02]; · iexact Fa02
    isplitl [Fa12]; · iexact Fa12
    isplitl [Fb00]; · iexact Fb00
    isplitl [Fb10]; · iexact Fb10
    isplitl [Fb01]; · iexact Fb01
    isplitl [Fb11]; · iexact Fb11
    isplitl [Fb02]; · iexact Fb02
    isplitl [Fb12]; · iexact Fb12
    iempintro
  · iexact HO

end Cert.KernelIdeal.Body
end
-- ==== Proof.Gather.lean ====
module

public import proofs.«01_k».proof.Proof.Rings

@[expose] public section

/-! The gathering of the finished rows, and the whole body. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F) (c : Dev nD) (Kn : Dev nD × CK → ℕ)

/-! ## Lists of transfers -/

/-- One copy is started. -/
theorem send_step (x : Tx) (n : ℕ) (K : PUnit → Kp F PUnit) (Φ : PUnit → sProp 𝕄) (h : x.ord = n) :
    iprop(iprop(Inv (vals I) Kn ∗ Owe c n) ∗ iprop(Src (vals I) c x ∗ SendRes c x))
      ⊢ iprop((iprop(iprop(Inv (vals I) Kn ∗ Owe c (n + 1)) ∗ CredS c x) -∗ WP c (K ⟨⟩) Φ) -∗ WP c ((sendP (offs c) x).bind K) Φ) := by
  iintro ⟨⟨#HI, HO⟩, HS, HR⟩ HK
  iapply (wp_sendX (vals I) Kn c x n h) $$ [HS HR HO]
  · isplitr; · iexact HI
    isplitl [HS]; · iexact HS
    isplitl [HR]; · iexact HR
    iexact HO
  iintro ⟨HC, HO⟩
  iapply HK
  isplitl [HO]
  · isplitr; · iexact HI
    iexact HO
  iexact HC

/-- One copy is waited for. -/
theorem waitX_step (x : Tx) (n : ℕ) (K : PUnit → Kp F PUnit) (Φ : PUnit → sProp 𝕄) (h : x.ord < n) :
    iprop(iprop(Inv (vals I) Kn ∗ Owe c n) ∗ iprop(CredS c x ∗ WaitRes c x))
      ⊢ iprop((iprop(iprop(Inv (vals I) Kn ∗ Owe c (n + 0)) ∗ iprop(Src (vals I) c x ∗ Landed (vals I) c x ∗ Fin' c x)) -∗ WP c (K ⟨⟩) Φ) -∗ WP c ((waitP (offs c) x).bind K) Φ) := by
  iintro ⟨⟨#HI, HO⟩, HS, HR⟩ HK
  iapply (wp_waitX (vals I) Kn c x n h) $$ [HS HR HO]
  · isplitr; · iexact HI
    isplitl [HS]; · iexact HS
    isplitl [HR]; · iexact HR
    iexact HO
  iintro ⟨HA, HB, HC, HO⟩
  iapply HK
  isplitl [HO]
  · isplitr; · iexact HI
    iexact HO
  isplitl [HA]; · iexact HA
  isplitl [HB]; · iexact HB
  iexact HC

/-- Start the transfers of a list, then wait for them, in any order. -/
theorem wp_gather (ls lw : List Tx) (n m : ℕ) (hm : n + 1 * ls.length = m) (hs : okL 1 (fun x n => x.ord = n) n ls) (hw : okL 0 (fun x n => x.ord < n) m lw)
    (d : ls.Nodup) (d' : lw.Nodup) (e : ls.toFinset = lw.toFinset) (K : PUnit → Kp F PUnit) (Φ : PUnit → sProp 𝕄) :
    iprop(Inv (vals I) Kn ∗ Owe c n ∗ sepL (Src (vals I) c) ls ∗ sepL (SendRes c) ls ∗ sepL (WaitRes c) ls)
      ⊢ iprop((iprop(Owe c m ∗ sepL (Src (vals I) c) ls ∗ sepL (Landed (vals I) c) ls ∗ sepL (Fin' c) ls) -∗ WP c (K ⟨⟩) Φ)
          -∗ WP c ((seqs (ls.map (sendP (offs c)) ++ lw.map (waitP (offs c)))).bind K) Φ) := by
  rw [seqs_append, pbind_assoc]
  have h₁ := wp_list c 1 (fun x n => x.ord = n) (fun n => iprop(Inv (vals I) Kn ∗ Owe c n)) (fun x => iprop(Src (vals I) c x ∗ SendRes c x)) (CredS c)
    (sendP (offs c)) (fun x n K Φ h => send_step I c Kn x n K Φ h) ls n (fun _ => (seqs (lw.map (waitP (offs c)))).bind K) Φ hs
  have h₂ := wp_list c 0 (fun x n => x.ord < n) (fun n => iprop(Inv (vals I) Kn ∗ Owe c n)) (fun x => iprop(CredS c x ∗ WaitRes c x)) (fun x => iprop(Src (vals I) c x ∗ Landed (vals I) c x ∗ Fin' c x))
    (waitP (offs c)) (fun x n K Φ h => waitX_step I c Kn x n K Φ h) lw m K Φ hw
  rw [hm] at h₁
  rw [Nat.zero_mul, Nat.add_zero] at h₂
  iintro ⟨#HI, HO, HS, HR, HW⟩ HK
  iapply h₁ $$ [HO HS HR]
  · isplitl [HO]
    · isplitr; · iexact HI
      iexact HO
    · iapply (sepL_sep' _ _ ls)
      isplitl [HS]; · iexact HS
      iexact HR
  iintro ⟨⟨-, HO⟩, HC⟩
  ihave HC := (Entails.of_eq (sepL_perm (CredS c) ls lw d d' e)) $$ HC
  ihave HW := (Entails.of_eq (sepL_perm (WaitRes c) ls lw d d' e)) $$ HW
  iapply h₂ $$ [HO HC HW]
  · isplitl [HO]
    · isplitr; · iexact HI
      iexact HO
    · iapply (sepL_sep' _ _ lw)
      isplitl [HC]; · iexact HC
      iexact HW
  iintro ⟨⟨-, HO⟩, HC⟩
  ihave HC := (sepL_sep _ _ lw) $$ HC
  icases HC with ⟨HS, HC⟩
  ihave HC := (sepL_sep _ _ lw) $$ HC
  icases HC with ⟨HL, HF⟩
  ihave HS := (Entails.of_eq (sepL_perm (Src (vals I) c) ls lw d d' e).symm) $$ HS
  ihave HL := (Entails.of_eq (sepL_perm (Landed (vals I) c) ls lw d d' e).symm) $$ HL
  ihave HF := (Entails.of_eq (sepL_perm (Fin' c) ls lw d d' e).symm) $$ HF
  iapply HK
  isplitl [HO]; · iexact HO
  isplitl [HS]; · iexact HS
  isplitl [HL]; · iexact HL
  iexact HF

/-! ## The pieces -/

abbrev fl : List (Fin 4) := [0, 1, 2, 3]
abbrev fj : List (Fin 4 × Fin 4) :=
  [(0, 0), (1, 0), (2, 0), (3, 0), (0, 1), (1, 1), (2, 1), (3, 1), (0, 2), (1, 2), (2, 2), (3, 2), (0, 3), (1, 3), (2, 3), (3, 3)]
abbrev jf : List (Fin 4 × Fin 4) :=
  [(0, 0), (0, 1), (0, 2), (0, 3), (1, 0), (1, 1), (1, 2), (1, 3), (2, 0), (2, 1), (2, 2), (2, 3), (3, 0), (3, 1), (3, 2), (3, 3)]

/-- The piece the device at `(q, r)` holds in direction `f` after `v` steps of the first stage, -/
def pc1 (q r : Fin 4) (v f : Fin 4) : Piece :=
  ![⟨q + 1, r + 1 - v, 0, 0⟩, ⟨q + 3, r + 3 + v, 0, 1⟩, ⟨q + 1 - v, r + 1, 1, 0⟩, ⟨q + 3 + v, r + 3, 1, 1⟩] f
/-- and the four pieces after `v` steps of the second. -/
def pc2 (q r : Fin 4) (v : Fin 4) (p : Fin 4 × Fin 4) : Piece :=
  ![⟨q + 1 - v, p.2, 0, 0⟩, ⟨q + 3 + v, p.2, 0, 1⟩, ⟨p.2, r + 1 - v, 1, 0⟩, ⟨p.2, r + 3 + v, 1, 1⟩] p.1

abbrev l1 (k : Fin 3) : List Tx := fl.map fun f => .s1 f k
abbrev l2 (u : Fin 3) : List Tx := fj.map fun p => .s2 p.1 u p.2
abbrev l2' (u : Fin 3) : List Tx := jf.map fun p => .s2 p.1 u p.2

abbrev P1 (q r v : Fin 4) : List Piece := fl.map (pc1 q r v)
abbrev P2 (q r v : Fin 4) : List Piece := fj.map (pc2 q r v)

/-- The piece that a copy of the first gather carries. -/
theorem at1 (q r : Fin 4) (f : Fin 4) (k : Fin 3) : pieceAt q r (.s1 f k) = pc1 q r k.castSucc f := by fin_cases f <;> rfl
/-- The piece that a copy of the second gather carries. -/
theorem at2 (q r : Fin 4) (p : Fin 4 × Fin 4) (u : Fin 3) : pieceAt q r (.s2 p.1 u p.2) = pc2 q r u.castSucc p := by
  rcases p with ⟨f, j⟩
  fin_cases f <;> rfl
/-- The piece that a copy of the first gather brings is the one sent next. -/
theorem land1 (c : Dev nD) (f : Fin 4) (k : Fin 3) : pieceAt (qq (frm c (.s1 f k))) (rr (frm c (.s1 f k))) (.s1 f k) = pc1 (qq c) (rr c) k.succ f := by
  revert c f k; decide +kernel
/-- The piece that a copy of the second gather brings is the one sent next. -/
theorem land2 (c : Dev nD) (p : Fin 4 × Fin 4) (u : Fin 3) : pieceAt (qq (frm c (.s2 p.1 u p.2))) (rr (frm c (.s2 p.1 u p.2))) (.s2 p.1 u p.2) = pc2 (qq c) (rr c) u.succ p := by
  revert c p u; decide +kernel

/-- The first gather's pieces are distinct. -/
theorem P1_nodup (q r : Fin 4) : (P1 q r 0 ++ (P1 q r 1 ++ (P1 q r 2 ++ P1 q r 3))).Nodup := by revert q r; decide +kernel
/-- The pieces that the second gather sends first are distinct. -/
theorem P2_nodup0 (q r : Fin 4) : (P2 q r 0).Nodup := by revert q r; decide +kernel
/-- The pieces that the first gather ends with are those that the second sends first. -/
theorem P1_P2 (q r : Fin 4) : (P1 q r 0 ++ (P1 q r 1 ++ (P1 q r 2 ++ P1 q r 3))).toFinset = (P2 q r 0).toFinset := by revert q r; decide +kernel
/-- The second gather's pieces are distinct. -/
theorem P2_nodup (q r : Fin 4) : (P2 q r 0 ++ (P2 q r 1 ++ (P2 q r 2 ++ P2 q r 3))).Nodup := by revert q r; decide +kernel
/-- They are all pieces of the result. -/
theorem P2_mem (q r : Fin 4) : ∀ p : Piece, p ∈ (P2 q r 0 ++ (P2 q r 1 ++ (P2 q r 2 ++ P2 q r 3))) := by revert q r; decide +kernel
/-- As a set they are all pieces. -/
theorem P2_univ (q r : Fin 4) : (P2 q r 0 ++ (P2 q r 1 ++ (P2 q r 2 ++ P2 q r 3))).toFinset = Finset.univ :=
  Finset.eq_univ_iff_forall.mpr fun p => List.mem_toFinset.mpr (P2_mem q r p)

/-- All the transfers, in order. -/
abbrev allTx : List Tx := lr ++ (l1 0 ++ (l1 1 ++ (l1 2 ++ (l2 0 ++ (l2 1 ++ l2 2)))))
/-- The list of all copies has none twice. -/
theorem allTx_nodup : allTx.Nodup := by decide +kernel
/-- It has every copy. -/
theorem allTx_mem : ∀ x : Tx, x ∈ allTx := by decide +kernel
/-- As a set it is all copies. -/
theorem allTx_univ : allTx.toFinset = Finset.univ := Finset.eq_univ_iff_forall.mpr fun p => List.mem_toFinset.mpr (allTx_mem p)

/-- A conjunction over the transfers, phase by phase. -/
theorem all_phases {M : Type} [URA M] (Φ : Tx → sProp M) : bigSep Finset.univ Φ
    = iprop(sepL Φ lr ∗ sepL Φ (l1 0) ∗ sepL Φ (l1 1) ∗ sepL Φ (l1 2) ∗ sepL Φ (l2 0) ∗ sepL Φ (l2 1) ∗ sepL Φ (l2 2)) := by
  rw [sepL_univ Φ allTx allTx_nodup allTx_univ, sepL_append, sepL_append, sepL_append, sepL_append, sepL_append, sepL_append]

/-- A conjunction over the pieces, in the order they come. -/
theorem all_pieces {M : Type} [URA M] (q r : Fin 4) (Φ : Piece → sProp M) : bigSep Finset.univ Φ
    = iprop((sepL Φ (P1 q r 0) ∗ sepL Φ (P1 q r 1) ∗ sepL Φ (P1 q r 2) ∗ sepL Φ (P1 q r 3)) ∗ sepL Φ (P2 q r 1) ∗ sepL Φ (P2 q r 2) ∗ sepL Φ (P2 q r 3)) := by
  rw [sepL_univ Φ _ (P2_nodup q r) (P2_univ q r), sepL_append, sepL_append, sepL_append,
    ← sepL_perm Φ _ _ (P1_nodup q r) (P2_nodup0 q r) (P1_P2 q r), sepL_append, sepL_append, sepL_append]

/-- The pieces held between the two gathers, in the order of the first and of the second. -/
theorem mid_pieces {M : Type} [URA M] (q r : Fin 4) (Φ : Piece → sProp M) :
    iprop(sepL Φ (P1 q r 0) ∗ sepL Φ (P1 q r 1) ∗ sepL Φ (P1 q r 2) ∗ sepL Φ (P1 q r 3)) = sepL Φ (P2 q r 0) := by
  rw [← sepL_perm Φ _ _ (P1_nodup q r) (P2_nodup0 q r) (P1_P2 q r), sepL_append, sepL_append, sepL_append]

/-- What a round of the first gather sends. -/
theorem srcL1 (k : Fin 3) : sepL (Src (vals I) c) (l1 k) = sepL (Pc I c) (P1 (qq c) (rr c) k.castSucc) := by
  rw [sepL_map, sepL_map]
  exact sepL_congr _ _ fl fun f _ => (show Src (vals I) c (.s1 f k) = Pc I c (pieceAt (qq c) (rr c) (.s1 f k)) from rfl).trans (congrArg (Pc I c) (at1 _ _ f k))
/-- What a round of the second gather sends. -/
theorem srcL2 (u : Fin 3) : sepL (Src (vals I) c) (l2 u) = sepL (Pc I c) (P2 (qq c) (rr c) u.castSucc) := by
  rw [sepL_map, sepL_map]
  exact sepL_congr _ _ fj fun p _ => (show Src (vals I) c (.s2 p.1 u p.2) = Pc I c (pieceAt (qq c) (rr c) (.s2 p.1 u p.2)) from rfl).trans (congrArg (Pc I c) (at2 _ _ p u))
/-- What a round of the first gather brings. -/
theorem landL1 (k : Fin 3) : sepL (Landed (vals I) c) (l1 k) = sepL (Pc I c) (P1 (qq c) (rr c) k.succ) := by
  rw [sepL_map, sepL_map]
  exact sepL_congr _ _ fl fun f _ => (show Landed (vals I) c (.s1 f k) = Pc I c (pieceAt (qq (frm c (.s1 f k))) (rr (frm c (.s1 f k))) (.s1 f k)) from rfl).trans (congrArg (Pc I c) (land1 c f k))
/-- What a round of the second gather brings. -/
theorem landL2 (u : Fin 3) : sepL (Landed (vals I) c) (l2 u) = sepL (Pc I c) (P2 (qq c) (rr c) u.succ) := by
  rw [sepL_map, sepL_map]
  exact sepL_congr _ _ fj fun p _ => (show Landed (vals I) c (.s2 p.1 u p.2) = Pc I c (pieceAt (qq (frm c (.s2 p.1 u p.2))) (rr (frm c (.s2 p.1 u p.2))) (.s2 p.1 u p.2)) from rfl).trans (congrArg (Pc I c) (land2 c p u))

/-- A round of the first gather starts its copies in the order of the schedule. -/
theorem ok1 (k : Fin 3) : okL 1 (fun x n => x.ord = n) (12 + 4 * k.val) (l1 k) := by
  fin_cases k <;> exact ⟨rfl, rfl, rfl, rfl, trivial⟩
/-- A round of the first gather is waited for after all its copies were started. -/
theorem ok1' (k : Fin 3) : okL 0 (fun x n => x.ord < n) (12 + 4 * k.val + 4) (l1 k) := by
  fin_cases k <;> exact ⟨by decide, by decide, by decide, by decide, trivial⟩
/-- A round of the second gather starts its copies in the order of the schedule. -/
theorem ok2 (u : Fin 3) : okL 1 (fun x n => x.ord = n) (24 + 16 * u.val) (l2 u) := by
  fin_cases u <;> exact ⟨rfl, rfl, rfl, rfl, rfl, rfl, rfl, rfl, rfl, rfl, rfl, rfl, rfl, rfl, rfl, rfl, trivial⟩
/-- A round of the second gather is waited for after all its copies were started. -/
theorem ok2' (u : Fin 3) : okL 0 (fun x n => x.ord < n) (24 + 16 * u.val + 16) (l2' u) := by
  fin_cases u <;> exact ⟨by decide, by decide, by decide, by decide, by decide, by decide, by decide, by decide, by decide, by decide, by decide, by decide, by decide, by decide, by decide, by decide, trivial⟩
/-- A round of the first gather has no copy twice. -/
theorem l1_nodup (k : Fin 3) : (l1 k).Nodup := by revert k; decide +kernel
/-- A round of the second gather has no copy twice. -/
theorem l2_nodup (u : Fin 3) : (l2 u).Nodup := by revert u; decide +kernel
/-- Nor in the order of the waits. -/
theorem l2'_nodup (u : Fin 3) : (l2' u).Nodup := by revert u; decide +kernel
/-- The second gather waits for the copies that it started. -/
theorem l2_perm (u : Fin 3) : (l2 u).toFinset = (l2' u).toFinset := by revert u; decide +kernel

/-- One step of the first stage: the pieces held after `k` steps give those after `k + 1`. -/
theorem wp_g1 (k : Fin 3) (n m : ℕ) (hn : n = 12 + 4 * k.val) (hm : m = n + 4) (K : PUnit → Kp F PUnit) (Φ : PUnit → sProp 𝕄) :
    iprop(Inv (vals I) Kn ∗ Owe c n ∗ sepL (Pc I c) (P1 (qq c) (rr c) k.castSucc) ∗ sepL (SendRes c) (l1 k) ∗ sepL (WaitRes c) (l1 k))
      ⊢ iprop((iprop(Owe c m ∗ sepL (Pc I c) (P1 (qq c) (rr c) k.castSucc) ∗ sepL (Pc I c) (P1 (qq c) (rr c) k.succ) ∗ sepL (Fin' c) (l1 k)) -∗ WP c (K ⟨⟩) Φ)
          -∗ WP c ((seqs (gather1 (offs c) k)).bind K) Φ) := by
  have h := wp_gather I c Kn (l1 k) (l1 k) n m (by subst hm; rfl) (by subst hn; exact ok1 k) (by subst hm hn; exact ok1' k) (l1_nodup k) (l1_nodup k) rfl K Φ
  rw [srcL1, landL1] at h
  exact h

/-- One step of the second. -/
theorem wp_g2 (u : Fin 3) (n m : ℕ) (hn : n = 24 + 16 * u.val) (hm : m = n + 16) (K : PUnit → Kp F PUnit) (Φ : PUnit → sProp 𝕄) :
    iprop(Inv (vals I) Kn ∗ Owe c n ∗ sepL (Pc I c) (P2 (qq c) (rr c) u.castSucc) ∗ sepL (SendRes c) (l2 u) ∗ sepL (WaitRes c) (l2 u))
      ⊢ iprop((iprop(Owe c m ∗ sepL (Pc I c) (P2 (qq c) (rr c) u.castSucc) ∗ sepL (Pc I c) (P2 (qq c) (rr c) u.succ) ∗ sepL (Fin' c) (l2 u)) -∗ WP c (K ⟨⟩) Φ)
          -∗ WP c ((seqs (gather2 (offs c) u)).bind K) Φ) := by
  have h := wp_gather I c Kn (l2 u) (l2' u) n m (by subst hm; rfl) (by subst hn; exact ok2 u) (by subst hm hn; exact ok2' u) (l2_nodup u) (l2'_nodup u) (l2_perm u) K Φ
  rw [srcL2, landL2] at h
  exact h

end Cert.KernelIdeal.Body
end
-- ==== Proof.Run.lean ====
module

public import proofs.«01_k».proof.Proof.Gather

@[expose] public section

/-! The whole body on a device: the meeting at the barrier, the heads, the rings, the gathering. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F) (c : Dev nD) (Kn : Dev nD × CK → ℕ)

/-- The first gather's first pieces are the device's own. -/
theorem own_P1 (c : Dev nD) : P1 (qq c) (rr c) 0 = [ownP' c 0 0, ownP' c 1 0, ownP' c 0 1, ownP' c 1 1] := by revert c; decide +kernel

omit [FloatOps F] [Named F] in
/-- The result's buffer is its pieces. -/
theorem out_split : (some' (F := F) c outM : sProp 𝕄) ⊢ bigSep Finset.univ (Pc' (F := F) c) :=
  (fam_some c famP outM).trans (bigSep_mono fun p _ => some'_of_squeeze c (outM.slice (famP.r p) (famP.str p)) S32x512 squeezes_S1x32x512_S32x512)

/-- The pieces together are the result. -/
theorem out_join : (bigSep Finset.univ (Pc I c) : sProp 𝕄) ⊢ owns (c : Thread nD τ) outM fullShare (outV I) := by
  rw [show (Pc I c) = fun p => owns (c : Thread nD τ) (outM.slice (famP.r p) (famP.str p)) fullShare (pieceX I p) from funext fun p => Pc_eq I c p]
  exact fam_join c famP outM fullShare (pieceX I) (outV I) fun _ => rfl

/-- Where the transfers to this device land. -/
abbrev Lnd (x : Tx) : sProp 𝕄 := some' (F := F) c (dstM (offs (frm c x)) x)

omit [FloatOps F] [Named F] in
/-- Where a round of the first gather lands. -/
theorem lnd1 (k : Fin 3) : sepL (Lnd (F := F) c) (l1 k) = sepL (Pc' (F := F) c) (P1 (qq c) (rr c) k.succ) := by
  rw [sepL_map, sepL_map]
  exact sepL_congr _ _ fl fun f _ => (show Lnd (F := F) c (.s1 f k) = Pc' c (pieceAt (qq (frm c (.s1 f k))) (rr (frm c (.s1 f k))) (.s1 f k)) from rfl).trans (congrArg (Pc' c) (land1 c f k))
omit [FloatOps F] [Named F] in
/-- Where a round of the second gather lands. -/
theorem lnd2 (u : Fin 3) : sepL (Lnd (F := F) c) (l2 u) = sepL (Pc' (F := F) c) (P2 (qq c) (rr c) u.succ) := by
  rw [sepL_map, sepL_map]
  exact sepL_congr _ _ fj fun p _ => (show Lnd (F := F) c (.s2 p.1 u p.2) = Pc' c (pieceAt (qq (frm c (.s2 p.1 u p.2))) (rr (frm c (.s2 p.1 u p.2))) (.s2 p.1 u p.2)) from rfl).trans (congrArg (Pc' c) (land2 c p u))

/-- What is given away at the barrier, and the four pieces kept. -/
theorem give : iprop(some' (F := F) c outM ∗ (some' (F := F) c (recvA 0) ∗ some' (F := F) c (recvA 1)) ∗ some' (F := F) c (recvB 0) ∗ some' (F := F) c (recvB 1))
    ⊢ (iprop((bigSep Finset.univ fun x : Tx => some' (F := F) c (dstM (offs (frm c x)) x))
        ∗ ((Pc' (F := F) c (ownP' c 0 0) ∗ Pc' (F := F) c (ownP' c 0 1)) ∗ Pc' (F := F) c (ownP' c 1 0) ∗ Pc' (F := F) c (ownP' c 1 1))) : sProp 𝕄) := by
  rw [all_phases (Lnd (F := F) c), lnd1, lnd1, lnd1, lnd2, lnd2, lnd2]
  have h := out_split (F := F) c
  rw [all_pieces (qq c) (rr c), own_P1] at h
  iintro ⟨HO, ⟨A0, A1⟩, B0, B1⟩
  ihave HO := h $$ HO
  ihave A0 := (sA_split c (recvA 0)) $$ A0
  ihave A1 := (sA_split c (recvA 1)) $$ A1
  ihave B0 := (sB_split c (recvB 0)) $$ B0
  ihave B1 := (sB_split c (recvB 1)) $$ B1
  icases HO with ⟨⟨H0, H1, H2, H3⟩, G1, G2, G3⟩
  isplitr [H0]
  · isplitl [A0 A1 B0 B1]
    · simp only [sepL_cons, sepL_nil]
      icases A0 with ⟨A00, A01, A02, -⟩
      icases A1 with ⟨A10, A11, A12, -⟩
      icases B0 with ⟨B00, B01, B02, -⟩
      icases B1 with ⟨B10, B11, B12, -⟩
      isplitl [A00]; · iexact A00
      isplitl [A10]; · iexact A10
      isplitl [A01]; · iexact A01
      isplitl [A11]; · iexact A11
      isplitl [A02]; · iexact A02
      isplitl [A12]; · iexact A12
      isplitl [B00]; · iexact B00
      isplitl [B10]; · iexact B10
      isplitl [B01]; · iexact B01
      isplitl [B11]; · iexact B11
      isplitl [B02]; · iexact B02
      isplitl [B12]; · iexact B12
      iempintro
    · isplitl [H1]; · iexact H1
      isplitl [H2]; · iexact H2
      isplitl [H3]; · iexact H3
      isplitl [G1]; · iexact G1
      isplitl [G2]; · iexact G2
      iexact G3
  · simp only [sepL_cons, sepL_nil]
    icases H0 with ⟨K0, K1, K2, K3, -⟩
    isplitl [K0 K2]
    · isplitl [K0]; · iexact K0
      iexact K2
    · isplitl [K1]; · iexact K1
      iexact K3

/-- The tokens of a transfer's two cells. -/
def Toks (x : Tx) : sProp 𝕄 := iprop(dutyTok ER (cell c (.snd x)) 0 0 ∗ dutyTok ER (cell (peer c x) (.rcv x)) 0 0)

/-- What the body takes, -/
def Pre : sProp 𝕄 :=
  iprop((Ins I c ∗ some' (F := F) c outM ∗ Scr (F := F) c ∗ Hbm I c)
    ∗ (((bigSep Finset.univ fun i : Fin 4 => dutyTok ER (cell (nbr i c) .bar) 0 i) ∗ atPos ER (cell c .bar) 0 ∅ 0 ∗ cred (tallyAt (cell c .bar) () 4))
      ∗ (KvTok c ∗ sepL (fun h => KvAt (F := F) c h 0) hl)
      ∗ (bigSep Finset.univ (Toks (F := F) c)) ∗ (bigSep Finset.univ (WaitRes (F := F) c)))
    ∗ ∃ W, owes (c : Thread nD τ) (Obar c 0) W)
/-- and what it leaves. -/
def Post : sProp 𝕄 :=
  iprop((Ins I c ∗ owns (c : Thread nD τ) outM fullShare (outV I) ∗ Scr (F := F) c ∗ Hbm I c)
    ∗ (atPos ER (cell c .bar) 1 ∅ 0 ∗ sepL (fun h => KvAt (F := F) c h 1) hl ∗ (bigSep Finset.univ (Fin' (F := F) c)))
    ∗ ∃ W, owes (c : Thread nD τ) 0 W)

/-- The body's steps, part by part. -/
theorem steps_bind (K : PUnit → Kp F PUnit) : (seqs (allSteps (offs c))).bind K
    = (barrierP (offs c)).bind fun _ => (headsP (offs c)).bind fun _ => (seqs (ringSteps (offs c))).bind fun _ =>
      (seqs (gather1 (offs c) 0)).bind fun _ => (seqs (gather1 (offs c) 1)).bind fun _ => (seqs (gather1 (offs c) 2)).bind fun _ =>
      (seqs (gather2 (offs c) 0)).bind fun _ => (seqs (gather2 (offs c) 1)).bind fun _ => (seqs (gather2 (offs c) 2)).bind K := by
  unfold allSteps
  rw [seqs_append, pbind_assoc, seqs_bind_cons, seqs_bind_cons]
  simp only [seqs_append, pbind_assoc]

set_option maxHeartbeats 4000000 in
/-- The body, from start to end: the device ends with the result, every buffer back, every transfer used up. -/
theorem wp_body (K : PUnit → Kp F PUnit) (Φ : PUnit → sProp 𝕄) :
    iprop(Inv (vals I) Kn ∗ Pre I c) ⊢ iprop((Post I c -∗ WP c (K ⟨⟩) Φ) -∗ WP c ((seqs (allSteps (offs c))).bind K) Φ) := by
  rw [steps_bind]
  unfold Pre Post Ins Scr
  iintro ⟨#HI, ⟨⟨Hx, Hwq, Hwo⟩, Hout, ⟨⟨Hq, Hctx, Hk, Hv, Hpart, Hpfix⟩, ⟨SA0, RA0, SA1, RA1⟩, ⟨ST0, ST1⟩, SB0, RB0, SB1, RB1⟩, Hhbm⟩, ⟨⟨Htb, Hab, Hcb⟩, ⟨HKt, HKa⟩, HT, HW⟩, HO⟩ HK
  ihave HG := (give c) $$ [Hout RA0 RA1 RB0 RB1]
  · isplitl [Hout]; · iexact Hout
    isplitl [RA0 RA1]
    · isplitl [RA0]; · iexact RA0
      iexact RA1
    · isplitl [RB0]; · iexact RB0
      iexact RB1
  icases HG with ⟨HL, HP⟩
  iapply (wp_barrier (vals I) Kn c) $$ [Htb HL Hab Hcb HO]
  · isplitr; · iexact HI
    unfold BarPre
    isplitl [Htb]; · iexact Htb
    isplitl [HL]; · iexact HL
    isplitl [Hab]; · iexact Hab
    isplitl [Hcb]; · iexact Hcb
    iexact HO
  unfold BarPost
  iintro ⟨HL, Hab, HO⟩
  ihave HS := (Entails.of_eq (all_phases (fun x : Tx => some' (F := F) (peer c x) (dstM (offs c) x)))) $$ HL
  ihave HT := (Entails.of_eq (all_phases (Toks (F := F) c))) $$ HT
  ihave HW := (Entails.of_eq (all_phases (WaitRes (F := F) c))) $$ HW
  icases HS with ⟨S0, S1, S2, S3, S4, S5, S6⟩
  icases HT with ⟨T0, T1, T2, T3, T4, T5, T6⟩
  icases HW with ⟨W0, W1, W2, W3, W4, W5, W6⟩
  have hj (l : List Tx) : iprop(sepL (Toks (F := F) c) l ∗ sepL (fun x : Tx => some' (F := F) (peer c x) (dstM (offs c) x)) l) ⊢ sepL (SendRes (F := F) c) l :=
    sepL_sep' _ _ l
  iapply (wp_heads I c Kn) $$ [Hx Hwq Hwo Hk Hv Hhbm HKt Hpfix HKa HO]
  · isplitr; · iexact HI
    isplitl [Hx Hwq Hwo]
    · isplitl [Hx]; · iexact Hx
      isplitl [Hwq]; · iexact Hwq
      iexact Hwo
    isplitl [Hk Hv Hhbm HKt]
    · isplitl [Hk]; · iexact Hk
      isplitl [Hv]; · iexact Hv
      isplitl [Hhbm]; · iexact Hhbm
      iexact HKt
    isplitl [Hpfix]; · iexact Hpfix
    isplitl [HKa]; · iexact HKa
    iexact HO
  iintro ⟨⟨Hrd, Hpfix⟩, ⟨Hhbm, HKa⟩, HO⟩
  ihave S0 := (hj lr) $$ [T0 S0]
  · isplitl [T0]; · iexact T0
    iexact S0
  iapply (wp_rings I c Kn) $$ [Hrd Hpfix Hq Hctx Hpart SA0 SA1 ST0 ST1 SB0 SB1 HP S0 W0 HO]
  · isplitr; · iexact HI
    unfold RingPre
    isplitl [Hrd Hpfix Hq Hctx]
    · isplitl [Hrd]; · iexact Hrd
      isplitl [Hpfix]; · iexact Hpfix
      isplitl [Hq]; · iexact Hq
      iexact Hctx
    isplitl [Hpart]; · iexact Hpart
    isplitl [SA0 SA1]
    · isplitl [SA0]; · iexact SA0
      iexact SA1
    isplitl [ST0 ST1]
    · isplitl [ST0]; · iexact ST0
      iexact ST1
    isplitl [SB0 SB1]
    · isplitl [SB0]; · iexact SB0
      iexact SB1
    isplitl [HP]; · iexact HP
    isplitl [S0]; · iexact S0
    isplitl [W0]; · iexact W0
    iexact HO
  unfold RingPost Ins Scr
  iintro ⟨Hins, Hscr, ⟨⟨P0, P2⟩, P1', P3⟩, F0, HO⟩
  have hown : iprop(Pc I c (ownP' c 0 0) ∗ Pc I c (ownP' c 1 0) ∗ Pc I c (ownP' c 0 1) ∗ Pc I c (ownP' c 1 1)) ⊢ sepL (Pc I c) (P1 (qq c) (rr c) (0 : Fin 3).castSucc) := by
    rw [show (0 : Fin 3).castSucc = (0 : Fin 4) from rfl, own_P1]
    simp only [sepL_cons, sepL_nil]
    iintro ⟨A, B, C, D⟩
    isplitl [A]; · iexact A
    isplitl [B]; · iexact B
    isplitl [C]; · iexact C
    isplitl [D]; · iexact D
    iempintro
  ihave HP := hown $$ [P0 P1' P2 P3]
  · isplitl [P0]; · iexact P0
    isplitl [P1']; · iexact P1'
    isplitl [P2]; · iexact P2
    iexact P3
  ihave S1 := (hj (l1 0)) $$ [T1 S1]
  · isplitl [T1]; · iexact T1
    iexact S1
  iapply (wp_g1 I c Kn 0 12 16 rfl rfl) $$ [HP S1 W1 HO]
  · isplitr; · iexact HI
    isplitl [HO]; · iexact HO
    isplitl [HP]; · iexact HP
    isplitl [S1]; · iexact S1
    iexact W1
  iintro ⟨HO, Q0, HP, F1⟩
  ihave S2 := (hj (l1 1)) $$ [T2 S2]
  · isplitl [T2]; · iexact T2
    iexact S2
  iapply (wp_g1 I c Kn 1 16 20 rfl rfl) $$ [HP S2 W2 HO]
  · isplitr; · iexact HI
    isplitl [HO]; · iexact HO
    isplitl [HP]; · iexact HP
    isplitl [S2]; · iexact S2
    iexact W2
  iintro ⟨HO, Q1, HP, F2⟩
  ihave S3 := (hj (l1 2)) $$ [T3 S3]
  · isplitl [T3]; · iexact T3
    iexact S3
  iapply (wp_g1 I c Kn 2 20 24 rfl rfl) $$ [HP S3 W3 HO]
  · isplitr; · iexact HI
    isplitl [HO]; · iexact HO
    isplitl [HP]; · iexact HP
    isplitl [S3]; · iexact S3
    iexact W3
  iintro ⟨HO, Q2, HP, F3⟩
  ihave HP := (Entails.of_eq (mid_pieces (qq c) (rr c) (Pc I c))) $$ [Q0 Q1 Q2 HP]
  · isplitl [Q0]; · iexact Q0
    isplitl [Q1]; · iexact Q1
    isplitl [Q2]; · iexact Q2
    iexact HP
  ihave S4 := (hj (l2 0)) $$ [T4 S4]
  · isplitl [T4]; · iexact T4
    iexact S4
  iapply (wp_g2 I c Kn 0 24 40 rfl rfl) $$ [HP S4 W4 HO]
  · isplitr; · iexact HI
    isplitl [HO]; · iexact HO
    isplitl [HP]; · iexact HP
    isplitl [S4]; · iexact S4
    iexact W4
  iintro ⟨HO, Q0, HP, F4⟩
  ihave S5 := (hj (l2 1)) $$ [T5 S5]
  · isplitl [T5]; · iexact T5
    iexact S5
  iapply (wp_g2 I c Kn 1 40 56 rfl rfl) $$ [HP S5 W5 HO]
  · isplitr; · iexact HI
    isplitl [HO]; · iexact HO
    isplitl [HP]; · iexact HP
    isplitl [S5]; · iexact S5
    iexact W5
  iintro ⟨HO, Q1, HP, F5⟩
  ihave S6 := (hj (l2 2)) $$ [T6 S6]
  · isplitl [T6]; · iexact T6
    iexact S6
  iapply (wp_g2 I c Kn 2 56 72 rfl rfl) $$ [HP S6 W6 HO]
  · isplitr; · iexact HI
    isplitl [HO]; · iexact HO
    isplitl [HP]; · iexact HP
    isplitl [S6]; · iexact S6
    iexact W6
  iintro ⟨HO, Q2, HP, F6⟩
  iapply HK
  isplitl [Hins Hscr Hhbm Q0 Q1 Q2 HP]
  · isplitl [Hins]; · iexact Hins
    isplitl [Q0 Q1 Q2 HP]
    · iapply (out_join I c)
      iapply (Entails.of_eq (all_pieces (qq c) (rr c) (Pc I c)).symm)
      isplitl [Q0]
      · iapply (Entails.of_eq (mid_pieces (qq c) (rr c) (Pc I c)).symm)
        iexact Q0
      isplitl [Q1]; · iexact Q1
      isplitl [Q2]; · iexact Q2
      iexact HP
    isplitl [Hscr]; · iexact Hscr
    iexact Hhbm
  isplitr [HO]
  · isplitl [Hab]; · iexact Hab
    isplitl [HKa]; · iexact HKa
    iapply (Entails.of_eq (all_phases (Fin' (F := F) c)).symm)
    isplitl [F0]; · iexact F0
    isplitl [F1]; · iexact F1
    isplitl [F2]; · iexact F2
    isplitl [F3]; · iexact F3
    isplitl [F4]; · iexact F4
    isplitl [F5]; · iexact F5
    iexact F6
  · unfold Owe
    rw [Orem_end]
    iexact HO

end Cert.KernelIdeal.Body
end
-- ==== Proof.Fund.lean ====
module

public import proofs.«01_k».proof.Proof.Run

/-! What the launch deals each device: the cells' records, its positions, the tokens it pays with and the credit of
    what the others owe it. -/

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The kinds of cell, listed -/

/-- The kinds other than the barrier's. -/
abbrev NK : Type := (Fin 2 × Fin 8) ⊕ Tx ⊕ Tx
def nk : NK → CK
  | .inl p => .loc p.1 p.2
  | .inr (.inl x) => .snd x
  | .inr (.inr x) => .rcv x

/-- A kind is the barrier's or another. -/
def ckSplit : Unit ⊕ NK ≃ CK where
  toFun | .inl _ => .bar | .inr k => nk k
  invFun | .bar => .inl () | .loc b h => .inr (.inl (b, h)) | .snd x => .inr (.inr (.inl x)) | .rcv x => .inr (.inr (.inr x))
  left_inv := by rintro (_ | p | x | x) <;> rfl
  right_inv := by rintro (_ | ⟨b, h⟩ | x | x) <;> rfl

/-- What holds of all semaphores, kind by kind. -/
theorem bigSep_ck (Φ : CK → sProp 𝕄) :
    bigSep Finset.univ Φ = iprop(Φ .bar ∗ bigSep Finset.univ fun k : NK => Φ (nk k)) := by
  rw [BI.bigSep_univ_equiv ckSplit, BI.bigSep_univ_sum, show (Finset.univ : Finset Unit) = {()} from rfl, BI.bigSep_singleton]; rfl

/-- What holds of all semaphores but the barrier's, kind by kind. -/
theorem bigSep_nk (Φ : CK → sProp 𝕄) :
    (bigSep Finset.univ fun k : NK => Φ (nk k))
      = iprop((sepL (fun h => Φ (.loc 0 h)) hl ∗ sepL (fun h => Φ (.loc 1 h)) hl)
          ∗ (bigSep Finset.univ fun x => Φ (.snd x)) ∗ (bigSep Finset.univ fun x => Φ (.rcv x))) := by
  rw [BI.bigSep_univ_sum, BI.bigSep_univ_sum, BI.bigSep_univ_prod, BI.bigSep_fin_two,
    ← sepL_univ (fun h => Φ (.loc 0 h)) hl (by decide) (by decide), ← sepL_univ (fun h => Φ (.loc 1 h)) hl (by decide) (by decide)]
  rfl

/-! ## The kernel's own semaphores -/

def osem (k : NK) : SemLoc sig := csem (nk k)

/-- The kinds but the barrier's are counted without repetition. -/
theorem nk_inj : Function.Injective nk := fun k k' h => by
  have : ckSplit (.inr k) = ckSplit (.inr k') := h
  exact Sum.inr.inj (ckSplit.injective this)

/-- The pipeline's own semaphores are none of the kernel's. -/
theorem stage_kind : ∀ (w : Fin cfg0.W) (s : Fin (cfg0.win w).nbuf), kindOf (.dma ((cfg0.win w).sem s)) = none := by decide

/-- Every copy's semaphore lives in the call. -/
theorem dma_scoped : ∀ q : DmaSem sig, (SemLoc.dma q : SemLoc sig).isScoped .tc = true := by decide

/-- The kernel's semaphores lie apart from the pipeline's. -/
theorem ownSemFacts : Pipeline.OwnSemFacts cfg0.spec osem where
  isScoped := by rintro (p | x | x) <;> exact dma_scoped _
  inj := csem_inj.comp nk_inj
  disj k w s h := by
    have h1 := congrArg kindOf h
    unfold osem at h1
    rw [kind_csem, show kindOf (.dma ((cfg0.spec w).sem s)) = none from stage_kind w s] at h1
    exact absurd h1 (by simp)

/-- The one semaphore that outlives the call is the barrier's. -/
theorem unscopedSems0_eq (c : Dev nD) : (unscopedSems0 c : sProp 𝕄) = semVal (cell c .bar) 0 := by
  unfold unscopedSems0; rw [bigSep_eq_bigSepL_of_eq [SemLoc.reg barS.sem] (by decide) (by decide)]; rfl

/-- The call's semaphores at zero, kind by kind. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [bigSep_ck, unscopedSems0_eq]
  iintro ⟨H1, H2⟩
  isplitl [H2]; · iexact H2
  unfold Pipeline.ownSems0 osem
  iexact H1

/-! ## The launch element -/

abbrev cellAt (ck : Dev nD × CK) : GSem nD τ sig := cell ck.1 ck.2
/-- Different devices or kinds have different semaphores. -/
theorem cellAt_inj : Function.Injective cellAt := fun a b h => Prod.ext (cell_inj h).1 (cell_inj h).2
def allCells : Finset (GSem nD τ sig) := Finset.univ.map ⟨cellAt, cellAt_inj⟩

abbrev tokAt (x : Dev nD × CK × Fin 4) : GSem nD τ sig × ℕ × Fin 4 := (cell x.1 x.2.1, 0, x.2.2)
/-- Different duties have different tokens. -/
theorem tokAt_inj : Function.Injective tokAt := fun a b h =>
  Prod.ext (cell_inj (congrArg Prod.fst h)).1 (Prod.ext (cell_inj (congrArg Prod.fst h)).2 (congrArg (fun x : GSem nD τ sig × ℕ × Fin 4 => x.2.2) h))
def allToks : Finset (GSem nD τ sig × ℕ × Fin 4) := Finset.univ.map ⟨tokAt, tokAt_inj⟩

def u₀ : UU := (initOf (Pipeline.cells cfgs cellOf_inj) (Pipeline.launchToks cfgs cellOf_inj), initOf allCells allToks)

variable (V : Vals F)

/-- The tokens of a device's own cells. -/
def ownToks (c : Dev nD) : sProp 𝕄 := bigSep Finset.univ fun kd : CK × Fin 4 => dutyTok ER (cell c kd.1) 0 kd.2

/-- What the launch element deals a device. -/
def G (c : Dev nD) : sProp 𝕄 :=
  iprop((bigSep Finset.univ fun k : CK => roundState ER (Rd V) (cell c k) 0)
    ∗ ((bigSep Finset.univ fun k : CK => atPos ER (cell c k) 0 ∅ 0) ∗ bigSep Finset.univ fun k : CK => reached ER (cell c k) 0) ∗ ownToks c)

/-- The schedule's ghost state, dealt out to the devices. -/
theorem fund_all : BI.own (ER (initOf allCells allToks)) ⊢ (|==> bigSep Finset.univ (G V) : sProp 𝕄) := by
  have hX (Φ : GSem nD τ sig → sProp 𝕄) : bigSep allCells Φ = bigSep Finset.univ fun c : Dev nD => bigSep Finset.univ fun k : CK => Φ (cell c k) := by
    unfold allCells; rw [BI.bigSep_map, BI.bigSep_univ_prod]; rfl
  have hT : bigSep allToks (fun x => (dutyTok ER x.1 x.2.1 x.2.2 : sProp 𝕄)) = bigSep Finset.univ fun c : Dev nD => ownToks c := by
    unfold allToks; rw [BI.bigSep_map, BI.bigSep_univ_prod]; rfl
  iintro HX
  imod (Rounds.fund ER (Rd V) allCells allToks) $$ HX with ⟨Hst, Hr, Hat, Htok⟩
  imodintro
  ihave Hst' := (Entails.of_eq (hX fun g => roundState ER (Rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [BI.bigSep_sep', BI.bigSep_sep', BI.bigSep_sep']
  isplitl [Hst']; · iexact Hst'
  isplitl [Hat' Hr']
  · isplitl [Hat'] <;> iassumption
  iexact Htok'

/-- A device's semaphores at zero become its cells' invariants. -/
theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : CK => iprop(∃ κ : ℕ, cellInv ER (Rd V) κ (cell c k)))
          ∗ ((bigSep Finset.univ fun k : CK => atPos ER (cell c k) 0 ∅ 0) ∗ bigSep Finset.univ fun k : CK => reached ER (cell c k) 0) ∗ ownToks c) := by
  have hal : iprop((bigSep Finset.univ fun k : CK => semVal (cell c k) 0) ∗ bigSep Finset.univ fun k : CK => roundState ER (Rd V) (cell c k) 0)
      ⊢ (|={Set.univ}=> bigSep Finset.univ fun k : CK => iprop(∃ κ : ℕ, cellInv ER (Rd V) κ (cell c k)) : sProp 𝕄) := by
    rw [← BI.bigSep_sep']
    exact BI.Entails.trans (BI.bigSep_mono fun k _ => (Rounds.body_intro ER (Rd V) (cell c k)).trans inv_alloc) (bigSep_fupd _ _)
  unfold G
  iintro ⟨Hos, Hus, Hst, Hat, Htok⟩
  ihave Hv := (sems0_eq (F := F) c) $$ [Hos Hus]
  · isplitl [Hos] <;> iassumption
  imod hal $$ [Hv Hst] with Hinv
  · isplitl [Hv] <;> iassumption
  imodintro
  isplitl [Hinv]; · iexact Hinv
  isplitl [Hat]; · iexact Hat
  iexact Htok

/-! ## The global step -/

/-- Every cell's invariant and that it has reached its first round. -/
def Rec (K : Dev nD × CK → ℕ) : sProp 𝕄 :=
  iprop((bigSep Finset.univ fun ck : Dev nD × CK => cellInv ER (Rd V) (K ck) (cell ck.1 ck.2))
    ∗ bigSep Finset.univ fun ck : Dev nD × CK => reached ER (cell ck.1 ck.2) 0)

instance Rec_persistent (K : Dev nD × CK → ℕ) : BI.Persistent (Rec V K) := by unfold Rec; infer_instance

/-- The tokens a device pays with. -/
def payToks (c : Dev nD) : sProp 𝕄 :=
  iprop((bigSep Finset.univ fun i : Fin 4 => dutyTok ER (cell (nbr i c) .bar) 0 i) ∗ KvTok c ∗ bigSep Finset.univ (Toks (F := F) c))
/-- A device's positions and its tokens. -/
def Lin (c : Dev nD) : sProp 𝕄 := iprop((bigSep Finset.univ fun k : CK => atPos ER (cell c k) 0 ∅ 0) ∗ payToks c)
/-- What the global step makes for a device. -/
def G' (c : Dev nD) : sProp 𝕄 := iprop(∃ K, Rec V K ∗ Lin c)

/-- Two products can be exchanged. -/
theorem big_comm {A B : Type} [Fintype A] [Fintype B] (Φ : A → B → sProp 𝕄) :
    (bigSep Finset.univ fun a => bigSep Finset.univ fun b => Φ a b) = bigSep Finset.univ fun b => bigSep Finset.univ fun a => Φ a b := by
  rw [← BI.bigSep_univ_prod (fun p : A × B => Φ p.1 p.2), ← BI.bigSep_univ_prod (fun p : B × A => Φ p.2 p.1),
    BI.bigSep_univ_equiv (Equiv.prodComm B A)]
  rfl

def nbrE (i : Fin 4) : Dev nD ≃ Dev nD := ⟨nbr i, nbr (opp i), opp_nbr i, nbr_opp i⟩

/-- A device's own tokens, by kind; -/
theorem ownToks_split (c : Dev nD) : (ownToks c : sProp 𝕄)
    ⊢ iprop((bigSep Finset.univ fun i : Fin 4 => dutyTok ER (cell c .bar) 0 i) ∗ KvTok c
        ∗ (bigSep Finset.univ fun x => dutyTok ER (cell c (.snd x)) 0 0) ∗ bigSep Finset.univ fun x => dutyTok ER (cell c (.rcv x)) 0 0) := by
  have h1 : (bigSep Finset.univ fun k : NK => bigSep Finset.univ fun d : Fin 4 => (dutyTok ER (cell c (nk k)) 0 d : sProp 𝕄))
      ⊢ bigSep Finset.univ fun k : NK => dutyTok ER (cell c (nk k)) 0 0 := BI.bigSep_mono fun k _ => BI.bigSep_elim (Finset.mem_univ (0 : Fin 4))
  unfold ownToks KvTok
  rw [BI.bigSep_univ_prod, bigSep_ck]
  iintro ⟨Hb, Hk⟩
  ihave Hk := h1 $$ Hk
  ihave Hk := (Entails.of_eq (bigSep_nk fun k => dutyTok ER (cell c k) 0 0)) $$ Hk
  icases Hk with ⟨HL, HS, HR⟩
  isplitl [Hb]; · iexact Hb
  isplitl [HL]; · iexact HL
  isplitl [HS]; · iexact HS
  iexact HR

/-- dealt to the neighbours. -/
theorem toks_around : (bigSep Finset.univ fun c : Dev nD => (ownToks c : sProp 𝕄)) ⊢ bigSep Finset.univ fun c : Dev nD => payToks c := by
  refine BI.Entails.trans (BI.bigSep_mono fun c _ => ownToks_split c) ?_
  have hb : (bigSep Finset.univ fun c : Dev nD => bigSep Finset.univ fun i : Fin 4 => (dutyTok ER (cell c .bar) 0 i : sProp 𝕄))
      = bigSep Finset.univ fun c : Dev nD => bigSep Finset.univ fun i : Fin 4 => dutyTok ER (cell (nbr i c) .bar) 0 i := by
    rw [big_comm, big_comm fun (c : Dev nD) (i : Fin 4) => (dutyTok ER (cell (nbr i c) .bar) 0 i : sProp 𝕄)]
    exact BI.bigSep_congr fun i _ => BI.bigSep_univ_equiv (nbrE i) _
  have hr : (bigSep Finset.univ fun c : Dev nD => bigSep Finset.univ fun x : Tx => (dutyTok ER (cell c (.rcv x)) 0 0 : sProp 𝕄))
      = bigSep Finset.univ fun c : Dev nD => bigSep Finset.univ fun x : Tx => dutyTok ER (cell (peer c x) (.rcv x)) 0 0 := by
    rw [big_comm, big_comm fun (c : Dev nD) (x : Tx) => (dutyTok ER (cell (peer c x) (.rcv x)) 0 0 : sProp 𝕄)]
    exact BI.bigSep_congr fun x _ => BI.bigSep_univ_equiv (nbrE x.dir) _
  unfold payToks
  rw [BI.bigSep_sep', BI.bigSep_sep', BI.bigSep_sep', BI.bigSep_sep', BI.bigSep_sep', hb, hr]
  change (_ : sProp 𝕄) ⊢ _
  iintro ⟨H1, H2, H3, H4⟩
  isplitl [H1]; · iexact H1
  isplitl [H2]; · iexact H2
  have e : (bigSep Finset.univ fun c : Dev nD => bigSep Finset.univ (Toks (F := F) c) : sProp 𝕄)
      = iprop((bigSep Finset.univ fun c : Dev nD => bigSep Finset.univ fun x : Tx => dutyTok ER (cell c (.snd x)) 0 0)
        ∗ bigSep Finset.univ fun c : Dev nD => bigSep Finset.univ fun x : Tx => dutyTok ER (cell (peer c x) (.rcv x)) 0 0) := by
    rw [← BI.bigSep_sep']; exact BI.bigSep_congr fun c _ => by unfold Toks; rw [← BI.bigSep_sep']
  rw [e]
  isplitl [H3]; · iexact H3
  iexact H4

/-- A fact that lasts may be used in every factor. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact BI.bigSep_mono h)

/-- The tokens, given to the devices that pay with them. -/
theorem regroup :
    (bigSep Finset.univ fun c : Dev nD => iprop((bigSep Finset.univ fun k : CK => iprop(∃ κ : ℕ, cellInv ER (Rd V) κ (cell c k)))
          ∗ ((bigSep Finset.univ fun k : CK => atPos ER (cell c k) 0 ∅ 0) ∗ bigSep Finset.univ fun k : CK => reached ER (cell c k) 0) ∗ ownToks c) : sProp 𝕄)
      ⊢ bigSep Finset.univ (G' V) := by
  rw [BI.bigSep_sep', BI.bigSep_sep', BI.bigSep_sep', ← BI.bigSep_univ_prod (fun ck : Dev nD × CK => iprop(∃ κ : ℕ, cellInv ER (Rd V) κ (cell ck.1 ck.2))),
    ← BI.bigSep_univ_prod (fun ck : Dev nD × CK => (reached ER (cell ck.1 ck.2) 0 : sProp 𝕄))]
  have hl (K : Dev nD × CK → ℕ) : iprop(Rec V K ∗ bigSep Finset.univ fun c : Dev nD => Lin (F := F) c) ⊢ bigSep Finset.univ (G' V) :=
    with_persistent (R := Rec V K) fun c _ => by unfold G'; iintro H; iexists K; iexact H
  iintro ⟨HI, ⟨Hat, #HR⟩, Htok⟩
  ihave HK := (BI.bigSep_exists_pi Finset.univ (fun (ck : Dev nD × CK) (κ : ℕ) => (cellInv ER (Rd V) κ (cell ck.1 ck.2) : sProp 𝕄))) $$ HI
  icases HK with ⟨%K, #HI⟩
  ihave Htk := (toks_around (F := F)) $$ Htok
  iapply (hl K)
  isplitr
  · unfold Rec; isplitl; · iexact HI
    iexact HR
  · unfold Lin; rw [BI.bigSep_sep']
    isplitl [Hat]; · iexact Hat
    iexact Htk

/-- From every device's semaphores at zero and what the launch element deals. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  BI.Entails.trans (BI.Entails.trans (BI.bigSep_mono fun c _ => core_alloc V c) (bigSep_fupd _ _)) (BI.fupd_mono (regroup V))

/-! ## The launch credit -/

/-- A debt to one semaphore, read at another: nothing, unless they are the same. -/
theorem tally_cell (a b : Dev nD) (k k' : CK) (n : ℕ) :
    (tallyAt (cell a k) () n : CellTallies nD τ sig Unit) (cell b k') () = if a = b ∧ k = k' then n else 0 := by
  rw [tallyAt_apply]
  by_cases h : a = b ∧ k = k'
  · obtain ⟨rfl, rfl⟩ := h; rw [if_pos ⟨rfl, rfl⟩, if_pos ⟨rfl, rfl⟩]
  · rw [if_neg h, if_neg fun h' => h ⟨(cell_inj h'.1).1.symm, (cell_inj h'.1).2.symm⟩]

/-- What a device owes at its entry: its four signals and its copies. -/
theorem Obar_zero (c : Dev nD) : Obar c 0 = Orem c 0 + tallyAt (cell (nbr 3 c) .bar) () 1 + tallyAt (cell (nbr 2 c) .bar) () 1
    + tallyAt (cell (nbr 1 c) .bar) () 1 + tallyAt (cell (nbr 0 c) .bar) () 1 := rfl

/-- What device `d` owes the barrier of `c`: a signal for each direction that leads there. -/
theorem owed_bar (d c : Dev nD) : Obar d 0 (cell c .bar) () = ∑ i : Fin 4, if d = nbr (opp i) c then 1 else 0 := by
  have h0 : Orem d 0 (cell c .bar) () = 0 := by
    by_contra hn
    obtain ⟨x, -, hx⟩ := Orem_pos (Nat.pos_of_ne_zero hn)
    exact absurd (cell_inj hx).2 (by simp)
  have hi (i : Fin 4) : (tallyAt (cell (nbr i d) .bar) () 1 : CellTallies nD τ sig Unit) (cell c .bar) () = if d = nbr (opp i) c then 1 else 0 := by
    rw [tally_cell]
    refine if_congr ⟨fun h => by rw [← h.1, opp_nbr], fun h => ⟨by rw [h, nbr_opp], rfl⟩⟩ rfl rfl
  rw [Obar_zero, Pi.add_apply, Finsupp.add_apply, Pi.add_apply, Finsupp.add_apply, Pi.add_apply, Finsupp.add_apply, Pi.add_apply, Finsupp.add_apply, h0, hi, hi, hi, hi,
    Fin.sum_univ_four]
  omega

/-- What device `d` owes the receiving cell of transfer `x` at `c`: its amount if it is the one to send it. -/
theorem owed_rcv (d c : Dev nD) (x : Tx) : Obar d 0 (cell c (.rcv x)) () = if d = frm c x then Nx x else 0 := by
  have hi (i : Fin 4) : (tallyAt (cell (nbr i d) .bar) () 1 : CellTallies nD τ sig Unit) (cell c (.rcv x)) () = 0 := by
    rw [tally_cell, if_neg fun h => absurd h.2 (by simp)]
  rw [Obar_zero, Pi.add_apply, Finsupp.add_apply, Pi.add_apply, Finsupp.add_apply, Pi.add_apply, Finsupp.add_apply, Pi.add_apply, Finsupp.add_apply, hi, hi, hi, hi]
  unfold Orem
  rw [Finset.sum_apply, Finsupp.finset_sum_apply, Finset.sum_eq_single x]
  · rw [tally_cell]
    simp only [Nat.add_zero]
    exact if_congr ⟨fun h => by rw [← h.1, frm_peer], fun h => ⟨by rw [h, peer_frm], trivial⟩⟩ rfl rfl
  · intro y _ hy
    rw [tally_cell, if_neg fun h => hy (CK.rcv.inj h.2)]
  · intro h; exact absurd (Finset.mem_filter.mpr ⟨Finset.mem_univ x, Nat.zero_le x.ord⟩) h

abbrev O₀ (c : Dev nD) : CellTallies nD τ sig Unit := Obar c 0

/-- What all devices owe to a barrier's semaphore: its four signals. -/
theorem launch_bar (c : Dev nD) :
    tallyOn (cell c .bar) (launchCredit (Pipeline.owing O₀) 0 (cell c .bar)) = (tallyAt (cell c .bar) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => (Finset.sum_ite_eq' Finset.univ (nbr (opp i) c) fun _ => 1).trans (if_pos (Finset.mem_univ _))]
  rfl

/-- What all devices owe to a receiving semaphore: one copy. -/
theorem launch_rcv (c : Dev nD) (x : Tx) :
    tallyOn (cell c (.rcv x)) (launchCredit (Pipeline.owing O₀) 0 (cell c (.rcv x))) = (tallyAt (cell c (.rcv x)) () (Nx x) : CellTallies nD τ sig Unit) := by
  unfold tallyAt; refine congrArg _ (Finsupp.ext fun u => ?_); cases u
  rw [Pipeline.launchCredit_owing, Finsupp.single_eq_same, Finset.sum_congr rfl fun d _ => owed_rcv d c x,
    Finset.sum_ite_eq' Finset.univ (frm c x) fun _ => Nx x, if_pos (Finset.mem_univ _)]

/-- A device starts with the credit of its barrier and of every transfer it will receive. -/
theorem creds (c : Dev nD) :
    (Pipeline.launchCred O₀ c : sProp 𝕄)
      ⊢ iprop(cred (tallyAt (cell c .bar) () 4) ∗ bigSep Finset.univ fun x => cred (tallyAt (cell c (.rcv x)) () (Nx x))) := by
  unfold Pipeline.launchCred
  refine BI.Entails.trans (BI.bigSep_subset (Finset.subset_univ (Finset.univ.map (⟨csem, csem_inj⟩ : CK ↪ SemLoc sig)))) ?_
  rw [BI.bigSep_map]
  have h := (Entails.of_eq ((bigSep_ck fun k => (cred (tallyOn (cell c k) (launchCredit (Pipeline.owing O₀) 0 (cell c k))) : sProp 𝕄)).trans
    (congrArg (fun P => iprop(cred (tallyOn (cell c .bar) (launchCredit (Pipeline.owing O₀) 0 (cell c .bar))) ∗ P))
      (bigSep_nk fun k => (cred (tallyOn (cell c k) (launchCredit (Pipeline.owing O₀) 0 (cell c k))) : sProp 𝕄)))))
  refine BI.Entails.trans h ?_
  change (_ : sProp 𝕄) ⊢ _
  iintro ⟨Hb, -, -, HR⟩
  isplitl [Hb]
  · rw [← launch_bar]; iexact Hb
  · rw [BI.bigSep_congr (s := Finset.univ) (fun (x : Tx) _ => congrArg (fun T => (cred T : sProp 𝕄)) (launch_rcv c x).symm)]
    iexact HR

end Cert.KernelIdeal.Body
end
-- ==== Proof.Printed.lean ====
module

public import proofs.«01_k».proof.Proof.Prog

/-! The offsets the printed body computes. -/

@[expose] public section

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F] [Named F]

/-- The device's place in its row, as the body computes it. -/
def qWord (d : Dev nD) : BitVec 32 := Scalar.remsi (Scalar.remsi (Scalar.divsi (Dev.word d) 1#32) 16#32) 4#32

/-- The offsets the printed body computes. -/
def printed (d : Dev nD) : Offs where
  word := fun | 0 => qWord d | 1 => Scalar.remsi (Scalar.addi (qWord d) 1#32) 4#32 | 2 => Scalar.remsi (Scalar.addi (qWord d) 2#32) 4#32 | 3 => Scalar.remsi (Scalar.addi (qWord d) 3#32) 4#32
  kv := fun h => ⟨k0_off1 d (BitVec.ofNat 32 h.val), k0_off1_inb d h⟩
  x := fun | 0 => ⟨k0_off2 d, k0_off2_inb d⟩ | 1 => ⟨k0_off14 d 1#32, k0_off14_inb d 0⟩ | 2 => ⟨k0_off14 d 2#32, k0_off14_inb d 1⟩ | 3 => ⟨k0_off14 d 3#32, k0_off14_inb d 2⟩
  win := fun
    | 0, 0 => ⟨k0_off3 d, k0_off3_inb d⟩
    | 0, 1 => ⟨k0_off4 d, k0_off4_inb d⟩
    | 0, 2 => ⟨k0_off5 d, k0_off5_inb d⟩
    | 0, 3 => ⟨k0_off6 d, k0_off6_inb d⟩
    | 0, 4 => ⟨k0_off7 d, k0_off7_inb d⟩
    | 0, 5 => ⟨k0_off8 d, k0_off8_inb d⟩
    | 0, 6 => ⟨k0_off9 d, k0_off9_inb d⟩
    | 0, 7 => ⟨k0_off10 d, k0_off10_inb d⟩
    | 1, 0 => ⟨k0_off15 d 1#32, k0_off15_inb d 0⟩
    | 1, 1 => ⟨k0_off16 d 1#32, k0_off16_inb d 0⟩
    | 1, 2 => ⟨k0_off17 d 1#32, k0_off17_inb d 0⟩
    | 1, 3 => ⟨k0_off18 d 1#32, k0_off18_inb d 0⟩
    | 1, 4 => ⟨k0_off19 d 1#32, k0_off19_inb d 0⟩
    | 1, 5 => ⟨k0_off20 d 1#32, k0_off20_inb d 0⟩
    | 1, 6 => ⟨k0_off21 d 1#32, k0_off21_inb d 0⟩
    | 1, 7 => ⟨k0_off22 d 1#32, k0_off22_inb d 0⟩
    | 2, 0 => ⟨k0_off15 d 2#32, k0_off15_inb d 1⟩
    | 2, 1 => ⟨k0_off16 d 2#32, k0_off16_inb d 1⟩
    | 2, 2 => ⟨k0_off17 d 2#32, k0_off17_inb d 1⟩
    | 2, 3 => ⟨k0_off18 d 2#32, k0_off18_inb d 1⟩
    | 2, 4 => ⟨k0_off19 d 2#32, k0_off19_inb d 1⟩
    | 2, 5 => ⟨k0_off20 d 2#32, k0_off20_inb d 1⟩
    | 2, 6 => ⟨k0_off21 d 2#32, k0_off21_inb d 1⟩
    | 2, 7 => ⟨k0_off22 d 2#32, k0_off22_inb d 1⟩
    | 3, 0 => ⟨k0_off15 d 3#32, k0_off15_inb d 2⟩
    | 3, 1 => ⟨k0_off16 d 3#32, k0_off16_inb d 2⟩
    | 3, 2 => ⟨k0_off17 d 3#32, k0_off17_inb d 2⟩
    | 3, 3 => ⟨k0_off18 d 3#32, k0_off18_inb d 2⟩
    | 3, 4 => ⟨k0_off19 d 3#32, k0_off19_inb d 2⟩
    | 3, 5 => ⟨k0_off20 d 3#32, k0_off20_inb d 2⟩
    | 3, 6 => ⟨k0_off21 d 3#32, k0_off21_inb d 2⟩
    | 3, 7 => ⟨k0_off22 d 3#32, k0_off22_inb d 2⟩
  part := fun | 0 => ⟨k0_off11 d, k0_off11_inb d⟩ | 1 => ⟨k0_off23 d 1#32, k0_off23_inb d 0⟩ | 2 => ⟨k0_off23 d 2#32, k0_off23_inb d 1⟩ | 3 => ⟨k0_off23 d 3#32, k0_off23_inb d 2⟩
  half := fun
    | 0, 0 => ⟨k0_off12 d, k0_off12_inb d⟩ | 0, 1 => ⟨k0_off24 d 1#32, k0_off24_inb d 0⟩ | 0, 2 => ⟨k0_off24 d 2#32, k0_off24_inb d 1⟩ | 0, 3 => ⟨k0_off24 d 3#32, k0_off24_inb d 2⟩
    | 1, 0 => ⟨k0_off13 d, k0_off13_inb d⟩ | 1, 1 => ⟨k0_off25 d 1#32, k0_off25_inb d 0⟩ | 1, 2 => ⟨k0_off25 d 2#32, k0_off25_inb d 1⟩ | 1, 3 => ⟨k0_off25 d 3#32, k0_off25_inb d 2⟩
  strip := fun
    | 0, 0 => ⟨k0_off26 d, k0_off26_inb d⟩ | 0, 1 => ⟨k0_off28 d 1#32, k0_off28_inb d 0⟩ | 0, 2 => ⟨k0_off27 d 2#32, k0_off27_inb d 1⟩ | 0, 3 => ⟨k0_off27 d 1#32, k0_off27_inb d 0⟩
    | 1, 0 => ⟨k0_off26 d, k0_off26_inb d⟩ | 1, 1 => ⟨k0_off28 d 1#32, k0_off28_inb d 0⟩ | 1, 2 => ⟨k0_off28 d 2#32, k0_off28_inb d 1⟩ | 1, 3 => ⟨k0_off28 d 3#32, k0_off28_inb d 2⟩
  own := fun | 0 => ⟨k0_off29 d, k0_off29_inb d⟩ | 1 => ⟨k0_off30 d, k0_off30_inb d⟩
  s1 := fun
    | 0, k => ⟨k0_off31 d (BitVec.ofNat 32 k.val), k0_off31_inb d k⟩ | 1, k => ⟨k0_off32 d (BitVec.ofNat 32 k.val), k0_off32_inb d k⟩
    | 2, k => ⟨k0_off33 d (BitVec.ofNat 32 k.val), k0_off33_inb d k⟩ | 3, k => ⟨k0_off34 d (BitVec.ofNat 32 k.val), k0_off34_inb d k⟩
  s2 := fun
    | 0, u, j => ⟨k0_off35 d (BitVec.ofNat 32 u.val) (BitVec.ofNat 32 j.val), k0_off35_inb d u j⟩
    | 1, u, j => ⟨k0_off36 d (BitVec.ofNat 32 u.val) (BitVec.ofNat 32 j.val), k0_off36_inb d u j⟩
    | 2, u, j => ⟨k0_off37 d (BitVec.ofNat 32 j.val) (BitVec.ofNat 32 u.val), k0_off37_inb d j u⟩
    | 3, u, j => ⟨k0_off38 d (BitVec.ofNat 32 j.val) (BitVec.ofNat 32 u.val), k0_off38_inb d j u⟩
  nbr := fun | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩

end Cert.KernelIdeal.Body
end
-- ==== Proof.ProgForm.lean ====
module

public import proofs.«01_k».proof.Proof.Printed
public import proofs.«01_k».proof.Proof.OffsForm

/-! The offsets the printed body computes are those in closed form. -/

@[expose] public section

noncomputable section

namespace Cert.KernelIdeal.Body

open Idealize.ShloMosaic Idealize.ShloMosaic.TcCoe
open Idealize.SL Idealize.SL.Sem
open Cert.KernelIdeal Cert.KernelIdeal.Gen

/-- The printed chunk words are the plain ones. -/
theorem word_form : ∀ d i, (printed d).word i = (offs d).word i := by decide +kernel
/-- The printed offsets of keys and values are the plain ones. -/
theorem kv_form : ∀ d h, (printed d).kv h = (offs d).kv h := by decide +kernel
/-- The printed offsets of the chunks of `x` are the plain ones. -/
theorem x_form : ∀ d i, (printed d).x i = (offs d).x i := by decide +kernel
/-- The printed offsets of the windows are the plain ones. -/
theorem win_form : ∀ d i h, (printed d).win i h = (offs d).win i h := by decide +kernel
/-- The printed offsets of the chunks are the plain ones. -/
theorem part_form : ∀ d i, (printed d).part i = (offs d).part i := by decide +kernel
/-- The printed offsets of the half chunks are the plain ones. -/
theorem half_form : ∀ d w i, (printed d).half w i = (offs d).half w i := by decide +kernel
/-- The printed offsets of the parts of a strip are the plain ones. -/
theorem strip_form : ∀ d w i, (printed d).strip w i = (offs d).strip w i := by decide +kernel
/-- The printed offsets of a device's own part are the plain ones. -/
theorem own_form : ∀ d w, (printed d).own w = (offs d).own w := by decide +kernel
/-- The printed offsets of the first gather's pieces are the plain ones. -/
theorem s1_form : ∀ d f k, (printed d).s1 f k = (offs d).s1 f k := by decide +kernel
/-- The printed offsets of the second gather's pieces are the plain ones. -/
theorem s2_form : ∀ d f u j, (printed d).s2 f u j = (offs d).s2 f u j := by decide +kernel
/-- The printed neighbours are the plain ones. -/
theorem nbr_form : ∀ d i, (printed d).nbr i = (offs d).nbr i := by decide +kernel

/-- Two tables of offsets are equal if they agree field by field. -/
theorem offs_ext (O O' : Offs) (h1 : O.word = O'.word) (h2 : O.kv = O'.kv) (h3 : O.x = O'.x) (h4 : O.win = O'.win)
    (h5 : O.part = O'.part) (h6 : O.half = O'.half) (h7 : O.strip = O'.strip) (h8 : O.own = O'.own) (h9 : O.s1 = O'.s1)
    (h10 : O.s2 = O'.s2) (h11 : O.nbr = O'.nbr) : O = O' := by
  cases O; cases O'; subst h1 h2 h3 h4 h5 h6 h7 h8 h9 h10 h11; rfl

/-- The printed offsets are the closed forms. -/
theorem printed_eq : printed = offs := funext fun d => offs_ext _ _
  (funext fun _ => word_form d _) (funext fun _ => kv_form d _) (funext fun _ => x_form d _) (funext fun _ => funext fun _ => win_form d _ _)
  (funext fun _ => part_form d _) (funext fun _ => funext fun _ => half_form d _ _) (funext fun _ => funext fun _ => strip_form d _ _)
  (funext fun _ => own_form d _) (funext fun _ => funext fun _ => s1_form d _ _)
  (funext fun _ => funext fun _ => funext fun _ => s2_form d _ _ _) (funext fun _ => nbr_form d _)

end Cert.KernelIdeal.Body
end
-- ==== Proof.BodyEq.lean ====
module

public import proofs.«01_k».proof.Proof.Printed

@[expose] public section

/-! The printed body is the structured program at the offsets the body computes: matched operation by operation. -/

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F] [Named F]

/-- Equal operations with equal continuations. -/
theorem op_congr {E : Type → Type} {α β : Type} {e e' : E β} {k k' : β → Prog E α} (h : e = e') (hk : ∀ x, k x = k' x) :
    Prog.op e k = Prog.op e' k' := by
  subst h; rw [funext hk]

/-- A branch that only does something or nothing, before one continuation; -/
theorem dite_congr' {E : Type → Type} {α β : Type} {c c' : Prop} [hd : Decidable c] [hd' : Decidable c'] {A : c → Prog E β} {A' : c' → Prog E PUnit} {R : Prog E β} {k : β → Prog E α}
    {k' : PUnit → Prog E α} (hc : c = c') (h : ∀ h h', A h = (A' h').bind fun _ => R) (hk : R.bind k = k' ⟨⟩) :
    (dite c A fun _ => R).bind k = (dite c' A' fun _ => .ret ⟨⟩).bind k' := by
  subst hc
  by_cases hc : c
  · rw [dif_pos hc, dif_pos hc, h hc hc]
    rw [show k' = fun _ => R.bind k from funext fun _ => hk.symm]
    exact Prog.bind_assoc _ _ _
  · rw [dif_neg hc, dif_neg hc]; exact hk
/-- the same under two sequenced binds. -/
theorem dite_congr2 {E : Type → Type} {α β γ : Type} {c c' : Prop} [hd : Decidable c] [hd' : Decidable c'] {A : c → Prog E β} {A' : c' → Prog E PUnit} {R : Prog E β} {k1 : β → Prog E γ}
    {k2 : γ → Prog E α} {k' : PUnit → Prog E α} (hc : c = c') (h : ∀ h h', A h = (A' h').bind fun _ => R) (hk : (R.bind k1).bind k2 = k' ⟨⟩) :
    ((dite c A fun _ => R).bind k1).bind k2 = (dite c' A' fun _ => .ret ⟨⟩).bind k' := by
  refine Eq.trans ?_ (dite_congr' (A := A) (R := R) (k := fun b => (k1 b).bind k2) hc h (Eq.trans ?_ hk))
  · exact Prog.bind_assoc _ _ _
  · exact (Prog.bind_assoc _ _ _).symm
set_option maxHeartbeats 0 in
set_option maxRecDepth 100000 in
/-- The body the launch runs is the structured program. -/
theorem body_eq (t : Fin cfg0.N) : bodyAt0 (F := F) t = bodyP printed := by
  dsimp only [bodyP, allSteps, seqs, barrierP, headsP, ringSteps, gather1, gather2, List.cons_append, List.nil_append, List.append_assoc,
    chunkP, sendP, waitP, accA, accB, accStrip, accOwn, ownP, fixP, headP, pfixP, kvStart, kvWait, ldHead, ldW, ldC, ldQ, ldWin, ldGlob, ldSlotA, ldSlotB, ldHalf, ldStrip, Prog.lift, Prog.bind, semSignalWord, semWaitWord]
  iterate 123 refine op_congr (by rfl) fun _ => ?_
  refine dite_congr2 ?_ ?_ ?_
  · rfl
  · exact fun _ _ => rfl
  clear * -
  iterate 66 refine op_congr (by rfl) fun _ => ?_
  refine dite_congr2 ?_ ?_ ?_
  · rfl
  · exact fun _ _ => rfl
  clear * -
  iterate 71 refine op_congr (by rfl) fun _ => ?_
  refine dite_congr2 ?_ ?_ ?_
  · rfl
  · exact fun _ _ => rfl
  clear * -
  iterate 71 refine op_congr (by rfl) fun _ => ?_
  refine dite_congr2 ?_ ?_ ?_
  · rfl
  · exact fun _ _ => rfl
  clear * -
  iterate 254 refine op_congr (by rfl) fun _ => ?_
  rfl
end Cert.KernelIdeal.Body
end
-- ==== Proof.Launch.lean ====
module

public import proofs.«01_k».proof.Proof.Fund
public import proofs.«01_k».proof.Proof.ProgForm
public import Idealize.ShloMosaic.Lib.Pipeline.CollectiveSegs
public import proofs.«01_k».proof.Proof.BodyEq

/-! The run of @main on the sixteen devices: from any memory it ends with every device's result array at the computed
    contents, every argument unchanged and every counter at zero. -/

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The keys and values in the devices' memory -/

/-- Each head lies in the array of heads. -/
theorem inbAll (t : Fin 128) : ∀ a, (![0, 0, t.val, 0] : Fin 4 → Nat) a + S1x1024x1x128.size a ≤ S1x1024x128x128.size a := by
  revert t; decide +kernel

/-- All the heads of the keys (or values). -/
def famKv : Fam S1x1024x128x128 (Fin 128) := mkFam S1x1024x128x128 (fun t => ![0, 0, t.val, 0]) S1x1024x1x128.size inbAll
    (fun i => ⟨(i 2).val, (i 2).isLt⟩) fun t i => by
  have h0 : (i 0).val < 1 := (i 0).isLt
  have h1 : (i 1).val < 1024 := (i 1).isLt
  have h3 : (i 3).val < 128 := (i 3).isLt
  rw [Fin.ext_iff]
  constructor
  · intro h
    have := h 2
    simp at this
    show (i 2).val = t.val
    omega
  · intro h a
    have h' : (i 2).val = t.val := h
    match a with
    | 0 => exact ⟨Nat.zero_le _, by show _ < 0 + 1; omega⟩
    | 1 => exact ⟨Nat.zero_le _, by show _ < 0 + 1024; omega⟩
    | 2 => exact ⟨by show t.val ≤ _; omega, by show _ < t.val + 1; omega⟩
    | 3 => exact ⟨Nat.zero_le _, by show _ < 0 + 128; omega⟩

/-- Device `c`'s head `h` among all. -/
def hx (c : Dev nD) (h : Fin 8) : Fin 128 := ⟨8 * c.val + h.val, by have h1 : c.val < 16 := c.isLt; omega⟩
/-- Different local heads are different heads. -/
theorem hx_inj (c : Dev nD) : Function.Injective (hx c) := fun a b h => by
  have := congrArg Fin.val h; unfold hx at this; exact Fin.ext (by simpa using this)

section Hbm

variable (I : Inp F) (c : Dev nD)

/-- The heads other devices use. -/
def Other (b : Fin 2) : sProp 𝕄 :=
  bigSep (Finset.univ \ Finset.univ.map ⟨hx c, hx_inj c⟩) fun t => owns (c : Thread nD τ) ((kvH b).slice (famKv.r t) (famKv.str t)) fullShare
    (fun j => I.kv c b ((famKv.r t).emb j))

/-- The array of heads is the device's heads and the others. -/
theorem heads_eq (b : Fin 2) :
    (bigSep Finset.univ fun t => owns (c : Thread nD τ) ((kvH b).slice (famKv.r t) (famKv.str t)) fullShare (fun j => I.kv c b ((famKv.r t).emb j)) : sProp 𝕄)
      = iprop(sepL (fun h => owns (c : Thread nD τ) (headM (kvH b) ((offs c).kv h)) fullShare ((vals I).kv c b h)) hl ∗ Other I c b) := by
  have e (h : Fin 8) : (owns (c : Thread nD τ) (headM (kvH b) ((offs c).kv h)) fullShare ((vals I).kv c b h) : sProp 𝕄)
      = owns (c : Thread nD τ) ((kvH b).slice (famKv.r (hx c h)) (famKv.str (hx c h))) fullShare (fun j => I.kv c b ((famKv.r (hx c h)).emb j)) := by
    rw [← kv_read]
    exact owns_squeeze c ((kvH b).slice (famKv.r (hx c h)) (famKv.str (hx c h))) fullShare S1024x128 squeezes_S1x1024x1x128_S1024x128
      (fun j => I.kv c b ((famKv.r (hx c h)).emb j))
  rw [sepL_congr _ _ hl (fun h _ => e h), ← sepL_univ _ hl (by decide) (by decide),
    BI.bigSep_sdiff_split (Finset.subset_univ (Finset.univ.map (⟨hx c, hx_inj c⟩ : Fin 8 ↪ Fin 128))), BI.bigSep_map]
  rfl

/-- The keys or values are the device's heads and the others. -/
theorem kv_split (b : Fin 2) : (owns (c : Thread nD τ) (kvH b) fullShare (I.kv c b) : sProp 𝕄)
    ⊢ iprop(sepL (fun h => owns (c : Thread nD τ) (headM (kvH b) ((offs c).kv h)) fullShare ((vals I).kv c b h)) hl ∗ Other I c b) := by
  rw [← heads_eq]; exact fam_split c famKv (kvH b) fullShare (I.kv c b)

/-- The device's heads and the others are the keys or values. -/
theorem kv_join (b : Fin 2) : iprop(sepL (fun h => owns (c : Thread nD τ) (headM (kvH b) ((offs c).kv h)) fullShare ((vals I).kv c b h)) hl ∗ Other I c b)
    ⊢ (owns (c : Thread nD τ) (kvH b) fullShare (I.kv c b) : sProp 𝕄) := by
  rw [← heads_eq]
  exact fam_join c famKv (kvH b) fullShare (fun t j => I.kv c b ((famKv.r t).emb j)) (I.kv c b) fun _ => rfl

/-- Both arrays whole. -/
def Whole : sProp 𝕄 := iprop(owns (c : Thread nD τ) kHbm fullShare (I.kv c 0) ∗ owns (c : Thread nD τ) vHbm fullShare (I.kv c 1))

/-- Keys and values are the device's heads and the others. -/
theorem hbm_split : (Whole I c : sProp 𝕄) ⊢ iprop(Hbm I c ∗ Other I c 0 ∗ Other I c 1) := by
  unfold Whole Hbm
  iintro ⟨H0, H1⟩
  ihave H0 := (kv_split I c 0) $$ H0
  ihave H1 := (kv_split I c 1) $$ H1
  icases H0 with ⟨H0, R0⟩
  icases H1 with ⟨H1, R1⟩
  isplitl [H0 H1]
  · isplitl [H0]; · iexact H0
    iexact H1
  isplitl [R0] <;> iassumption

/-- The device's heads and the others are keys and values. -/
theorem hbm_join : iprop(Hbm I c ∗ Other I c 0 ∗ Other I c 1) ⊢ (Whole I c : sProp 𝕄) := by
  unfold Whole Hbm
  iintro ⟨⟨H0, H1⟩, R0, R1⟩
  isplitl [H0 R0]
  · iapply (kv_join I c 0)
    isplitl [H0]; · iexact H0
    iexact R0
  · iapply (kv_join I c 1)
    isplitl [H1]; · iexact H1
    iexact R1

end Hbm

/-! ## The proof data -/

variable (m : (ℓ : Loc nD τ sig) → Buf (Elt F) ℓ) (ρ : Dev nD → PrngReg)

/-- The inputs, as the memory holds them. -/
def inp : Inp F where
  x c := m ((c : Thread nD τ).loc main_arg0)
  wq c := m ((c : Thread nD τ).loc main_arg1)
  wo c := m ((c : Thread nD τ).loc main_arg4)
  kv c := fun | 0 => m ((c : Thread nD τ).loc main_arg2) | 1 => m ((c : Thread nD τ).loc main_arg3)

/-- What device `c`'s body starts from, less the scratch buffers, -/
def start (c : Dev nD) : sProp 𝕄 :=
  iprop(G' (vals (inp m)) c ∗ levAts L lv
    ∗ (cred (tallyAt (cell c .bar) () 4) ∗ bigSep Finset.univ fun x => cred (tallyAt (cell c (.rcv x)) () (Nx x))) ∗ Whole (inp m) c)
def Φ₀ (c : Dev nD) : sProp 𝕄 := iprop(start m c ∗ Scr (F := F) c)
/-- and what it ends with. -/
def Φ₁ (c : Dev nD) : sProp 𝕄 := iprop(Whole (inp m) c ∗ (bigSep Finset.univ fun k : CK => semVal (cell c k) 0) ∗ Scr (F := F) c)

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).wq c
    | ⟨2, _⟩ => (inp m).wo c
    | ⟨3, _⟩ => outV (inp m)
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Every window is held whole. -/
theorem share_eq (c : Dev nD) (w : Fin cfg0.W) : (dats m 0 c).share w = fullShare := by unfold Dat.share; split <;> rfl

/-! ## The windows are the whole arrays -/

/-- Every window is its whole array. -/
theorem idx0 (w : Fin 4) : ∀ a, (cfg0.win w).index t0_0 a = 0 := by
  fin_cases w <;> exact (by decide)

/-- The window of `x` is its array. -/
theorem emb0 (i) : ((cfg0.win 0).blk t0_0).view.emb i = i :=
  funext fun a => Fin.ext (Window.rect_emb_val_of_index_zero (cfg0.win 0) t0_0 a (idx0 0 a) i)
/-- The window of `Wq` is its array. -/
theorem emb1 (i) : ((cfg0.win 1).blk t0_0).view.emb i = i :=
  funext fun a => Fin.ext (Window.rect_emb_val_of_index_zero (cfg0.win 1) t0_0 a (idx0 1 a) i)
/-- The window of `Wo` is its array. -/
theorem emb2 (i) : ((cfg0.win 2).blk t0_0).view.emb i = i :=
  funext fun a => Fin.ext (Window.rect_emb_val_of_index_zero (cfg0.win 2) t0_0 a (idx0 2 a) i)
/-- The window of the result is its array. -/
theorem emb3 (i) : ((cfg0.win 3).blk t0_0).view.emb i = i :=
  funext fun a => Fin.ext (Window.rect_emb_val_of_index_zero (cfg0.win 3) t0_0 a (idx0 3 a) i)

/-- The window of `x` holds `x`. -/
theorem blk0 (c : Dev nD) : ((cfg0.win 0).blk t0_0).view.read (Elt F) (m ((c : Thread nD τ).loc main_arg0)) = (inp m).x c :=
  funext fun i => congrArg (m ((c : Thread nD τ).loc main_arg0)) (emb0 i)
/-- The window of `Wq` holds `Wq`. -/
theorem blk1 (c : Dev nD) : ((cfg0.win 1).blk t0_0).view.read (Elt F) (m ((c : Thread nD τ).loc main_arg1)) = (inp m).wq c :=
  funext fun i => congrArg (m ((c : Thread nD τ).loc main_arg1)) (emb1 i)
/-- The window of `Wo` holds `Wo`. -/
theorem blk2 (c : Dev nD) : ((cfg0.win 2).blk t0_0).view.read (Elt F) (m ((c : Thread nD τ).loc main_arg4)) = (inp m).wo c :=
  funext fun i => congrArg (m ((c : Thread nD τ).loc main_arg4)) (emb2 i)

/-- The body finds `x` in its window. -/
theorem before0 (c : Dev nD) (d) : (dats m 0 c).before (0 : Fin 4) t0_0 d = (inp m).x c :=
  ((dats m 0 c).before_in_eq_fetched 0 rfl (fun _ => rfl) (fun _ _ _ => rfl) (fun t => by rw [fin_N0 t]; exact (blk0 m c).symm) t0_0 d).trans (blk0 m c)
/-- The body finds `Wq` in its window. -/
theorem before1 (c : Dev nD) (d) : (dats m 0 c).before (1 : Fin 4) t0_0 d = (inp m).wq c :=
  ((dats m 0 c).before_in_eq_fetched 1 rfl (fun _ => rfl) (fun _ _ _ => rfl) (fun t => by rw [fin_N0 t]; exact (blk1 m c).symm) t0_0 d).trans (blk1 m c)
/-- The body finds `Wo` in its window. -/
theorem before2 (c : Dev nD) (d) : (dats m 0 c).before (2 : Fin 4) t0_0 d = (inp m).wo c :=
  ((dats m 0 c).before_in_eq_fetched 2 rfl (fun _ => rfl) (fun _ _ _ => rfl) (fun t => by rw [fin_N0 t]; exact (blk2 m c).symm) t0_0 d).trans (blk2 m c)

/-- The result array ends at the computed contents. -/
theorem final_out (c : Dev nD) : (dats m 0 c).arrAt (3 : Fin 4) cfg0.N = outV (inp m) :=
  (dats m 0 c).arrAt_eq_of_cover 3 (outV (inp m))
    (fun t _ => by rw [fin_N0 t]; exact funext fun i => (congrArg (outV (inp m)) (emb3 i)).symm)
    (fun i => ⟨t0_0, flush0_3 t0_0, by
      have h := ((cfg0.win 3).blk t0_0).view.emb_mem_set i
      rw [emb3] at h
      exact h⟩)

/-! ## The body -/

/-- The positions of all cells of the device, at round `r`. -/
theorem pos_all (c : Dev nD) (r : ℕ) : (bigSep Finset.univ fun k : CK => (atPos ER (cell c k) r ∅ 0 : sProp 𝕄))
    = iprop(atPos ER (cell c .bar) r ∅ 0 ∗ sepL (fun h => KvAt (F := F) c h r) hl
        ∗ bigSep Finset.univ fun x : Tx => iprop(atPos ER (cell c (.snd x)) r ∅ 0 ∗ atPos ER (cell c (.rcv x)) r ∅ 0)) := by
  rw [bigSep_ck, bigSep_nk (F := F) (fun k => atPos ER (cell c k) r ∅ 0), BI.bigSep_sep']
  rw [← sepL_univ (fun h => KvAt (F := F) c h r) hl (by decide) (by decide), ← sepL_univ _ hl (by decide) (by decide), ← sepL_univ _ hl (by decide) (by decide), ← BI.bigSep_sep']
  rfl

/-- Every cell of the device closed: its counter is at zero. -/
theorem close_all (c : Dev nD) (K : Dev nD × CK → ℕ) :
    iprop(Inv (vals (inp m)) K ∗ bigSep Finset.univ fun k : CK => atPos ER (cell c k) 1 ∅ 0)
      ⊢ |={Set.univ}=> (bigSep Finset.univ fun k : CK => semVal (cell c k) 0 : sProp 𝕄) := by
  have hc (k : CK) : iprop(Inv (vals (inp m)) K ∗ atPos ER (cell c k) 1 ∅ 0) ⊢ |={Set.univ}=> (semVal (cell c k) 0 : sProp 𝕄) := by
    iintro ⟨HI, Ha⟩
    ihave HI := (inv_at (vals (inp m)) K c k) $$ HI
    iapply (Rounds.cell_close ER (Rd (vals (inp m))) (κ := K (c, k)) (Set.mem_univ _) (fun h => h) (R := 1) (duties_later (vals (inp m)) _))
    isplitl [HI] <;> iassumption
  exact BI.Entails.trans (BI.Entails.trans (Q := iprop((bigSep Finset.univ fun _ : CK => Inv (vals (inp m)) K) ∗ bigSep Finset.univ fun k : CK => atPos ER (cell c k) 1 ∅ 0))
    (sep_mono_left (BI.bigSep_of_persistent Finset.univ (Inv (vals (inp m)) K)))
    (by rw [← BI.bigSep_sep']; exact BI.bigSep_mono fun k _ => hc k)) (bigSep_fupd _ _)

/-- What the body is handed -/
def bodyPre (c : Dev nD) : sProp 𝕄 :=
  iprop(Φ₀ m c ∗ (dats m 0 c).owesAt () t0_0.castSucc
    ∗ (∃ d, owns (c : Thread nD τ) xM fullShare ((dats m 0 c).before (0 : Fin 4) t0_0 d))
    ∗ (∃ d, owns (c : Thread nD τ) wqM fullShare ((dats m 0 c).before (1 : Fin 4) t0_0 d))
    ∗ (∃ d, owns (c : Thread nD τ) woM fullShare ((dats m 0 c).before (2 : Fin 4) t0_0 d))
    ∗ (∃ d, owns (c : Thread nD τ) outM fullShare ((dats m 0 c).before (3 : Fin 4) t0_0 d)))
/-- and hands back. -/
def bodyPost (c : Dev nD) : sProp 𝕄 :=
  iprop(Φ₁ m c ∗ (dats m 0 c).owesAt () t0_0.succ
    ∗ owns (c : Thread nD τ) xM fullShare ((inp m).x c) ∗ owns (c : Thread nD τ) wqM fullShare ((inp m).wq c)
    ∗ owns (c : Thread nD τ) woM fullShare ((inp m).wo c) ∗ owns (c : Thread nD τ) outM fullShare (outV (inp m)))

/-- The body called is the short program. -/
theorem called : defs₀ (F := F) Proc.tc cfg0.body (cfg0.bodyArgs t0_0 (cfg0.slots t0_0)) = bodyP offs :=
  (show _ = bodyAt0 t0_0 from rfl).trans ((body_eq t0_0).trans (congrArg bodyP printed_eq))

/-- Reading the device's number gives it. -/
theorem wp_dev (c : Dev nD) (k : Dev nD → Kp F PUnit) (Q : PUnit → sProp 𝕄) : WP c (.op .deviceId k) Q = WP c (k c) Q :=
  wp_deviceId 𝒱₀ (c : Thread nD τ) none Set.univ

/-- What a device waits with, for all its semaphores. -/
theorem wait_all (c : Dev nD) : bigSep Finset.univ (WaitRes (F := F) c)
    = (iprop((bigSep Finset.univ fun x : Tx => iprop(atPos ER (cell c (.snd x)) 0 ∅ 0 ∗ atPos ER (cell c (.rcv x)) 0 ∅ 0))
        ∗ bigSep Finset.univ fun x : Tx => cred (tallyAt (cell c (.rcv x)) () (Nx x))) : sProp 𝕄) := by
  unfold WaitRes; exact BI.bigSep_sep' _ _ _

set_option maxHeartbeats 4000000 in
/-- The body's run on a device: from what the launch gives to what it takes back. -/
theorem run_body (c : Dev nD) : bodyPre m c ⊢ WP c (bodyP (F := F) offs) fun _ => bodyPost m c := by
  have e : bodyP (F := F) offs = (Prog.lift .deviceId).bind fun d => (seqs (allSteps (offs d))).bind .ret :=
    congrArg (Prog.bind _) (funext fun d => (Prog.bind_pure _).symm)
  rw [e]
  unfold bodyPre Φ₀ start G'
  simp only [before0, before1, before2]
  unfold Rec Lin payToks
  rw [pos_all]
  iintro ⟨⟨⟨⟨%K, ⟨#Hinv, #Hre⟩, ⟨Hab, HKa, Hax⟩, Htb, HKt, HT⟩, #Hlev, ⟨Hcb, Hcr⟩, HW⟩, Hscr⟩, Ho, ⟨%d0, Hx⟩, ⟨%d1, Hwq⟩, ⟨%d2, Hwo⟩, ⟨%d3, Hout⟩⟩
  ihave HH := (hbm_split (inp m) c) $$ HW
  icases HH with ⟨Hh, HR⟩
  unfold Dat.owesAt Pipeline.owesWithin
  icases Ho with ⟨%W, -, HO⟩
  rw [show (Prog.lift .deviceId).bind (fun d => (seqs (allSteps (F := F) (offs d))).bind .ret)
    = Prog.op .deviceId fun d => (seqs (allSteps (F := F) (offs d))).bind .ret from rfl, wp_dev]
  iapply (wp_body (inp m) c K .ret (fun _ => bodyPost m c)) $$ [Hab HKa Hax Htb HKt HT Hcb Hcr Hh Hscr HO Hx Hwq Hwo Hout]
  · isplitr
    · unfold Inv
      isplitr; · iexact Hinv
      isplitr; · iexact Hre
      iexact Hlev
    unfold Pre Ins
    isplitl [Hx Hwq Hwo Hout Hscr Hh]
    · isplitl [Hx Hwq Hwo]
      · isplitl [Hx]; · iexact Hx
        isplitl [Hwq]; · iexact Hwq
        iexact Hwo
      isplitl [Hout]; · unfold some'; iexists _; iexact Hout
      isplitl [Hscr]; · iexact Hscr
      iexact Hh
    isplitr [HO]
    · isplitl [Htb Hab Hcb]
      · isplitl [Htb]; · iexact Htb
        isplitl [Hab]; · iexact Hab
        iexact Hcb
      isplitl [HKt HKa]
      · isplitl [HKt]; · iexact HKt
        iexact HKa
      isplitl [HT]; · iexact HT
      rw [wait_all]
      isplitl [Hax]; · iexact Hax
      iexact Hcr
    · iexists W; iexact HO
  · unfold Post
    iintro ⟨⟨Hins, Hout, Hscr, Hh⟩, ⟨Hab, HKa, Hax⟩, ⟨%W', HO⟩⟩
    imod (close_all m c K) $$ [Hab HKa Hax] with Hz
    · isplitr
      · unfold Inv
        isplitr; · iexact Hinv
        isplitr; · iexact Hre
        iexact Hlev
      rw [pos_all]
      isplitl [Hab]; · iexact Hab
      isplitl [HKa]; · iexact HKa
      unfold Fin'
      iexact Hax
    rw [wp_ret]
    imodintro
    unfold bodyPost Φ₁ Dat.owesAt Pipeline.owesWithin Ins
    icases Hins with ⟨Hx, Hwq, Hwo⟩
    isplitl [Hh HR Hz Hscr]
    · isplitl [Hh HR]
      · iapply (hbm_join (inp m) c)
        isplitl [Hh]; · iexact Hh
        iexact HR
      isplitl [Hz]; · iexact Hz
      iexact Hscr
    isplitl [HO]
    · iexists W'
      isplitr; · ipureintro; exact fun _ _ => Or.inl trivial
      iexact HO
    isplitl [Hx]; · iexact Hx
    isplitl [Hwq]; · iexact Hwq
    isplitl [Hwo]; · iexact Hwo
    iexact Hout

/-- The body's run, in the form that the launch asks for. -/
theorem body_obligation (c : Dev nD) : BodyObligation (dats m 0 c) (defs₀ (F := F)) 𝒱₀ () Set.univ := fun t => by
  rw [fin_N0 t, bigSep_W0, bigSep_W0, called]
  exact run_body m c

/-! ## The side conditions of the launch -/

/-- The pipeline's own waits are allowed. -/
theorem stage_waits (c : Dev nD) : (levAts L lv : sProp 𝕄) ⊢ Pipeline.cellsWaits cfgs (dats m) () 0 c :=
  Pipeline.cellsWaits_intro cfgs (dats m) () 0 c fun w s t =>
    mayWait_stage c _ (stage_kind w s) _ (by
      rcases t with ⟨_ | _, ht⟩
      · exact Or.inl rfl
      · exact Or.inr rfl)

/-- What the launch gives is what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (vals (inp m)) c)
      ⊢ |={Set.univ}=> iprop(start m c ∗ emp) := by
  rw [show (Pipeline.unscopedRestP Pipeline.Prefetch.none cfg0.spec c (fun b => m ((c : Thread nD τ).loc b)) : sProp 𝕄)
    = iprop((((c : Thread nD τ).loc main_arg2) ↦{fullShare} m ((c : Thread nD τ).loc main_arg2)) ∗ (((c : Thread nD τ).loc main_arg3) ↦{fullShare} m ((c : Thread nD τ).loc main_arg3)))
    from Pipeline.unscopedRestP_eq_of_list spec0 c _ _ [main_arg2, main_arg3] (by decide) (by decide)]
  iintro ⟨⟨H2, H3⟩, Hlev, Hcr, -, HG⟩
  ihave Hc := (creds (F := F) c) $$ Hcr
  imodintro
  unfold start Whole
  isplitl
  · isplitl [HG]; · iexact HG
    isplitl [Hlev]; · iexact Hlev
    isplitl [Hc]; · iexact Hc
    rw [owns_whole, owns_whole]
    isplitl [H2]; · iexact H2
    iexact H3
  · iempintro

/-- The call's scratch buffers. -/
theorem scr_eq (c : Dev nD) : (Pipeline.scopedRest (Ix := Unit) (Name := ℕ) (U := UU) (Lvl := ℕ) (Val := Elt F) spec0 c : sProp 𝕄) ⊢ Scr (F := F) c := by
  rw [scopedRest0_eq]
  unfold Scr
  simp only [some'_whole]
  iintro ⟨H0, H1, H2, H3, H4, H5, H6, H7, H8, H9, H10, H11, H12, H13, H14, H15⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6 H7 H8 H9]
  · isplitl [H6]; · iexact H6
    isplitl [H7]; · iexact H7
    isplitl [H8]; · iexact H8
    iexact H9
  isplitl [H10 H11]
  · isplitl [H10]; · iexact H10
    iexact H11
  isplitl [H12]; · iexact H12
  isplitl [H13]; · iexact H13
  isplitl [H14]; · iexact H14
  iexact H15

/-- The scratch buffers, given back. -/
theorem scr_back (c : Dev nD) : Scr (F := F) c ⊢ (Pipeline.scopedRest (Ix := Unit) (Name := ℕ) (U := UU) (Lvl := ℕ) (Val := Elt F) spec0 c : sProp 𝕄) := by
  rw [scopedRest0_eq]
  unfold Scr
  simp only [some'_whole]
  iintro ⟨⟨H0, H1, H2, H3, H4, H5⟩, ⟨H6, H7, H8, H9⟩, ⟨H10, H11⟩, H12, H13, H14, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The semaphores, given back at zero. -/
theorem sems_back (c : Dev nD) : (bigSep Finset.univ fun k : CK => semVal (cell c k) 0 : sProp 𝕄)
    ⊢ iprop(Pipeline.ownSems0 (Ix := Unit) (Name := ℕ) (U := UU) (Lvl := ℕ) (Val := Elt F) (τ := τ) osem c ∗ unscopedSems0 c) := by
  rw [bigSep_ck, unscopedSems0_eq]
  iintro ⟨H1, H2⟩
  isplitl [H2]
  · unfold Pipeline.ownSems0 osem
    iexact H2
  iexact H1

/-- What is left of a device at the end. -/
def rest (c : Dev nD) : sProp 𝕄 := iprop(unscopedSems0 c ∗ Whole (inp m) c)

/-- What holds before the body's only step. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_eq c); iexact Hr

/-- What holds after it gives back what the launch asks for. -/
theorem phi1_exit (c : Dev nD) :
    (dats m 0 c).Φ (Fin.last cfg0.N) ⊢ iprop(rest m c ∗ Pipeline.ownSems0 osem c ∗ Pipeline.scopedRest cfg0.spec c) := by
  rw [show (dats m 0 c).Φ (Fin.last cfg0.N) = Φ₁ m c from rfl]
  unfold Φ₁ rest
  iintro ⟨HW, Hz, Hr⟩
  ihave Hs := (sems_back c) $$ Hz
  icases Hs with ⟨Ho, Hu⟩
  isplitl [Hu HW]
  · isplitl [Hu] <;> iassumption
  isplitl [Ho]; · iexact Ho
  iapply (scr_back c); iexact Hr

/-- What the run leaves outside the windows: the keys and values as they were, the runtime's counters at zero. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

/-- The arguments left in the end are those of the start. -/
theorem rest_read (c : Dev nD) (s' : _) : iprop(rest m c ∗ emp ∗ SI s') ⊢ |={Set.univ}=> (iprop(⌜Left m c s'.mem⌝ ∗ SI s') : sProp 𝕄) := by
  have hr : iprop((bigSep Finset.univ fun b : Fin 2 => (iprop(((c : Thread nD τ).loc (![main_arg2, main_arg3] b)) ↦{fullShare} m ((c : Thread nD τ).loc (![main_arg2, main_arg3] b))) : sProp 𝕄)) ∗ SI s')
      ⊢ iprop(⌜∀ b ∈ (Finset.univ : Finset (Fin 2)), s'.mem.mem ((c : Thread nD τ).loc (![main_arg2, main_arg3] b)) = m ((c : Thread nD τ).loc (![main_arg2, main_arg3] b))⌝ ∗ SI s') :=
    pointsTo_read_all Finset.univ (fun b => (c : Thread nD τ).loc (![main_arg2, main_arg3] b)) (fun b => m _) s'
  have hr' : (iprop(((((c : Thread nD τ).loc main_arg2) ↦{fullShare} m ((c : Thread nD τ).loc main_arg2)) ∗ (((c : Thread nD τ).loc main_arg3) ↦{fullShare} m ((c : Thread nD τ).loc main_arg3))) ∗ SI s') : sProp 𝕄)
      ⊢ iprop(⌜∀ b ∈ (Finset.univ : Finset (Fin 2)), s'.mem.mem ((c : Thread nD τ).loc (![main_arg2, main_arg3] b)) = m ((c : Thread nD τ).loc (![main_arg2, main_arg3] b))⌝ ∗ SI s') := by
    rw [BI.bigSep_fin_two] at hr; exact hr
  unfold rest Whole
  rw [owns_whole, owns_whole]
  iintro ⟨⟨Hu, H2, H3⟩, -, HSI⟩
  ihave H := hr' $$ [H2 H3 HSI]
  · isplitl [H2 H3]
    · isplitl [H2]; · iexact H2
      iexact H3
    iexact HSI
  icases H with ⟨%hkv, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hkv 0 (Finset.mem_univ _), hkv 1 (Finset.mem_univ _)⟩
  iexact HSI

def QC : PUnit × MemSt nD τ sig (Elt F) → Prop := fun r => ∀ c : Dev nD,
  (∀ w : Fin cfg0.W, r.2.mem ((cfg0.win w).arr.view.loc (c : Thread nD τ)) = (dats m 0 c).arrAt w cfg0.N)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
set_option maxHeartbeats 8000000 in
/-- From any memory with zero counters every fair execution of @main on the sixteen devices ends, each device's result
    at the computed contents, its keys and values unchanged and every counter at zero. -/
theorem run_windows : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := stage_waits m)
    (G := G (vals (inp m))) (G' := G' (vals (inp m))) (u₀ := u₀)
    (hu₀ := by
      unfold u₀
      iintro Hu
      ihave H := (ownU_pair _ _) $$ Hu
      icases H with ⟨HP, HX⟩
      imod (fund_all (vals (inp m))) $$ HX with HG
      imodintro
      isplitl [HP] <;> iassumption)
    (hglob := glob (vals (inp m)))
    (hA := fun _ _ => rfl) (hpf := fun _ k => k.elim0)
    (X := start m) (Y := rest m) (Z := fun _ => iprop(emp))
    (hX := start_intro m ρ) (hin := phi0_intro m) (hout := phi1_exit m)
    (QY := Left m) (hY := rest_read m)
    (hQ := fun _ h hs => ⟨fun c => ⟨fun w => (h c).1 w, (h c).2.2.2⟩, sem_eq_zero hs fun c => (h c).2.2.1⟩)

end Cert.KernelIdeal.Body
end
-- ==== Proof.Frames.lean ====
module

public import proofs.«01_k».proof.Proof.Launch

@[expose] public section

/-! What the launch says of the argument arrays: every one of them ends as it began, and every counter at zero. -/

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F] [Named F]

/-- From any memory with zero counters the kernel runs to the end; each device's output array then holds the summed
    result of the whole inputs, its five arguments are as they were, and every counter is zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = outV (inp m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ?_, h.2⟩) (run_windows m ρ)
  have hc := h.1 c
  refine ⟨((hc.1 (3 : Fin 4)).trans (final_out m c)), ?_, ?_, hc.2.1, hc.2.2, ?_⟩
  · exact (hc.1 (0 : Fin 4)).trans ((dats m 0 c).arrAt_in (0 : Fin 4) rfl _)
  · exact (hc.1 (1 : Fin 4)).trans ((dats m 0 c).arrAt_in (1 : Fin 4) rfl _)
  · exact (hc.1 (2 : Fin 4)).trans ((dats m 0 c).arrAt_in (2 : Fin 4) rfl _)

end Cert.KernelIdeal.Body

end
-- ==== Proof.Same.lean ====
module

public import proofs.«01_k».proof.Proof.Gen.Kernel
public import proofs.«01_k».proof.Proof.Gen.KernelIdeal
public import Idealize.ShloMosaic.PureOps.BitExact

@[expose] public section

/-! At bits, with each named constant read as the word that the kernel holds, the ideal kernel's text is the kernel's. -/

noncomputable section

namespace Cert.Proof

open Idealize.ShloMosaic Idealize.SL.Sem

/-- A named constant read as the word the printed kernel holds. -/
@[reducible] def asPrinted : Named Bits := ⟨fun _ _ φ bits => Scalar.ofBits φ bits⟩

section

local instance : Named Bits := asPrinted
local instance : Cert.KernelIdeal.Facts := Cert.KernelIdeal.Gen.facts
local instance : Cert.Kernel.Facts := Cert.Kernel.Gen.facts

set_option maxRecDepth 100000 in
set_option maxHeartbeats 0 in
/-- The kernel's body is the same. -/
theorem body_same : @Cert.Kernel.cc0_body Bits _ _ = @Cert.KernelIdeal.cc0_body Bits _ _ _ := rfl

set_option maxRecDepth 100000 in
set_option maxHeartbeats 0 in
/-- The bodies that the calls run are the same. -/
theorem bodies_same : Cert.Kernel.defs₀ (F := Bits) = Cert.KernelIdeal.defs₀ := by
  unfold Cert.Kernel.defs₀ Cert.KernelIdeal.defs₀
  congr 1
  funext l ts
  match l, ts with
  | 0, (t, s) =>
    show Cert.Kernel.cc0_body _ _ _ _ _ _ _ _ _ _ _ _ _ _ _ _ _ _ _ _ _ _ _ _ _ _ _ _ _ _ _ _ _ _ _ _ _ _ _ _ _ _ _ _ _ _ _ _ _ _ _ _ _ = _
    rw [body_same]

/-- So are the definitions. -/
theorem defs_same : Cert.Kernel.defs (F := Bits) = Cert.KernelIdeal.defs :=
  congrArg (Pipeline.defs (Cert.KernelIdeal.pcfgs (F := Bits))) bodies_same

end

end Cert.Proof

end
-- ==== Proof.KernelFrame.lean ====
module

public import proofs.«01_k».proof.Defs
public import proofs.«01_k».proof.Proof.Frames
public import proofs.«01_k».proof.Proof.Same

@[expose] public section

/-! The frame of the kernel as printed, from the ideal kernel's read at bits. -/

noncomputable section

namespace Cert.Proof

open Idealize.ShloMosaic Idealize.ShloMosaic.TcCoe Idealize.SL.Sem

section

local instance : Named Bits := asPrinted
local instance : Cert.KernelIdeal.Facts := Cert.KernelIdeal.Gen.facts
local instance : Cert.Kernel.Facts := Cert.Kernel.Gen.facts

set_option maxRecDepth 100000 in
/-- The kernel ends, leaving its arguments as they were and every counter at zero. -/
theorem frame_kernel : Cert.quiescent_Kernel := fun m ρ _ => by
  rw [defs_same]
  exact (θ_run Cert.KernelIdeal.defs _ _).mono (fun _ h => ⟨fun c => (h.1 c).2, h.2⟩) (Cert.KernelIdeal.Body.run_main (F := Bits) m ρ)

end

end Cert.Proof

end
-- ==== Proof.Claims.lean ====
module

public import proofs.«01_k».proof.Defs
public import proofs.«01_k».proof.Proof.Frames
public import proofs.«01_k».proof.Proof.Gen.ReferenceIdeal.Run
public import Idealize.ShloMosaic.Lib.Quiescent

@[expose] public section

/-! The frames of the ideal kernel and of the reference, and the named constants. -/

noncomputable section

namespace Cert.Proof

open Idealize.ShloMosaic Idealize.ShloMosaic.TcCoe Idealize.SL.Sem

/-- The ideal kernel ends, leaving its arguments as they were and every counter at zero. -/
theorem frame_ideal : Cert.quiescent_KernelIdeal := fun m ρ _ =>
  (θ_run Cert.KernelIdeal.defs _ _).mono (fun _ h => ⟨fun c => (h.1 c).2, h.2⟩) (Cert.KernelIdeal.Body.run_main (F := Ideal) m ρ)

/-- The reference ends, leaving its arguments as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants: the scale is the inverse root of 128, the mask is minus infinity. -/
theorem named_constants : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xCE6E6B28#32 ⊥ rfl⟩

end Cert.Proof

end
-- ==== Proof.Softmax.lean ====
module

public import Idealize.ShloMosaic.PureOps.Ideal
public import Idealize.ShloMosaic.PureOps.Ideal.Laws
public import Mathlib.Data.EReal.Operations

@[expose] public section

/-! The softmax of a row of masked scores on the extended reals: computed over a window of the keys and the first keys,
    with one division at the end, it is the softmax over all keys with every weight divided. -/

noncomputable section

namespace Cert.Attn

open Idealize.ShloMosaic

/-- A sum over a window of a longer range. -/
theorem sum_window {N n o : ℕ} (h : o + n ≤ N) (B : Fin N → EReal) :
    ∑ j : Fin n, B ⟨o + j.val, by omega⟩ = ∑ j : Fin N, if o ≤ j.val ∧ j.val < o + n then B j else 0 := by
  rw [← Finset.sum_filter]
  refine Finset.sum_bij (fun j _ => (⟨o + j.val, by omega⟩ : Fin N)) ?_ ?_ ?_ ?_
  · intro a _
    simp
  · intro a _ b _ hab
    have := congrArg Fin.val hab
    apply Fin.ext
    simp at this
    exact this
  · intro b hb
    have hb' := (Finset.mem_filter.mp hb).2
    exact ⟨⟨b.val - o, by omega⟩, Finset.mem_univ _, Fin.ext (by simp; omega)⟩
  · intro a _
    rfl

variable (t v : Fin 1024 → EReal) (K W G : Fin 1024 → Prop) [DecidablePred K] [DecidablePred W] [DecidablePred G]

/-- A masked score. -/
def msk (P : Fin 1024 → Prop) [DecidablePred P] (j : Fin 1024) : EReal := if P j then t j else ⊥

/-- The kept keys are those kept in the window at `o` and those kept among the first 128, none of them twice. -/
structure Cov (o : ℕ) : Prop where
  le : o + 512 ≤ 1024
  cov : ∀ j : Fin 1024, K j ↔ (o ≤ j.val ∧ j.val < o + 512 ∧ W j) ∨ (j.val < 128 ∧ G j)
  one : ∀ j : Fin 1024, ¬((o ≤ j.val ∧ j.val < o + 512 ∧ W j) ∧ (j.val < 128 ∧ G j))

variable {K W G} {o : ℕ} (h : Cov K W G o)

include h in
/-- A sum over all keys, of what vanishes at a masked score, is the sum over the window and the first keys. -/
theorem sum_cov (g : EReal → Fin 1024 → EReal) (hg : ∀ j, g ⊥ j = 0) :
    (∑ a : Fin 512, g (msk t W ⟨o + a.val, by have := h.le; omega⟩) ⟨o + a.val, by have := h.le; omega⟩)
      + (∑ b : Fin 128, g (msk t G ⟨b.val, by omega⟩) ⟨b.val, by omega⟩) = ∑ j, g (msk t K j) j := by
  have e1 := sum_window h.le (fun j => g (msk t W j) j)
  have e2 := sum_window (N := 1024) (n := 128) (o := 0) (by decide) (fun j => g (msk t G j) j)
  have e2' : (∑ b : Fin 128, g (msk t G ⟨b.val, by omega⟩) ⟨b.val, by omega⟩) = ∑ j : Fin 1024, if 0 ≤ j.val ∧ j.val < 0 + 128 then g (msk t G j) j else 0 := by
    rw [← e2]
    exact Finset.sum_congr rfl fun b _ => by simp
  rw [e1, e2', ← Finset.sum_add_distrib]
  refine Finset.sum_congr rfl fun j _ => ?_
  have hc := h.cov j
  have ho := h.one j
  unfold msk
  by_cases hW : o ≤ j.val ∧ j.val < o + 512 ∧ W j
  · have hG : ¬(j.val < 128 ∧ G j) := fun hG => ho ⟨hW, hG⟩
    have hK : K j := hc.mpr (.inl hW)
    rw [if_pos ⟨hW.1, hW.2.1⟩, if_pos hW.2.2, if_pos hK]
    split_ifs with h1 h2
    · exact absurd ⟨by omega, h2⟩ hG
    · rw [hg, add_zero]
    · rw [add_zero]
  · by_cases hG : j.val < 128 ∧ G j
    · have hK : K j := hc.mpr (.inr hG)
      rw [if_pos (show 0 ≤ j.val ∧ j.val < 0 + 128 by omega), if_pos hG.2, if_pos hK]
      split_ifs with h1 h2
      · exact absurd ⟨h1.1, h1.2, h2⟩ hW
      · rw [hg, zero_add]
      · rw [zero_add]
    · have hK : ¬K j := fun hK => (hc.mp hK).elim hW hG
      rw [if_neg hK, hg]
      have a1 : (if o ≤ j.val ∧ j.val < o + 512 then g (if W j then t j else ⊥) j else 0) = 0 := by
        split_ifs with h1 h2
        · exact absurd ⟨h1.1, h1.2, h2⟩ hW
        · exact hg j
        · rfl
      have a2 : (if 0 ≤ j.val ∧ j.val < 0 + 128 then g (if G j then t j else ⊥) j else 0) = 0 := by
        split_ifs with h1 h2
        · exact absurd ⟨by omega, h2⟩ hG
        · exact hg j
        · rfl
      rw [a1, a2, add_zero]

/-- The greatest of a family, from minus infinity, is its supremum. -/
theorem fold_max {n : ℕ} (f : Fin n → EReal) : Finset.univ.fold max ⊥ f = Finset.univ.sup f := rfl

include h in
/-- The greatest masked score. -/
theorem max_cov : max (Finset.univ.sup fun a : Fin 512 => msk t W ⟨o + a.val, by have := h.le; omega⟩)
      (Finset.univ.sup fun b : Fin 128 => msk t G ⟨b.val, by omega⟩) = Finset.univ.sup (msk t K) := by
  apply le_antisymm
  · refine max_le (Finset.sup_le fun a _ => ?_) (Finset.sup_le fun b _ => ?_)
    · by_cases hW : W ⟨o + a.val, by have := h.le; omega⟩
      · have hK : K ⟨o + a.val, by have := h.le; omega⟩ := (h.cov _).mpr (.inl ⟨by simp, by simp, hW⟩)
        have := Finset.le_sup (f := msk t K) (Finset.mem_univ ⟨o + a.val, by have := h.le; omega⟩)
        unfold msk at this ⊢
        rw [if_pos hK] at this
        rw [if_pos hW]
        exact this
      · unfold msk; rw [if_neg hW]; exact bot_le
    · by_cases hG : G ⟨b.val, by omega⟩
      · have hK : K ⟨b.val, by omega⟩ := (h.cov _).mpr (.inr ⟨b.isLt, hG⟩)
        have := Finset.le_sup (f := msk t K) (Finset.mem_univ ⟨b.val, by omega⟩)
        unfold msk at this ⊢
        rw [if_pos hK] at this
        rw [if_pos hG]
        exact this
      · unfold msk; rw [if_neg hG]; exact bot_le
  · refine Finset.sup_le fun j _ => ?_
    by_cases hK : K j
    · rcases (h.cov j).mp hK with hW | hG
      · refine le_trans ?_ (le_max_left _ _)
        have := Finset.le_sup (f := fun a : Fin 512 => msk t W ⟨o + a.val, by have := h.le; omega⟩) (Finset.mem_univ ⟨j.val - o, by omega⟩)
        refine le_trans (le_of_eq ?_) this
        have e : (⟨o + (j.val - o), by have := h.le; omega⟩ : Fin 1024) = j := Fin.ext (by simp; omega)
        show _ = msk t W ⟨o + (j.val - o), _⟩
        rw [e]
        unfold msk
        rw [if_pos hK, if_pos hW.2.2]
      · refine le_trans ?_ (le_max_right _ _)
        have := Finset.le_sup (f := fun b : Fin 128 => msk t G ⟨b.val, by omega⟩) (Finset.mem_univ ⟨j.val, hG.1⟩)
        refine le_trans (le_of_eq ?_) this
        show _ = msk t G j
        unfold msk
        rw [if_pos hK, if_pos hG.2]
    · unfold msk; rw [if_neg hK]; exact bot_le

/-- A finite sum times a nonnegative real. -/
theorem sum_mul_real {ι : Type} (s : Finset ι) (f : ι → EReal) (r : ℝ) (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, ← ih, mul_comm, EReal.left_distrib_of_nonneg_of_ne_top (by exact_mod_cast hr) (EReal.coe_ne_top r), mul_comm (r : EReal) (f a), mul_comm (r : EReal)]

/-- A sum of reals is a real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- With real scores and one key kept, the weights sum to a positive real. -/
theorem den_real (K : Fin 1024 → Prop) [DecidablePred K] (ht : ∀ j, ∃ r : ℝ, t j = r) (hk : ∃ j, K j) :
    ∃ r : ℝ, 0 < r ∧ ∑ j, Ideal.exp (msk t K j - Finset.univ.sup (msk t K)) = (r : EReal) := by
  choose u hu using ht
  obtain ⟨j0, hj0⟩ := hk
  have hm : ∃ μ : ℝ, Finset.univ.sup (msk t K) = (μ : EReal) := by
    have h1 : Finset.univ.sup (msk t K) ≠ ⊤ := by
      refine ne_of_lt ((Finset.sup_lt_iff bot_lt_top).mpr fun j _ => ?_)
      unfold msk
      split_ifs
      · rw [hu]; exact EReal.coe_lt_top _
      · exact bot_lt_top
    have h2 : Finset.univ.sup (msk t K) ≠ ⊥ := by
      refine ne_of_gt (lt_of_lt_of_le ?_ (Finset.le_sup (f := msk t K) (Finset.mem_univ j0)))
      unfold msk
      rw [if_pos hj0, hu]
      exact EReal.bot_lt_coe _
    exact ⟨_, (EReal.coe_toReal h1 h2).symm⟩
  obtain ⟨μ, hμ⟩ := hm
  rw [hμ]
  have he : ∀ j, Ideal.exp (msk t K j - (μ : EReal)) = ((if K j then Real.exp (u j - μ) else 0 : ℝ) : EReal) := by
    intro j
    unfold msk
    split_ifs
    · rw [hu, ← EReal.coe_sub, Ideal.exp_coe]
    · rw [EReal.bot_sub, Ideal.exp_bot]; simp
  refine ⟨∑ j, if K j then Real.exp (u j - μ) else 0, ?_, ?_⟩
  · refine Finset.sum_pos' (fun j _ => ?_) ⟨j0, Finset.mem_univ _, ?_⟩
    · split_ifs
      · exact (Real.exp_pos _).le
      · exact le_rfl
    · rw [if_pos hj0]; exact Real.exp_pos _
  · rw [coe_sum]
    exact Finset.sum_congr rfl fun j _ => he j

/-- One row's output for one column of the values: the weights divided, then the sum. -/
def soft (K : Fin 1024 → Prop) [DecidablePred K] : EReal :=
  ∑ j, v j * Ideal.div (Ideal.exp (msk t K j - Finset.univ.sup (msk t K))) (∑ j, Ideal.exp (msk t K j - Finset.univ.sup (msk t K)))

include h in
/-- The two computations of a row agree. -/
theorem soft_eq (ht : ∀ j, ∃ r : ℝ, t j = r) (hk : ∃ j, K j) (m : EReal)
    (hm : m = max (Finset.univ.sup fun a : Fin 512 => msk t W ⟨o + a.val, by have := h.le; omega⟩)
      (Finset.univ.sup fun b : Fin 128 => msk t G ⟨b.val, by omega⟩)) :
    Ideal.div
      ((∑ a : Fin 512, Ideal.exp (msk t W ⟨o + a.val, by have := h.le; omega⟩ - m) * v ⟨o + a.val, by have := h.le; omega⟩)
        + (∑ b : Fin 128, Ideal.exp (msk t G ⟨b.val, by omega⟩ - m) * v ⟨b.val, by omega⟩))
      ((∑ a : Fin 512, Ideal.exp (msk t W ⟨o + a.val, by have := h.le; omega⟩ - m))
        + (∑ b : Fin 128, Ideal.exp (msk t G ⟨b.val, by omega⟩ - m)))
      = soft t v K := by
  rw [max_cov t h] at hm
  subst hm
  rw [sum_cov t h (fun s j => Ideal.exp (s - Finset.univ.sup (msk t K)) * v j) (fun j => by rw [EReal.bot_sub, Ideal.exp_bot, zero_mul]),
    sum_cov t h (fun s _ => Ideal.exp (s - Finset.univ.sup (msk t K))) (fun j => by rw [EReal.bot_sub, Ideal.exp_bot])]
  unfold soft
  obtain ⟨r, hr, he⟩ := den_real t K ht hk
  rw [he, Ideal.div_coe hr.ne', sum_mul_real _ _ _ (by positivity)]
  refine Finset.sum_congr rfl fun j _ => ?_
  rw [Ideal.div_coe hr.ne', mul_comm (Ideal.exp _) (v j), mul_assoc]

end Cert.Attn

end
-- ==== Proof.Words.lean ====
module

public import Idealize.ShloMosaic.Lib.Affine
public import Idealize.ShloMosaic.Lib.Tactic.WordOmega
public import Idealize.ShloMosaic.PureOps.Ideal
public import Idealize.ShloMosaic.PureOps.Ideal.Laws

@[expose] public section

/-! Comparisons of small words, and the constants of both programs. -/

noncomputable section

namespace Cert.Attn

open Idealize.ShloMosaic

/-- Two places at most 128 apart. -/
theorem near_iff {x y : BitVec 32} (hx : x.toNat < 2 ^ 20) (hy : y.toNat < 2 ^ 20) :
    IntOp.cmpi .sle (IntOp.absi (IntOp.subi x y)) 128#32 = 1#1 ↔ x.toNat ≤ y.toNat + 128 ∧ y.toNat ≤ x.toNat + 128 := by
  rw [IntOp.cmpi_sle]
  unfold IntOp.absi IntOp.subi
  rw [BitVec.msb_eq_decide]
  have h2 : (x - y).toNat = (2 ^ 32 - y.toNat + x.toNat) % 2 ^ 32 := BitVec.toNat_sub x y
  have h1 : (128#32 : BitVec 32).toInt = 128 := rfl
  rw [h1]
  by_cases h : 2 ^ (32 - 1) ≤ (x - y).toNat
  · rw [decide_eq_true h, if_pos rfl, BitVec.toInt_eq_toNat_cond, BitVec.toNat_neg, h2]
    rw [h2] at h
    split <;> omega
  · rw [decide_eq_false h, if_neg Bool.false_ne_true, BitVec.toInt_eq_toNat_cond, h2]
    rw [h2] at h
    split <;> omega

/-- A place before 32. -/
theorem slt_32 {x : BitVec 32} (hx : x.toNat < 2 ^ 20) : IntOp.cmpi .slt x 32#32 = 1#1 ↔ x.toNat < 32 := by
  rw [IntOp.cmpi_slt, BitVec.toInt_eq_toNat_cond, BitVec.toInt_eq_toNat_cond]
  have h1 : (32#32 : BitVec 32).toNat = 32 := rfl
  rw [h1]
  split <;> split <;> omega

/-- The word of the float -∞ is -∞. -/
theorem ofBits_bot : Ideal.ofBits .f32 0xFF800000#32 = ⊥ := by simp [Ideal.ofBits, Ideal.ieee]
/-- The word of the float 128 is 128. -/
theorem ofBits_128 : Ideal.ofBits .f32 0x43000000#32 = ((128 : ℝ) : EReal) := by
  simp [Ideal.ofBits, Ideal.ieee, -EReal.coe_mul]; norm_num

/-- A division by the root of 128. -/
theorem div_root (x : EReal) : Ideal.div x (Ideal.sqrt (Ideal.ofBits .f32 0x43000000#32)) = x * (((Real.sqrt 128)⁻¹ : ℝ) : EReal) := by
  rw [ofBits_128, Ideal.sqrt_coe, if_neg (by norm_num), Ideal.div_coe (by positivity), one_div]

end Cert.Attn

end
-- ==== Proof.HeadValue.lean ====
module

public import proofs.«01_k».proof.Proof.OffsForm
public import proofs.«01_k».proof.Proof.Softmax
public import proofs.«01_k».proof.Proof.Words
public import Idealize.ShloMosaic.Lib.Pointwise
public import Idealize.ShloMosaic.PureOps.IdealRules

@[expose] public section

/-! The kernel's arithmetic at a place. -/

set_option maxRecDepth 16384

noncomputable section

namespace Cert.KernelIdeal.Body

open Idealize.ShloMosaic Idealize.ShloMosaic.TcCoe
open Cert.KernelIdeal Cert.KernelIdeal.Gen

/-- The scale. -/
abbrev sc : EReal := (((Real.sqrt 128)⁻¹ : ℝ) : EReal)

/-- The named scale is the inverse root of 128. -/
theorem scale_named : Named.named (F := Ideal) κ "scale" (φ := .f32) 0x3DB504F3#32 = sc := IdealRules.named_const.ideal_named_scalar _ _ _ _ rfl
/-- The named mask is minus infinity. -/
theorem mask_named : Named.named (F := Ideal) κ "mask" (φ := .f32) 0xCE6E6B28#32 = (⊥ : EReal) := IdealRules.named_const.ideal_named_scalar _ _ _ _ rfl

/-- A chunk's queries, entry by entry. -/
theorem qOf_apply (x : FVec Ideal S1x256x1024 .f32) (wq : FVec Ideal S1024x1024 .f32) (r : Fin 256) (a : Fin 1024) :
    qOf x wq (ix2 r a) = ∑ b : Fin 1024, x (ix3 0 r b) * wq (ix2 b a) := by
  pointwise [qOf]

/-- The first 32 rows' queries, entry by entry. -/
theorem q32Of_apply (x : FVec Ideal S1x32x1024 .f32) (wq : FVec Ideal S1024x1024 .f32) (r : Fin 32) (a : Fin 1024) :
    q32Of x wq (ix2 r a) = ∑ b : Fin 1024, x (ix3 0 r b) * wq (ix2 b a) := by
  pointwise [q32Of]

/-- A chunk's product with the output matrix, entry by entry. -/
theorem partOf_apply (ctx : FVec Ideal S256x1024 .f32) (wo : FVec Ideal S1024x1024 .f32) (r : Fin 256) (n : Fin 1024) :
    partOf ctx wo (ix2 r n) = ∑ a : Fin 1024, ctx (ix2 r a) * wo (ix2 a n) := by
  pointwise [partOf]

/-- The window's masked scores, entry by entry. -/
theorem scoresW_apply (mw : IVec S256x512 1) (q : FVec Ideal S256x128 .f32) (kw : FVec Ideal S1x512x128 .f32) (r : Fin 256) (a : Fin 512) :
    scoresW mw q kw (ix2 r a) = if mw (ix2 r a) = 1#1 then (∑ d : Fin 128, q (ix2 r d) * kw (ix3 0 a d)) * sc else (⊥ : EReal) := by
  pointwise [scoresW]
  rw [scale_named, mask_named]
  rfl

/-- The leading keys' masked scores, entry by entry. -/
theorem scoresG_apply (mg : IVec S256x128 1) (q : FVec Ideal S256x128 .f32) (kg : FVec Ideal S1x128x128 .f32) (r : Fin 256) (b : Fin 128) :
    scoresG mg q kg (ix2 r b) = if mg (ix2 r b) = 1#1 then (∑ d : Fin 128, q (ix2 r d) * kg (ix3 0 b d)) * sc else (⊥ : EReal) := by
  pointwise [scoresG]
  rw [scale_named, mask_named]
  rfl

/-- A chunk's attention over the window and the leading keys, entry by entry, with `m` the largest score. -/
theorem attend_apply (sw : FVec Ideal S256x512 .f32) (sg : FVec Ideal S256x128 .f32) (vw : FVec Ideal S1x512x128 .f32) (vg : FVec Ideal S1x128x128 .f32) (r : Fin 256) (d : Fin 128) (m : EReal)
    (hm : m = max (Finset.univ.sup fun a : Fin 512 => sw (ix2 r a)) (Finset.univ.sup fun b : Fin 128 => sg (ix2 r b))) :
    attend sw sg vw vg (ix2 r d) = Ideal.div
      ((∑ a : Fin 512, Ideal.exp (sw (ix2 r a) - m) * vw (ix3 0 a d)) + ∑ b : Fin 128, Ideal.exp (sg (ix2 r b) - m) * vg (ix3 0 b d))
      ((∑ a : Fin 512, Ideal.exp (sw (ix2 r a) - m)) + ∑ b : Fin 128, Ideal.exp (sg (ix2 r b) - m)) := by
  subst hm
  pointwise [attend]
  simp only [Attn.ofBits_bot, Attn.fold_max]

/-- One head of a chunk, entry by entry. -/
theorem headOut_apply (cw : BitVec 32) (q : FVec Ideal S256x128 .f32) (kw : FVec Ideal S1x512x128 .f32) (kg : FVec Ideal S1x128x128 .f32)
    (vw : FVec Ideal S1x512x128 .f32) (vg : FVec Ideal S1x128x128 .f32) (r : Fin 256) (d : Fin 128) :
    headOut cw q kw kg vw vg (ix2 r d) = attend (F := Ideal) (scoresW (maskW cw) q kw) (scoresG (maskG cw) q kg) vw vg (ix2 r d) := by
  unfold headOut
  rw [shapeCast_self]

/-- The words of chunk `k`'s window and of its first row are the numbers `w0 k` and `256 k`. -/
theorem win_nat : ∀ k : Fin 4, (winWord (BitVec.ofNat 32 k.val)).toNat = w0 k ∧ (Scalar.muli (BitVec.ofNat 32 k.val) 256#32).toNat = 256 * k.val
    ∧ (Scalar.cmpi .sgt (winWord (BitVec.ofNat 32 k.val)) 0#32 = 1#1 ↔ 0 < w0 k) ∧ w0 k ≤ 512 := by decide +kernel

/-- Which keys of the window a row sees. -/
theorem maskW_apply (k : Fin 4) (r : Fin 256) (a : Fin 512) : maskW (BitVec.ofNat 32 k.val) (ix2 r a) = 1#1 ↔
    ((256 * k.val + r.val ≤ w0 k + a.val + 128 ∧ w0 k + a.val ≤ 256 * k.val + r.val + 128) ∨ w0 k + a.val < 32) := by
  obtain ⟨h1, h2, h3, h4⟩ := win_nat k
  have hr := r.isLt
  have ha := a.isLt
  have hk := k.isLt
  have eq : (IntOp.addi (BitVec.ofNat 32 r.val) (Scalar.muli (BitVec.ofNat 32 k.val) 256#32)).toNat = 256 * k.val + r.val := by
    refine (BitVec.toNat_add _ _).trans ?_
    rw [h2, BitVec.toNat_ofNat]; omega
  have ek : (IntOp.addi (BitVec.ofNat 32 a.val) (winWord (BitVec.ofNat 32 k.val))).toNat = w0 k + a.val := by
    refine (BitVec.toNat_add _ _).trans ?_
    rw [h1, BitVec.toNat_ofNat]; omega
  pointwise [maskW]
  rw [IntOp.ori_eq_one, Attn.near_iff (by omega) (by omega), Attn.slt_32 (by omega), eq, ek]

/-- Which of the leading keys a row sees beside its window. -/
theorem maskG_apply (k : Fin 4) (r : Fin 256) (b : Fin 128) : maskG (BitVec.ofNat 32 k.val) (ix2 r b) = 1#1 ↔ (b.val < 32 ∧ 0 < w0 k) := by
  obtain ⟨h1, h2, h3, h4⟩ := win_nat k
  have hb := b.isLt
  have eb : (BitVec.ofNat 32 b.val).toNat = b.val := by rw [BitVec.toNat_ofNat]; omega
  pointwise [maskG]
  rw [IntOp.andi_eq_one, Attn.slt_32 (by omega), eb, h3]

/-- One head of the first 32 rows is the softmax over all keys. -/
theorem head32_apply (q : FVec Ideal S32x128 .f32) (kf vf : FVec Ideal S1x1024x128 .f32) (r : Fin 32) (d : Fin 128) (t : Fin 1024 → EReal)
    (ht : ∀ j, t j = (∑ d : Fin 128, q (ix2 r d) * kf (ix3 0 j d)) * sc) :
    head32 q kf vf (ix2 r d) = ∑ j : Fin 1024, Ideal.div (Ideal.exp (t j - Finset.univ.sup t)) (∑ j : Fin 1024, Ideal.exp (t j - Finset.univ.sup t)) * vf (ix3 0 j d) := by
  obtain rfl : t = fun j => (∑ d : Fin 128, q (ix2 r d) * kf (ix3 0 j d)) * sc := funext ht
  pointwise [head32]
  simp only [Attn.ofBits_bot, Attn.fold_max, scale_named]

/-- Column `128 h + d` of the joined heads is entry `d` of head `h`. -/
theorem at_head (C : Fin 8 → Fin 128 → EReal) (x : Fin 1024) (h : Fin 8) (d : Fin 128) (e : x.val = 128 * h.val + d.val) :
    C h d = C ⟨x.val / 128, by omega⟩ ⟨x.val % 128, Nat.mod_lt _ (by decide)⟩ := by
  congr 1
  · exact Fin.ext (by show h.val = x.val / 128; omega)
  · exact Fin.ext (by show d.val = x.val % 128; omega)

/-- The first 32 rows' product with the output matrix, entry by entry. -/
theorem pfixOf_apply (q : FVec Ideal S32x1024 .f32) (k v : Fin 8 → FVec Ideal S1x1024x128 .f32) (wo : FVec Ideal S1024x1024 .f32) (r : Fin 32) (n : Fin 1024)
    (C : Fin 8 → Fin 128 → EReal)
    (hC : ∀ (h : Fin 8) (o : Fin 2 → Nat) (ho : S32x1024.Slices o S32x128), o = ![0, 128 * h.val] → ∀ d : Fin 128, head32 (F := Ideal) (extractStridedSlice S32x128 o q ho) (k h) (v h) (ix2 r d) = C h d) :
    pfixOf q k v wo (ix2 r n) = ∑ a : Fin 1024, C ⟨a.val / 128, by omega⟩ ⟨a.val % 128, Nat.mod_lt _ (by decide)⟩ * wo (ix2 a n) := by
  pointwise [pfixOf]
  refine Finset.sum_congr rfl fun x _ => ?_
  refine congrArg (fun z : EReal => z * wo (ix2 x n)) ?_
  have hx := x.isLt
  by_cases h0 : x.val < 128
  · rw [dif_pos h0]
    have e := hC 0 ![0, 0] slices_S32x1024_o0_0_S32x128 (by decide) ⟨x.val, by omega⟩
    refine e.trans (at_head C x 0 ⟨x.val, by omega⟩ ?_)
    have h : ((0 : Fin 8)).val = 0 := rfl
    rw [h]
    dsimp only
    omega
  rw [dif_neg h0]
  by_cases h1 : x.val - 128 < 128
  · rw [dif_pos h1]
    have e := hC 1 ![0, 128] slices_S32x1024_o0_128_S32x128 (by decide) ⟨x.val - 128, by omega⟩
    refine e.trans (at_head C x 1 ⟨x.val - 128, by omega⟩ ?_)
    have h : ((1 : Fin 8)).val = 1 := rfl
    rw [h]
    dsimp only
    omega
  rw [dif_neg h1]
  by_cases h2 : x.val - 128 - 128 < 128
  · rw [dif_pos h2]
    have e := hC 2 ![0, 256] slices_S32x1024_o0_256_S32x128 (by decide) ⟨x.val - 128 - 128, by omega⟩
    refine e.trans (at_head C x 2 ⟨x.val - 128 - 128, by omega⟩ ?_)
    have h : ((2 : Fin 8)).val = 2 := rfl
    rw [h]
    dsimp only
    omega
  rw [dif_neg h2]
  by_cases h3 : x.val - 128 - 128 - 128 < 128
  · rw [dif_pos h3]
    have e := hC 3 ![0, 384] slices_S32x1024_o0_384_S32x128 (by decide) ⟨x.val - 128 - 128 - 128, by omega⟩
    refine e.trans (at_head C x 3 ⟨x.val - 128 - 128 - 128, by omega⟩ ?_)
    have h : ((3 : Fin 8)).val = 3 := rfl
    rw [h]
    dsimp only
    omega
  rw [dif_neg h3]
  by_cases h4 : x.val - 128 - 128 - 128 - 128 < 128
  · rw [dif_pos h4]
    have e := hC 4 ![0, 512] slices_S32x1024_o0_512_S32x128 (by decide) ⟨x.val - 128 - 128 - 128 - 128, by omega⟩
    refine e.trans (at_head C x 4 ⟨x.val - 128 - 128 - 128 - 128, by omega⟩ ?_)
    have h : ((4 : Fin 8)).val = 4 := rfl
    rw [h]
    dsimp only
    omega
  rw [dif_neg h4]
  by_cases h5 : x.val - 128 - 128 - 128 - 128 - 128 < 128
  · rw [dif_pos h5]
    have e := hC 5 ![0, 640] slices_S32x1024_o0_640_S32x128 (by decide) ⟨x.val - 128 - 128 - 128 - 128 - 128, by omega⟩
    refine e.trans (at_head C x 5 ⟨x.val - 128 - 128 - 128 - 128 - 128, by omega⟩ ?_)
    have h : ((5 : Fin 8)).val = 5 := rfl
    rw [h]
    dsimp only
    omega
  rw [dif_neg h5]
  by_cases h6 : x.val - 128 - 128 - 128 - 128 - 128 - 128 < 128
  · rw [dif_pos h6]
    have e := hC 6 ![0, 768] slices_S32x1024_o0_768_S32x128 (by decide) ⟨x.val - 128 - 128 - 128 - 128 - 128 - 128, by omega⟩
    refine e.trans (at_head C x 6 ⟨x.val - 128 - 128 - 128 - 128 - 128 - 128, by omega⟩ ?_)
    have h : ((6 : Fin 8)).val = 6 := rfl
    rw [h]
    dsimp only
    omega
  rw [dif_neg h6]
  have e := hC 7 ![0, 896] slices_S32x1024_o0_896_S32x128 (by decide) ⟨x.val - 128 - 128 - 128 - 128 - 128 - 128 - 128, by omega⟩
  refine e.trans (at_head C x 7 ⟨x.val - 128 - 128 - 128 - 128 - 128 - 128 - 128, by omega⟩ ?_)
  have h : ((7 : Fin 8)).val = 7 := rfl
  rw [h]
  dsimp only
  omega

end Cert.KernelIdeal.Body

end
-- ==== Proof.RefValue.lean ====
module

public import proofs.«01_k».proof.Proof.Gen.ReferenceIdeal.Run
public import proofs.«01_k».proof.Proof.Softmax
public import proofs.«01_k».proof.Proof.Words
public import Idealize.ShloMosaic.Lib.Routing.OpsOrder
public import Idealize.ShloMosaic.Lib.Pointwise

@[expose] public section

/-! The reference's result at a place. -/

set_option maxRecDepth 16384

noncomputable section

namespace Cert.ReferenceIdeal.Ref

open Cert.ReferenceIdeal Cert.ReferenceIdeal.Gen Cert.ReferenceIdeal.Value Idealize.ShloMosaic Idealize.ShloMosaic.TcCoe Idealize.SL.Sem

/-- Which keys a query row attends to. -/
def maskR : IVec S1024x1024 1 :=
  ori (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 128#32))) (ori (broadcastInDim S1024x1024 ![0, 1] bcast_S1x1024_S1024x1024_0_1 (cmpi .slt (broadcastInDim S1x1024 ![1] bcast_S1024_S1x1024_1 (iotaInDim S1024 32 0)) (broadcastInDim S1x1024 ![] bcast_S_S1x1024 (constantI S_ 32 32#32)))) (broadcastInDim S1024x1024 ![0, 1] bcast_S1024x1_S1024x1024_0_1 (cmpi .slt (broadcastInDim S1024x1 ![0] bcast_S1024_S1024x1_0 (iotaInDim S1024 32 0)) (broadcastInDim S1024x1 ![] bcast_S_S1024x1 (constantI S_ 32 32#32)))))

/-- The scores before the mask. -/
def scoreR (x : FVec Ideal S1x1024x1024 .f32) (wq : FVec Ideal S1024x16384 .f32) (k : FVec Ideal S1x1024x128x128 .f32) : FVec Ideal S1x128x1024x1024 .f32 :=
  Host.divf (Host.dotGeneral dot_S1x1024x128x128_S1x1024x128x128_S1x128x1024x1024_3_3_1_1_02_02 none (shapeCast _ (Host.dotGeneral dot_S1x1024x1024_S1024x16384_S1x1024x16384_2_0_01_1_n_n none x wq) shapeCasts_S1x1024x16384_S1x1024x128x128) k) (broadcastInDim S1x128x1024x1024 ![] bcast_S_S1x128x1024x1024 (Host.sqrt (constant S_ .f32 0x43000000#32)))

/-- The masked scores. -/
def maskedR (M : IVec S1024x1024 1) (s : FVec Ideal S1x128x1024x1024 .f32) : FVec Ideal S1x128x1024x1024 .f32 :=
  select (broadcastInDim S1x128x1024x1024 ![0, 1, 2, 3] bcast_S1x1x1024x1024_S1x128x1024x1024_0_1_2_3 (broadcastInDim S1x1x1024x1024 ![2, 3] bcast_S1024x1024_S1x1x1024x1024_2_3 M)) s (broadcastInDim S1x128x1024x1024 ![] bcast_S_S1x128x1024x1024 (id (constant S_ .f32 0xFF800000#32)))

/-- The exponentials, less the greatest score of the row. -/
def expR (s : FVec Ideal S1x128x1024x1024 .f32) : FVec Ideal S1x128x1024x1024 .f32 :=
  Host.exp (subf s (broadcastInDim S1x128x1024x1024 ![0, 1, 2, 3] bcast_S1x128x1024x1_S1x128x1024x1024_0_1_2_3 (broadcastInDim S1x128x1024x1 ![0, 1, 2] bcast_S1x128x1024_S1x128x1024x1_0_1_2 (Host.reduce FloatOps.maximumf s (constant S_ .f32 0xFF800000#32) reducesTo_S1x128x1024x1024_S1x128x1024_d3 h_S_))))

/-- Which rows attend to any key. -/
def keepR (M : IVec S1024x1024 1) : IVec S1024 1 := Host.reduce IntOp.ori M (constantI S_ 1 0#1) reducesTo_S1024x1024_S1024_d1 h_S_

/-- The weights. -/
def weightR (K : IVec S1024 1) (e : FVec Ideal S1x128x1024x1024 .f32) : FVec Ideal S1x128x1024x1024 .f32 :=
  select (broadcastInDim S1x128x1024x1024 ![0, 1, 2, 3] bcast_S1x1x1024x1_S1x128x1024x1024_0_1_2_3 (broadcastInDim S1x1x1024x1 ![2] bcast_S1024_S1x1x1024x1_2 K))
    (Host.divf e (broadcastInDim S1x128x1024x1024 ![0, 1, 2, 3] bcast_S1x128x1024x1_S1x128x1024x1024_0_1_2_3 (select (broadcastInDim S1x128x1024x1 ![0, 1, 2, 3] bcast_S1x1x1024x1_S1x128x1024x1_0_1_2_3 (broadcastInDim S1x1x1024x1 ![2] bcast_S1024_S1x1x1024x1_2 K)) (broadcastInDim S1x128x1024x1 ![0, 1, 2] bcast_S1x128x1024_S1x128x1024x1_0_1_2 (Host.reduceAdd e (constant S_ .f32 0x00000000#32) reducesTo_S1x128x1024x1024_S1x128x1024_d3 h_S_)) (broadcastInDim S1x128x1024x1 ![] bcast_S_S1x128x1024x1 (id (constant S_ .f32 0x3F800000#32))))))
    (broadcastInDim S1x128x1024x1024 ![] bcast_S_S1x128x1024x1024 (id (constant S_ .f32 0x00000000#32)))

/-- The result from the weights. -/
def outR (w : FVec Ideal S1x128x1024x1024 .f32) (v : FVec Ideal S1x1024x128x128 .f32) (wo : FVec Ideal S16384x1024 .f32) : FVec Ideal S1x1024x1024 .f32 :=
  Host.dotGeneral dot_S1x1024x16384_S16384x1024_S1x1024x1024_2_0_01_1_n_n none (shapeCast _ (transpose S1x1024x128x128 [0, 3, 1, 2] (Host.dotGeneral dot_S1x1024x128x128_S1x128x1024x1024_S1x128x128x1024_1_3_3_2_02_01 none v w) transposes_S1x128x128x1024_S1x1024x128x128_0_3_1_2) shapeCasts_S1x1024x128x128_S1x1024x16384) wo

/-- The result in these pieces. -/
theorem res_eq (m : (ℓ : Loc nD τ sig) → Buf (Elt Ideal) ℓ) (c : Dev nD) :
    res_main_v43 m c = outR (weightR (keepR maskR) (expR (maskedR maskR (scoreR (m ((c.tc : Thread nD τ).loc main_arg0)) (m ((c.tc : Thread nD τ).loc main_arg1)) (m ((c.tc : Thread nD τ).loc main_arg2))))))
      (m ((c.tc : Thread nD τ).loc main_arg3)) (m ((c.tc : Thread nD τ).loc main_arg4)) := rfl

/-- Row `i` attends to key `j`. -/
def keep (i j : Fin 1024) : Prop := (i.val ≤ j.val + 128 ∧ j.val ≤ i.val + 128) ∨ j.val < 32 ∨ i.val < 32
instance (i : Fin 1024) : DecidablePred (keep i) := fun j => by unfold keep; infer_instance

/-- The reference's mask is `keep`. -/
theorem maskR_apply (i j : Fin 1024) : maskR (ix2 i j) = 1#1 ↔ keep i j := by
  have hi : (BitVec.ofNat 32 i.val).toNat = i.val := by rw [BitVec.toNat_ofNat]; omega
  have hj : (BitVec.ofNat 32 j.val).toNat = j.val := by rw [BitVec.toNat_ofNat]; omega
  pointwise [maskR]
  rw [IntOp.ori_eq_one, IntOp.ori_eq_one, Attn.near_iff (by omega) (by omega), Attn.slt_32 (by omega), Attn.slt_32 (by omega), hi, hj]
  rfl

/-- The queries, -/
def qR (x : FVec Ideal S1x1024x1024 .f32) (wq : FVec Ideal S1024x16384 .f32) (g : Fin 128) (i : Fin 1024) (d : Fin 128) : EReal :=
  ∑ a : Fin 1024, x (ix3 0 i a) * wq (ix2 a ⟨g.val * 128 + d.val, by omega⟩)
/-- and the scores before the mask. -/
def tR (x : FVec Ideal S1x1024x1024 .f32) (wq : FVec Ideal S1024x16384 .f32) (k : FVec Ideal S1x1024x128x128 .f32) (g : Fin 128) (i j : Fin 1024) : EReal :=
  (∑ d : Fin 128, qR x wq g i d * k (ix4 0 j g d)) * (((Real.sqrt 128)⁻¹ : ℝ) : EReal)

/-- The reference's scaled scores, entry by entry. -/
theorem scoreR_apply (x : FVec Ideal S1x1024x1024 .f32) (wq : FVec Ideal S1024x16384 .f32) (k : FVec Ideal S1x1024x128x128 .f32) (g : Fin 128) (i j : Fin 1024) :
    scoreR x wq k (ix4 0 g i j) = tR x wq k g i j := by
  pointwise [scoreR]
  exact Attn.div_root _

/-- The reference's masked scores, entry by entry. -/
theorem maskedR_apply (s : FVec Ideal S1x128x1024x1024 .f32) (g : Fin 128) (i j : Fin 1024) :
    maskedR maskR s (ix4 0 g i j) = Attn.msk (fun j => s (ix4 0 g i j)) (keep i) j := by
  pointwise [maskedR]
  unfold Scalar.select
  unfold Attn.msk
  by_cases h : keep i j
  · rw [if_pos (show maskR (ix2 i j) = 1 from (maskR_apply i j).mpr h), if_pos h]
  · rw [if_neg (show ¬maskR (ix2 i j) = 1 from fun h' => h ((maskR_apply i j).mp h')), if_neg h]
    exact Attn.ofBits_bot

/-- The reference's exponentials, entry by entry. -/
theorem expR_apply (s : FVec Ideal S1x128x1024x1024 .f32) (g : Fin 128) (i j : Fin 1024) :
    expR s (ix4 0 g i j) = Ideal.exp (s (ix4 0 g i j) - Finset.univ.sup fun j : Fin 1024 => s (ix4 0 g i j)) := by
  pointwise [expR]
  rw [Attn.ofBits_bot, Attn.fold_max]

/-- Every row sees some key. -/
theorem keepR_apply (i : Fin 1024) : keepR maskR (ix1 i) = 1#1 := by
  pointwise [keepR]
  rw [Routing.fold_ori]
  exact ⟨i, Finset.mem_univ _, (maskR_apply i i).mpr (.inl ⟨by omega, by omega⟩)⟩

/-- The reference's weights, entry by entry. -/
theorem weightR_apply (e : FVec Ideal S1x128x1024x1024 .f32) (g : Fin 128) (i j : Fin 1024) :
    weightR (keepR maskR) e (ix4 0 g i j) = Ideal.div (e (ix4 0 g i j)) (∑ j : Fin 1024, e (ix4 0 g i j)) := by
  pointwise [weightR]
  rw [keepR_apply]
  rfl

/-- The reference's result from its weights, entry by entry. -/
theorem outR_apply (w : FVec Ideal S1x128x1024x1024 .f32) (v : FVec Ideal S1x1024x128x128 .f32) (wo : FVec Ideal S16384x1024 .f32) (i n : Fin 1024) :
    outR w v wo (ix3 0 i n) = ∑ a : Fin 16384, (∑ j : Fin 1024, v (ix4 0 j ⟨a.val / 128, by omega⟩ ⟨a.val % 128, Nat.mod_lt _ (by decide)⟩)
      * w (ix4 0 ⟨a.val / 128, by omega⟩ i j)) * wo (ix2 a n) := by
  pointwise [outR]

/-- The attention of head `g` at row `i` and column `d`. -/
def ctxR (x : FVec Ideal S1x1024x1024 .f32) (wq : FVec Ideal S1024x16384 .f32) (k v : FVec Ideal S1x1024x128x128 .f32) (g : Fin 128) (i : Fin 1024) (d : Fin 128) : EReal :=
  Attn.soft (tR x wq k g i) (fun j => v (ix4 0 j g d)) (keep i)

/-- The attention's outputs against a column of the last matrix. -/
theorem out_apply (x : FVec Ideal S1x1024x1024 .f32) (wq : FVec Ideal S1024x16384 .f32) (k v : FVec Ideal S1x1024x128x128 .f32) (wo : FVec Ideal S16384x1024 .f32) (i n : Fin 1024) :
    outR (weightR (keepR maskR) (expR (maskedR maskR (scoreR x wq k)))) v wo (ix3 0 i n)
      = ∑ a : Fin 16384, ctxR x wq k v ⟨a.val / 128, by omega⟩ i ⟨a.val % 128, Nat.mod_lt _ (by decide)⟩ * wo (ix2 a n) := by
  rw [outR_apply]
  have e : ∀ (g : Fin 128) (d : Fin 128), (∑ j : Fin 1024, v (ix4 0 j g d) * weightR (keepR maskR) (expR (maskedR maskR (scoreR x wq k))) (ix4 0 g i j)) = ctxR x wq k v g i d := by
    intro g d
    unfold ctxR Attn.soft
    simp only [weightR_apply, expR_apply, maskedR_apply, scoreR_apply]
  simp only [e]

/-- The reference's result at a place. -/
theorem res_apply (m : (ℓ : Loc nD τ sig) → Buf (Elt Ideal) ℓ) (c : Dev nD) (i n : Fin 1024) :
    res_main_v43 m c (ix3 (n0 := 1) (n1 := 1024) (n2 := 1024) 0 i n) = ∑ a : Fin 16384, ctxR (m ((c.tc : Thread nD τ).loc main_arg0)) (m ((c.tc : Thread nD τ).loc main_arg1)) (m ((c.tc : Thread nD τ).loc main_arg2))
      (m ((c.tc : Thread nD τ).loc main_arg3)) ⟨a.val / 128, by omega⟩ i ⟨a.val % 128, Nat.mod_lt _ (by decide)⟩
        * (show FVec Ideal S16384x1024 .f32 from m ((c.tc : Thread nD τ).loc main_arg4)) (ix2 a n) := by
  rw [res_eq]
  exact out_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i n

end Cert.ReferenceIdeal.Ref

end
-- ==== Proof.RingSum.lean ====
module

public import proofs.«01_k».proof.Proof.Values
public import Idealize.ShloMosaic.PureOps.Ideal
public import Idealize.ShloMosaic.PureOps.Ideal.Laws

@[expose] public section

/-! The two rings add up, at every place of the result, what each of the sixteen devices computed there. -/

noncomputable section

namespace Cert.KernelIdeal.Body

open Idealize.ShloMosaic Idealize.ShloMosaic.TcCoe
open Idealize.SL Idealize.SL.Sem
open Cert.KernelIdeal Cert.KernelIdeal.Gen

variable (I : Inp Ideal)

/-- The device `u` steps back along a row, -/
def backA (w : Fin 2) : ℕ → Dev nD → Dev nD
  | 0, c => c
  | u + 1, c => backA w u (frm c (.a w 0))
/-- and along a column. -/
def backB (w : Fin 2) : ℕ → Dev nD → Dev nD
  | 0, c => c
  | u + 1, c => backB w u (frm c (.b w 0))

/-- Every device passes on the part of the same chunk, -/
theorem chunkA : ∀ (w : Fin 2) (c : Dev nD), qq (backA w 3 c) + 0 = qq c + fin1 w ∧ qq (backA w 2 c) + aiN w 0 = qq c + fin1 w
    ∧ qq (backA w 1 c) + aiN w 1 = qq c + fin1 w ∧ qq c + aiN w 2 = qq c + fin1 w := by
  decide +kernel
/-- and of the same strip. -/
theorem chunkB : ∀ (w : Fin 2) (c : Dev nD), rr (backB w 3 c) + 0 = rr c + fin1 w ∧ rr (backB w 2 c) + aiN w 0 = rr c + fin1 w
    ∧ rr (backB w 1 c) + aiN w 1 = rr c + fin1 w ∧ rr c + aiN w 2 = rr c + fin1 w := by
  decide +kernel

/-- The first ring's result: the sum over a row of devices. -/
theorem txA_sum (w : Fin 2) (c : Dev nD) (j : S256x512.Idx) :
    txA I w 3 c j = ∑ u : Fin 4, halfV I (backA w u.val c) w (qq c + fin1 w) j := by
  obtain ⟨h3, h2, h1, h0⟩ := chunkA w c
  have e : txA I w 3 c j = ((halfV I (backA w 3 c) w (qq (backA w 3 c) + 0) j + halfV I (backA w 2 c) w (qq (backA w 2 c) + aiN w 0) j)
      + halfV I (backA w 1 c) w (qq (backA w 1 c) + aiN w 1) j) + halfV I c w (qq c + aiN w 2) j := rfl
  rw [e, h3, h2, h1, h0, Fin.sum_univ_four]
  show _ = ((halfV I c w (qq c + fin1 w) j + halfV I (backA w 1 c) w (qq c + fin1 w) j) + halfV I (backA w 2 c) w (qq c + fin1 w) j)
    + halfV I (backA w 3 c) w (qq c + fin1 w) j
  generalize halfV I (backA w 3 c) w (qq c + fin1 w) j = x3
  generalize halfV I (backA w 2 c) w (qq c + fin1 w) j = x2
  generalize halfV I (backA w 1 c) w (qq c + fin1 w) j = x1
  generalize halfV I c w (qq c + fin1 w) j = x0
  show ((x3 + x2 : EReal) + x1) + x0 = ((x0 + x1) + x2) + x3
  ac_rfl

/-- The second ring's result: the sum over a column of devices. -/
theorem txB_sum (w : Fin 2) (c : Dev nD) (j : S64x512.Idx) :
    txB I w 3 c j = ∑ u : Fin 4, stripV I (backB w u.val c) w (rr c + fin1 w) j := by
  obtain ⟨h3, h2, h1, h0⟩ := chunkB w c
  have e : txB I w 3 c j = ((stripV I (backB w 3 c) w (rr (backB w 3 c) + 0) j + stripV I (backB w 2 c) w (rr (backB w 2 c) + aiN w 0) j)
      + stripV I (backB w 1 c) w (rr (backB w 1 c) + aiN w 1) j) + stripV I c w (rr c + aiN w 2) j := rfl
  rw [e, h3, h2, h1, h0, Fin.sum_univ_four]
  show _ = ((stripV I c w (rr c + fin1 w) j + stripV I (backB w 1 c) w (rr c + fin1 w) j) + stripV I (backB w 2 c) w (rr c + fin1 w) j)
    + stripV I (backB w 3 c) w (rr c + fin1 w) j
  generalize stripV I (backB w 3 c) w (rr c + fin1 w) j = x3
  generalize stripV I (backB w 2 c) w (rr c + fin1 w) j = x2
  generalize stripV I (backB w 1 c) w (rr c + fin1 w) j = x1
  generalize stripV I c w (rr c + fin1 w) j = x0
  show ((x3 + x2 : EReal) + x1) + x0 = ((x0 + x1) + x2) + x3
  ac_rfl

/-- The steps back reach every device once. -/
theorem back_bij : ∀ (w : Fin 2) (c : Dev nD), Function.Injective fun p : Fin 4 × Fin 4 => (backA w p.2.val (backB w p.1.val c) : Dev nD) := by
  have h : ∀ (w : Fin 2) (c : Dev nD) (p p' : Fin 4 × Fin 4), backA w p.2.val (backB w p.1.val c) = backA w p'.2.val (backB w p'.1.val c) → p = p' := by
    decide +kernel
  exact fun w c p p' => h w c p p'

/-- Where the chunks and strips of a piece are finished. -/
theorem ends : ∀ (w : Fin 2) (k s : Fin 4) (v : Fin 4), qq (backB w v.val (devAt (s - fin1 w) (k - fin1 w))) + fin1 w = k
    ∧ rr (devAt (s - fin1 w) (k - fin1 w)) + fin1 w = s := by
  decide +kernel

/-- The result at a place: the sum of the devices' partial results there. -/
theorem outV_sum (i1 i2 : Fin 1024) : outV I (ix3 (n0 := 1) (n1 := 1024) (n2 := 1024) 0 i1 i2)
    = ∑ c : Dev nD, fixV I c (ix2 (n0 := 1024) (n1 := 1024) i1 i2) := by
  let k : Fin 4 := ⟨i1.val / 256, by omega⟩
  let s : Fin 4 := ⟨i1.val / 64 % 4, by omega⟩
  let w : Fin 2 := ⟨i2.val / 512, by omega⟩
  have e : outV I (ix3 (n0 := 1) (n1 := 1024) (n2 := 1024) 0 i1 i2) = txB I w 3 (devAt (s - fin1 w) (k - fin1 w))
      (ix2 (n0 := 64) (n1 := 512) ⟨i1.val % 64, Nat.mod_lt _ (by decide)⟩ ⟨i2.val % 512, Nat.mod_lt _ (by decide)⟩) := rfl
  rw [e, txB_sum, (ends w k s 0).2]
  have e2 : ∀ d : Dev nD, ∀ v : Fin 4, d = backB w v.val (devAt (s - fin1 w) (k - fin1 w)) →
      stripV I d w s (ix2 (n0 := 64) (n1 := 512) ⟨i1.val % 64, Nat.mod_lt _ (by decide)⟩ ⟨i2.val % 512, Nat.mod_lt _ (by decide)⟩)
        = ∑ u : Fin 4, fixV I (backA w u.val d) (ix2 (n0 := 1024) (n1 := 1024) i1 i2) := by
    intro d v hd
    unfold stripV
    rw [txA_sum]
    refine Finset.sum_congr rfl fun u _ => ?_
    rw [hd, (ends w k s v).1]
    unfold halfV
    refine congrArg (fixV I _) ?_
    funext a
    apply Fin.ext
    match a with
    | 0 =>
      show 256 * (i1.val / 256) + 1 * (64 * (i1.val / 64 % 4) + 1 * (i1.val % 64)) = i1.val
      omega
    | 1 =>
      show 512 * (i2.val / 512) + 1 * (0 + 1 * (i2.val % 512)) = i2.val
      omega
  rw [Finset.sum_congr rfl fun v _ => e2 _ v rfl, ← Fintype.sum_prod_type' (fun (v u : Fin 4) => fixV I (backA w u.val (backB w v.val (devAt (s - fin1 w) (k - fin1 w)))) (ix2 (n0 := 1024) (n1 := 1024) i1 i2))]
  refine Fintype.sum_bijective (fun p : Fin 4 × Fin 4 => (backA w p.2.val (backB w p.1.val (devAt (s - fin1 w) (k - fin1 w))) : Dev nD)) ?_ _ _ fun p => rfl
  refine (Fintype.bijective_iff_injective_and_card _).mpr ⟨back_bij w _, rfl⟩

end Cert.KernelIdeal.Body

end
-- ==== Proof.KernelValue.lean ====
module

public import proofs.«01_k».proof.Proof.HeadValue
public import proofs.«01_k».proof.Proof.RefValue
public import proofs.«01_k».proof.Proof.RingSum

@[expose] public section

/-! A device's part of the result at a place: its eight heads' attention against its rows of the last matrix. -/

set_option maxRecDepth 16384

noncomputable section

namespace Cert.KernelIdeal.Body

open Idealize.ShloMosaic Idealize.ShloMosaic.TcCoe
open Cert.KernelIdeal Cert.KernelIdeal.Gen
open Cert.ReferenceIdeal.Ref (keep)

variable (I : Inp Ideal) (c : Dev nD)

/-- The device's queries, -/
def qK (h : Fin 8) (i : Fin 1024) (d : Fin 128) : EReal :=
  ∑ b : Fin 1024, (show FVec Ideal S1x1024x1024 .f32 from I.x c) (ix3 0 i b) * (show FVec Ideal S1024x1024 .f32 from I.wq c) (ix2 b ⟨128 * h.val + d.val, by omega⟩)
/-- the keys (`b = 0`) and values (`b = 1`) of one of its heads, -/
def kvK (b : Fin 2) (h : Fin 8) (j : Fin 1024) (d : Fin 128) : EReal :=
  (show FVec Ideal S1x1024x128x128 .f32 from I.kv c b) (ix4 0 j ⟨8 * c.val + h.val, by have : c.val < 16 := c.isLt; omega⟩ d)
/-- the scores before the mask, -/
def tK (h : Fin 8) (i j : Fin 1024) : EReal := (∑ d : Fin 128, qK I c h i d * kvK I c 0 h j d) * sc
/-- and the attention. -/
def ctxK (h : Fin 8) (i : Fin 1024) (d : Fin 128) : EReal := Attn.soft (tK I c h i) (fun j => kvK I c 1 h j d) (keep i)

/-- A head's whole buffer of keys or values, entry by entry. -/
theorem kHead_apply (b : Fin 2) (h : Fin 8) (j : Fin 1024) (d : Fin 128) : kHead I c b h (ix3 0 j d) = kvK I c b h j d := by
  unfold kHead kAll kvK
  refine congrArg (I.kv c b) ?_
  funext a
  apply Fin.ext
  match a with
  | 0 => rfl
  | 1 => show 0 + 1 * j.val = j.val; omega
  | 2 => show 8 * c.val + (h.val + 1 * 0) = 8 * c.val + h.val; omega
  | 3 => show 0 + 1 * d.val = d.val; omega

/-- A head's window of keys or values, entry by entry. -/
theorem kWin_apply (b : Fin 2) (k : Fin 4) (h : Fin 8) (a : Fin 512) (d : Fin 128) (hw : w0 k ≤ 512) :
    kWin I c b k h (ix3 0 a d) = kvK I c b h ⟨w0 k + a.val, by omega⟩ d := by
  unfold kWin kAll kvK
  refine congrArg (I.kv c b) ?_
  funext x
  apply Fin.ext
  match x with
  | 0 => rfl
  | 1 => show w0 k + 1 * a.val = w0 k + a.val; omega
  | 2 => show 8 * c.val + (h.val + 1 * 0) = 8 * c.val + h.val; omega
  | 3 => show 0 + 1 * d.val = d.val; omega

/-- A head's leading keys or values, entry by entry. -/
theorem kGlob_apply (b : Fin 2) (h : Fin 8) (a : Fin 128) (d : Fin 128) :
    kGlob I c b h (ix3 0 a d) = kvK I c b h ⟨a.val, by omega⟩ d := by
  unfold kGlob kAll kvK
  refine congrArg (I.kv c b) ?_
  funext x
  apply Fin.ext
  match x with
  | 0 => rfl
  | 1 => show 0 + 1 * a.val = a.val; omega
  | 2 => show 8 * c.val + (h.val + 1 * 0) = 8 * c.val + h.val; omega
  | 3 => show 0 + 1 * d.val = d.val; omega

/-- A head's columns of the first 32 rows' queries. -/
theorem slice32 (q : FVec Ideal S32x1024 .f32) (h : Fin 8) (ho : S32x1024.Slices ![0, 128 * h.val] S32x128) (r : Fin 32) (d : Fin 128) :
    extractStridedSlice S32x128 ![0, 128 * h.val] q ho (ix2 r d) = q (ix2 r ⟨128 * h.val + d.val, by omega⟩) := by
  refine congrArg q ?_
  funext x
  apply Fin.ext
  match x with
  | 0 => show 0 + r.val = r.val; omega
  | 1 => rfl

/-- A list of eight values, written out, is the function it lists. -/
theorem vec8 {α : Type} (f : Fin 8 → α) (h : Fin 8) : (![f 0, f 1, f 2, f 3, f 4, f 5, f 6, f 7] : Fin 8 → α) h = f h := by
  fin_cases h <;> rfl

/-- A row that attends to every key. -/
theorem soft_all (t v : Fin 1024 → EReal) (K : Fin 1024 → Prop) [DecidablePred K] (hK : ∀ j, K j) :
    Attn.soft t v K = ∑ j : Fin 1024, Ideal.div (Ideal.exp (t j - Finset.univ.sup t)) (∑ j : Fin 1024, Ideal.exp (t j - Finset.univ.sup t)) * v j := by
  have e : Attn.msk t K = t := funext fun j => if_pos (hK j)
  unfold Attn.soft
  rw [e]
  exact Finset.sum_congr rfl fun j _ => mul_comm _ _

/-- The first 32 rows. -/
theorem pfixV_apply (i : Fin 1024) (hi : i.val < 32) (n : Fin 1024) :
    pfixV I c (ix2 ⟨i.val, hi⟩ n) = ∑ a : Fin 1024, ctxK I c ⟨a.val / 128, by omega⟩ i ⟨a.val % 128, Nat.mod_lt _ (by decide)⟩ * (show FVec Ideal S1024x1024 .f32 from I.wo c) (ix2 a n) := by
  unfold pfixV
  refine pfixOf_apply _ _ _ _ ⟨i.val, hi⟩ n (fun h d => ctxK I c h i d) ?_
  rintro h o ho rfl d
  rw [vec8 (kHead I c 0) h, vec8 (kHead I c 1) h]
  rw [head32_apply _ _ _ _ _ (tK I c h i) ?_]
  · unfold ctxK
    rw [soft_all _ _ _ fun j => .inr (.inr hi)]
    refine Finset.sum_congr rfl fun j _ => ?_
    rw [kHead_apply]
  · intro j
    unfold tK
    refine congrArg (fun z : EReal => z * sc) ?_
    refine Finset.sum_congr rfl fun d' _ => ?_
    rw [kHead_apply, slice32, q32Of_apply]
    refine congrArg (fun z : EReal => z * _) ?_
    unfold qK
    refine Finset.sum_congr rfl fun b _ => ?_
    refine congrArg (fun z : EReal => z * _) ?_
    refine congrArg (I.x c) ?_
    funext x
    apply Fin.ext
    match x with
    | 0 => rfl
    | 1 => show i.val = 0 + 1 * i.val; omega
    | 2 => show b.val = 0 + 1 * b.val; omega

/-- Where each chunk's window begins. -/
theorem win_cases : ∀ k : Fin 4, (k = 0 ∧ w0 k = 0) ∨ (k = 1 ∧ w0 k = 128) ∨ (k = 2 ∧ w0 k = 384) ∨ (k = 3 ∧ w0 k = 512) := by decide

/-- Which of the window's keys, -/
abbrev keepW (i j : Fin 1024) : Prop := (i.val ≤ j.val + 128 ∧ j.val ≤ i.val + 128) ∨ j.val < 32
/-- and of the first keys. -/
abbrev keepG (k : Fin 4) (j : Fin 1024) : Prop := j.val < 32 ∧ 0 < w0 k

/-- Window and first keys are the keys that a row attends to, none of them twice. -/
theorem cover (k : Fin 4) (i : Fin 1024) (hk : i.val / 256 = k.val) (hi : ¬i.val < 32) : Attn.Cov (keep i) (keepW i) (keepG k) (w0 k) := by
  have hi2 := i.isLt
  refine ⟨?_, fun j => ?_, fun j => ?_⟩
  · rcases win_cases k with h | h | h | h <;> omega
  · unfold keep keepW keepG
    have hj := j.isLt
    rcases win_cases k with ⟨h, h'⟩ | ⟨h, h'⟩ | ⟨h, h'⟩ | ⟨h, h'⟩ <;> rw [h'] <;> rw [h] at hk <;> simp at hk <;> omega
  · unfold keepW keepG
    have hj := j.isLt
    rcases win_cases k with ⟨h, h'⟩ | ⟨h, h'⟩ | ⟨h, h'⟩ | ⟨h, h'⟩ <;> rw [h'] <;> omega

/-- A head of a chunk, at a row past the first 32. -/
theorem headV_apply (k : Fin 4) (h : Fin 8) (i : Fin 1024) (r : Fin 256) (hir : i.val = 256 * k.val + r.val) (hi : ¬i.val < 32) (d : Fin 128) (ht : ∀ j, ∃ x : ℝ, tK I c h i j = x) :
    headV I c k h (ix2 r d) = ctxK I c h i d := by
  have hw : w0 k ≤ 512 := (win_nat k).2.2.2
  have hr := r.isLt
  have hcov := cover k i (by omega) hi
  have eq : ∀ d' : Fin 128, (show FVec Ideal S256x128 .f32 from fun j => qV I c k ((famQ.r h).emb j)) (ix2 r d') = qK I c h i d' := by
    intro d'
    have e1 : (famQ.r h).emb (ix2 r d') = ix2 (n0 := 256) (n1 := 1024) r ⟨128 * h.val + d'.val, by omega⟩ := by
      funext x
      apply Fin.ext
      match x with
      | 0 => show 0 + 1 * r.val = r.val; omega
      | 1 => show 128 * h.val + 1 * d'.val = 128 * h.val + d'.val; omega
    show qV I c k ((famQ.r h).emb (ix2 r d')) = _
    rw [e1]
    unfold qV
    rw [qOf_apply]
    unfold qK
    refine Finset.sum_congr rfl fun b _ => ?_
    refine congrArg (fun z : EReal => z * _) ?_
    refine congrArg (I.x c) ?_
    funext x
    apply Fin.ext
    match x with
    | 0 => rfl
    | 1 => show 256 * k.val + 1 * r.val = i.val; omega
    | 2 => show 0 + 1 * b.val = b.val; omega
  have esw : ∀ a : Fin 512, scoresW (F := Ideal) (maskW (BitVec.ofNat 32 k.val)) (fun j => qV I c k ((famQ.r h).emb j)) (kWin I c 0 k h) (ix2 r a)
      = Attn.msk (tK I c h i) (keepW i) ⟨w0 k + a.val, by omega⟩ := by
    intro a
    refine (scoresW_apply _ _ _ r a).trans ?_
    unfold Attn.msk
    refine if_congr ((maskW_apply k r a).trans (by unfold keepW; rw [hir])) ?_ rfl
    unfold tK
    refine congrArg (fun z : EReal => z * sc) ?_
    refine Finset.sum_congr rfl fun d' _ => ?_
    rw [kWin_apply I c 0 k h a d' hw]
    exact congrArg (fun z : EReal => z * _) (eq d')
  have esg : ∀ b : Fin 128, scoresG (F := Ideal) (maskG (BitVec.ofNat 32 k.val)) (fun j => qV I c k ((famQ.r h).emb j)) (kGlob I c 0 h) (ix2 r b)
      = Attn.msk (tK I c h i) (keepG k) ⟨b.val, by omega⟩ := by
    intro b
    refine (scoresG_apply _ _ _ r b).trans ?_
    unfold Attn.msk
    refine if_congr (maskG_apply k r b) ?_ rfl
    unfold tK
    refine congrArg (fun z : EReal => z * sc) ?_
    refine Finset.sum_congr rfl fun d' _ => ?_
    rw [kGlob_apply I c 0 h b d']
    exact congrArg (fun z : EReal => z * _) (eq d')
  unfold headV
  refine (headOut_apply _ _ _ _ _ _ r d).trans ?_
  refine (attend_apply _ _ _ _ r d _ rfl).trans ?_
  have hm := Attn.soft_eq (tK I c h i) (fun j => kvK I c 1 h j d) hcov ht ⟨i, .inl ⟨by omega, by omega⟩⟩ _ rfl
  unfold ctxK
  refine Eq.trans ?_ hm
  simp only [esw, esg, kWin_apply I c 1 k h _ d hw, kGlob_apply I c 1 h _ d]

/-- A device's part of the result at a place. -/
theorem fixV_apply (i n : Fin 1024) (ht : ∀ h j, ∃ x : ℝ, tK I c h i j = x) :
    fixV I c (ix2 i n) = ∑ a : Fin 1024, ctxK I c ⟨a.val / 128, by omega⟩ i ⟨a.val % 128, Nat.mod_lt _ (by decide)⟩ * (show FVec Ideal S1024x1024 .f32 from I.wo c) (ix2 a n) := by
  unfold fixV
  by_cases hi : i.val < 32
  · rw [dif_pos (show ((ix2 i n : S1024x1024.Idx) 0).val < 32 from hi)]
    exact pfixV_apply I c i hi n
  · rw [dif_neg (show ¬((ix2 i n : S1024x1024.Idx) 0).val < 32 from hi)]
    have e1 : (ix2 i n : S1024x1024.Idx) = (famC.r ⟨i.val / 256, by omega⟩).emb (ix2 (n0 := 256) (n1 := 1024) ⟨i.val % 256, Nat.mod_lt _ (by decide)⟩ n) := by
      funext x
      apply Fin.ext
      match x with
      | 0 => show i.val = 256 * (i.val / 256) + 1 * (i.val % 256); omega
      | 1 => show n.val = 0 + 1 * n.val; omega
    rw [e1]
    refine (famC.glue_emb (partV I c) _ _).trans ?_
    unfold partV
    refine (partOf_apply _ _ _ _).trans ?_
    refine Finset.sum_congr rfl fun a _ => ?_
    refine congrArg (fun z : EReal => z * _) ?_
    have e2 : (ix2 (n0 := 256) (n1 := 1024) ⟨i.val % 256, Nat.mod_lt _ (by decide)⟩ a : S256x1024.Idx)
        = (famQ.r ⟨a.val / 128, by omega⟩).emb (ix2 (n0 := 256) (n1 := 128) ⟨i.val % 256, Nat.mod_lt _ (by decide)⟩ ⟨a.val % 128, Nat.mod_lt _ (by decide)⟩) := by
      funext x
      apply Fin.ext
      match x with
      | 0 => show i.val % 256 = 0 + 1 * (i.val % 256); omega
      | 1 => show a.val = 128 * (a.val / 128) + 1 * (a.val % 128); omega
    rw [e2]
    refine (famQ.glue_emb (headV I c _) _ _).trans ?_
    exact headV_apply I c _ _ i _ (by show i.val = 256 * (i.val / 256) + i.val % 256; omega) hi _ (ht _)

end Cert.KernelIdeal.Body

end
-- ==== Proof.Algebraic.lean ====
module

public import proofs.«01_k».proof.Defs
public import proofs.«01_k».proof.Proof.Frames
public import proofs.«01_k».proof.Proof.Claims
public import proofs.«01_k».proof.Proof.KernelValue
public import proofs.«01_k».proof.Proof.RefValue
public import proofs.«01_k».proof.Proof.RingSum
public import proofs.«01_k».proof.Proof.Gen.Pre_scores_finite_KernelIdeal
public import Idealize.ShloMosaic.Lib.ReduceAll
public import Idealize.ShloMosaic.Lib.Layout

@[expose] public section

/-! The two programs compute the same result. -/

set_option maxRecDepth 16384

noncomputable section

namespace Cert.Proof

open Idealize.ShloMosaic Idealize.ShloMosaic.TcCoe Idealize.SL.Sem
open Cert.KernelIdeal.Body (Inp inp qK kvK tK ctxK fixV outV)
open Cert.ReferenceIdeal.Ref (qR tR ctxR)

/-! ## Finite inputs -/

/-- An extended real whose absolute value is below ∞ is a real. -/
theorem real_of_abs_lt {x : EReal} (h : max x (-x) < ⊤) : ∃ r : ℝ, x = r := by
  induction x using EReal.rec with
  | bot => exact absurd h (by simp)
  | coe r => exact ⟨r, rfl⟩
  | top => exact absurd h (by simp)

/-- The word of the float +∞ is +∞. -/
theorem ofBits_top : Ideal.ofBits .f32 0x7F800000#32 = ⊤ := by simp [Ideal.ofBits, Ideal.ieee]

/-- The comparison that the precondition makes of an entry says that the entry is a real. -/
theorem real_of_cmp {x : EReal} (h : BitVec.ofBool (decide (max x (-x) < Ideal.ofBits .f32 0x7F800000#32)) = 1#1) : ∃ r : ℝ, x = r := by
  rw [ofBits_top] at h
  by_cases h' : max x (-x) < ⊤
  · exact real_of_abs_lt h'
  · rw [decide_eq_false h'] at h; exact absurd h (by decide)

instance idx_subsingleton : Subsingleton (Cert.Pre_scores_finite_KernelIdeal.S_).Idx := ⟨fun a b => funext fun x => x.elim0⟩

section
open Cert.Pre_scores_finite_KernelIdeal

/-- What the precondition says of a device's arrays. -/
theorem pre_real (x : FVec Ideal S1x1024x1024 .f32) (wq : FVec Ideal S1024x1024 .f32) (k v : FVec Ideal S1x1024x128x128 .f32) (wo : FVec Ideal S1024x1024 .f32)
    (h : fn (F := Ideal) x wq k v wo = fun _ => 1#1) : (∀ i, ∃ r : ℝ, x i = (r : EReal)) ∧ (∀ i, ∃ r : ℝ, wq i = (r : EReal)) ∧ (∀ i, ∃ r : ℝ, k i = (r : EReal)) := by
  have h0 := congrFun h ix0
  obtain ⟨h12, h3⟩ := IntOp.andi_eq_one.mp (show IntOp.andi _ _ = 1#1 from h0)
  obtain ⟨h1, h2⟩ := IntOp.andi_eq_one.mp (show IntOp.andi _ _ = 1#1 from h12)
  refine ⟨fun i => ?_, fun i => ?_, fun i => ?_⟩
  · have e := Host.reduce_andi_all _ _ _ _ _ h1 i
    pointwise at e
    exact real_of_cmp e
  · have e := Host.reduce_andi_all _ _ _ _ _ h2 i
    pointwise at e
    exact real_of_cmp e
  · have e := Host.reduce_andi_all _ _ _ _ _ h3 i
    pointwise at e
    exact real_of_cmp e

end

/-- A product of two reals is a real. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of reals is a real. -/
theorem real_sum {n : ℕ} {f : Fin n → EReal} (hf : ∀ a, ∃ r : ℝ, f a = r) : ∃ r : ℝ, ∑ a, f a = r := by
  choose u hu using hf
  exact ⟨∑ a, u a, by rw [Attn.coe_sum]; exact Finset.sum_congr rfl fun a _ => hu a⟩

/-- From finite `x`, `Wq` and keys, every scaled score is a real. -/
theorem tK_real (I : Inp Ideal) (c : Dev Cert.KernelIdeal.nD) (hx : ∀ i, ∃ r : ℝ, I.x c i = (r : EReal)) (hw : ∀ i, ∃ r : ℝ, I.wq c i = (r : EReal))
    (hk : ∀ i, ∃ r : ℝ, I.kv c 0 i = (r : EReal)) (h : Fin 8) (i j : Fin 1024) : ∃ r : ℝ, tK I c h i j = r :=
  real_mul (real_sum fun d => real_mul (real_sum fun b => real_mul (hx _) (hw _)) (hk _)) ⟨_, rfl⟩

/-! ## A device's heads are the reference's -/

/-- Head `h` of device `c` is head `8c + h` of the reference. -/
theorem ctx_eq (I : Inp Ideal) (c : Dev Cert.KernelIdeal.nD) (x : FVec Ideal Cert.ReferenceIdeal.S1x1024x1024 .f32) (wq : FVec Ideal Cert.ReferenceIdeal.S1024x16384 .f32)
    (k v : FVec Ideal Cert.ReferenceIdeal.S1x1024x128x128 .f32)
    (hx : I.x c = x) (hw : I.wq c = Layout.block ⟨2, ![1024, 1024]⟩ ⟨2, ![1024, 16384]⟩ 1 16 c wq) (hk : I.kv c 0 = k) (hv : I.kv c 1 = v)
    (h : Fin 8) (g : Fin 128) (hg : g.val = 8 * c.val + h.val) (i : Fin 1024) (d : Fin 128) :
    ctxK I c h i d = ctxR x wq k v g i d := by
  subst hx hk hv
  have hgi : (⟨8 * c.val + h.val, by have : c.val < 16 := c.isLt; omega⟩ : Fin 128) = g := Fin.ext hg.symm
  have ekv : ∀ b j d', kvK I c b h j d' = (show FVec Ideal Cert.ReferenceIdeal.S1x1024x128x128 .f32 from I.kv c b) (ix4 0 j g d') := by
    intro b j d'
    unfold kvK
    rw [hgi]
  have eq : ∀ i d', qK I c h i d' = qR (I.x c) wq g i d' := by
    intro i d'
    unfold qK qR
    refine Finset.sum_congr rfl fun b _ => ?_
    refine congrArg (fun z : EReal => _ * z) ?_
    show I.wq c _ = _
    rw [hw, Layout.block_apply]
    refine congrArg wq ?_
    funext a
    apply Fin.ext
    rw [Layout.Tiles.idx_val]
    match a with
    | 0 => rfl
    | 1 => show c.val * 1024 + (128 * h.val + d'.val) = g.val * 128 + d'.val; omega
  have et : tK I c h i = tR (I.x c) wq (I.kv c 0) g i := by
    funext j
    unfold tK tR
    refine congrArg (fun z : EReal => z * _) ?_
    refine Finset.sum_congr rfl fun d' _ => ?_
    rw [eq, ekv]
  unfold ctxK ctxR
  rw [et]
  congr 1
  funext j
  exact ekv 1 j d

/-- The devices' rows of the last matrix, one after the other. -/
theorem sum_rows (f : Fin 16384 → EReal) : ∑ c : Fin 16, ∑ a : Fin 1024, f ⟨1024 * c.val + a.val, by omega⟩ = ∑ a : Fin 16384, f a := by
  rw [← Fintype.sum_prod_type' (fun (c : Fin 16) (a : Fin 1024) => f ⟨1024 * c.val + a.val, by omega⟩)]
  refine Fintype.sum_bijective (fun p : Fin 16 × Fin 1024 => (⟨1024 * p.1.val + p.2.val, by omega⟩ : Fin 16384)) ?_ _ _ fun p => rfl
  refine (Fintype.bijective_iff_injective_and_card _).mpr ⟨fun p q hpq => ?_, by simp⟩
  have e := congrArg Fin.val hpq
  dsimp only at e
  have h1 := p.2.isLt
  have h2 := q.2.isLt
  exact Prod.ext (Fin.ext (by omega)) (Fin.ext (by omega))

/-- The kernel's result is the reference's. -/
theorem out_eq (I : Inp Ideal) (x : FVec Ideal Cert.ReferenceIdeal.S1x1024x1024 .f32) (wq : FVec Ideal Cert.ReferenceIdeal.S1024x16384 .f32)
    (k v : FVec Ideal Cert.ReferenceIdeal.S1x1024x128x128 .f32) (wo : FVec Ideal Cert.ReferenceIdeal.S16384x1024 .f32)
    (hx : ∀ c, I.x c = x) (hw : ∀ c, I.wq c = Layout.block ⟨2, ![1024, 1024]⟩ ⟨2, ![1024, 16384]⟩ 1 16 c wq) (hk : ∀ c, I.kv c 0 = k) (hv : ∀ c, I.kv c 1 = v)
    (hwo : ∀ c, I.wo c = Layout.block ⟨2, ![1024, 1024]⟩ ⟨2, ![16384, 1024]⟩ 0 16 c wo)
    (ht : ∀ c h i j, ∃ r : ℝ, tK I c h i j = r) (i n : Fin 1024) :
    outV I (ix3 (n0 := 1) (n1 := 1024) (n2 := 1024) 0 i n)
      = ∑ a : Fin 16384, ctxR x wq k v ⟨a.val / 128, by omega⟩ i ⟨a.val % 128, Nat.mod_lt _ (by decide)⟩ * wo (ix2 a n) := by
  rw [Cert.KernelIdeal.Body.outV_sum]
  refine Eq.trans ?_ (sum_rows fun a => ctxR x wq k v ⟨a.val / 128, by omega⟩ i ⟨a.val % 128, Nat.mod_lt _ (by decide)⟩ * wo (ix2 a n))
  refine Finset.sum_congr rfl fun c _ => ?_
  rw [Cert.KernelIdeal.Body.fixV_apply I c i n fun h j => ht c h i j]
  refine Finset.sum_congr rfl fun a _ => ?_
  have hc : c.val < 16 := c.isLt
  have ed : (⟨(1024 * c.val + a.val) % 128, Nat.mod_lt _ (by decide)⟩ : Fin 128) = ⟨a.val % 128, Nat.mod_lt _ (by decide)⟩ :=
    Fin.ext (by show (1024 * c.val + a.val) % 128 = a.val % 128; omega)
  have e1 := ctx_eq I c x wq k v (hx c) (hw c) (hk c) (hv c) ⟨a.val / 128, by omega⟩ ⟨(1024 * c.val + a.val) / 128, by omega⟩
    (by show (1024 * c.val + a.val) / 128 = 8 * c.val + a.val / 128; omega) i ⟨a.val % 128, Nat.mod_lt _ (by decide)⟩
  have e2 : (show FVec Ideal Cert.KernelIdeal.S1024x1024 .f32 from I.wo c) (ix2 a n) = wo (ix2 (n0 := 16384) (n1 := 1024) ⟨1024 * c.val + a.val, by omega⟩ n) := by
    show I.wo c _ = _
    rw [hwo, Layout.block_apply]
    refine congrArg wo ?_
    funext b
    apply Fin.ext
    rw [Layout.Tiles.idx_val]
    match b with
    | 0 => show c.val * 1024 + a.val = 1024 * c.val + a.val; omega
    | 1 => rfl
  dsimp only
  rw [e1, ed]
  exact congrArg (fun z : EReal => _ * z) e2

/-! ## The claims -/

/-- The ideal kernel's frame, under the precondition. -/
theorem frame_ideal_pre : Cert.quiescent_KernelIdeal_pre_scores_finite_KernelIdeal := fun m ρ _ => frame_ideal m ρ trivial

/-- The reference's frame, under the precondition. -/
theorem frame_reference_pre [Cert.Pre_scores_finite_ReferenceIdeal.Facts] : Cert.quiescent_ReferenceIdeal_pre_scores_finite_ReferenceIdeal :=
  fun m ρ _ => frame_reference m ρ trivial

/-- From finite `x`, `Wq` and keys, every device ends holding the reference's result, whatever the values and `Wo` hold. -/
theorem algebraic : Cert.algebraic_KernelIdeal_ReferenceIdeal_pre_scores_finite_KernelIdeal := by
  intro m g m' g' hpre hargs
  have ht : ∀ c h i j, ∃ r : ℝ, tK (inp m) c h i j = r := fun c =>
    have hp := pre_real _ _ _ _ _ (hpre c)
    tK_real (inp m) c hp.1 hp.2.1 hp.2.2
  have hout : outV (inp m) = Cert.ReferenceIdeal.Value.res_main_v43 (F := Ideal) m' 0 := by
    funext i
    have hi : i = ix3 (n0 := 1) (n1 := 1024) (n2 := 1024) 0 (i 1) (i 2) := by
      funext a
      match a with
      | 0 => exact Subsingleton.elim (α := Fin 1) _ _
      | 1 => rfl
      | 2 => rfl
    rw [hi]
    refine (out_eq (inp m) _ _ _ _ _ (fun c => (hargs c).1) (fun c => (hargs c).2.1) (fun c => (hargs c).2.2.1) (fun c => (hargs c).2.2.2.1)
      (fun c => (hargs c).2.2.2.2) ht (i 1) (i 2)).trans ?_
    exact (Cert.ReferenceIdeal.Ref.res_apply m' 0 (i 1) (i 2)).symm
  refine ⟨Cert.ReferenceIdeal.Value.res_main_v43 (F := Ideal) m' 0, ?_, ?_⟩
  · exact (θ_run Cert.KernelIdeal.defs _ _).mono (fun r h c => ⟨(h.1 c).1.trans hout, (h.1 c).2⟩) (Cert.KernelIdeal.Body.run_main (F := Ideal) m g)
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.KernelFrame
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  frame_kernel, frame_ideal, frame_ideal_pre, frame_reference, frame_reference_pre, named_constants, algebraic⟩

end Cert.Proof

end
